-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_winner [hPre_one_winner : Cert.Pre_one_winner.Facts] (m : (ℓ : Loc Cert.KernelIdeal.nD Cert.KernelIdeal.τ Cert.KernelIdeal.sig) → Buf (Elt Ideal) ℓ) : Prop :=
  ∀ c : Dev Cert.KernelIdeal.nD,
    (Cert.Pre_one_winner.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_winner [hPre_one_winner : Cert.Pre_one_winner.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_winner.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_one_winner [hKernelIdeal : Cert.KernelIdeal.Facts] [hPre_one_winner : Cert.Pre_one_winner.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_winner m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_one_winner [hReferenceIdeal : Cert.ReferenceIdeal.Facts] [hPre_one_winner : Cert.Pre_one_winner.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_winner m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_one_winner [hKernelIdeal : Cert.KernelIdeal.Facts] [hReferenceIdeal : Cert.ReferenceIdeal.Facts] [hPre_one_winner : Cert.Pre_one_winner.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_winner m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_one_winner : Cert.Pre_one_winner.Facts),
    quiescent_Kernel (hKernel := hKernel)
    ∧ quiescent_KernelIdeal (hKernelIdeal := hKernelIdeal)
    ∧ quiescent_KernelIdeal_pre_one_winner (hKernelIdeal := hKernelIdeal) (hPre_one_winner := hPre_one_winner)
    ∧ quiescent_ReferenceIdeal (hReferenceIdeal := hReferenceIdeal)
    ∧ quiescent_ReferenceIdeal_pre_one_winner (hReferenceIdeal := hReferenceIdeal) (hPre_one_winner := hPre_one_winner)
    ∧ preserves_Kernel_KernelIdeal
    ∧ algebraic_KernelIdeal_ReferenceIdeal_pre_one_winner (hKernelIdeal := hKernelIdeal) (hReferenceIdeal := hReferenceIdeal) (hPre_one_winner := hPre_one_winner)
-- ==== Pre_one_winner.lean ====
abbrev S4096x1024 : Shape := ⟨2, ![4096, 1024]⟩
abbrev S4096x32x32 : Shape := ⟨3, ![4096, 32, 32]⟩
abbrev S_ : Shape := ⟨0, ![]⟩
abbrev S4096x32 : Shape := ⟨2, ![4096, 32]⟩
abbrev S4096x32x1 : Shape := ⟨3, ![4096, 32, 1]⟩
abbrev S1 : Shape := ⟨1, ![1]⟩
abbrev S2 : Shape := ⟨1, ![2]⟩
abbrev S1x1x1 : Shape := ⟨3, ![1, 1, 1]⟩
abbrev S1x1x32 : Shape := ⟨3, ![1, 1, 32]⟩

class Facts : Prop where
  shapeCasts_S4096x1024_S4096x32x32 : S4096x1024.ShapeCasts S4096x32x32
  bcast_S_S4096x32x32 : S_.BroadcastsInDim S4096x32x32 (![] : Fin 0 → Fin S4096x32x32.rank)
  reducesTo_S4096x32x32_S4096x32_d2 : S4096x32x32.ReducesTo [2] S4096x32
  h_S_ : 0 < S_.numel
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4096x32x1_S4096x32x32_0_1_2 : S4096x32x1.BroadcastsInDim S4096x32x32 (![0, 1, 2] : Fin 3 → Fin S4096x32x32.rank)
  bcast_S_S1 : S_.BroadcastsInDim S1 (![] : Fin 0 → Fin S1.rank)
  concatenates_S1_S1_S2_d0 : Shape.Concatenates [S1, S1] S2 0
  bcast_S_S1x1x1 : S_.BroadcastsInDim S1x1x1 (![] : Fin 0 → Fin S1x1x1.rank)
  slices_S2_S1_0 : S2.Slices ![0] S1
  shapeCasts_S1_S_ : S1.ShapeCasts S_
  slices_S2_S1_1 : S2.Slices ![1] S1
  natLt_32_64 : 32 < 64
  bcast_S1x1x1_S4096x32x32_0_1_2 : S1x1x1.BroadcastsInDim S4096x32x32 (![0, 1, 2] : Fin 3 → Fin S4096x32x32.rank)
  bcast_S1x1x32_S4096x32x32_0_1_2 : S1x1x32.BroadcastsInDim S4096x32x32 (![0, 1, 2] : Fin 3 → Fin S4096x32x32.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_threefry2x32_part9 {F : FTy → Type} [FloatOps F] (arg0 : IVec S_ 32) (v163 : IVec S4096x32x32 32) (v169 : IVec S4096x32x32 32) (v170 : IVec S4096x32x32 32) : IVec S4096x32x32 32 × IVec S4096x32x32 32 :=
  let v171 : IVec S4096x32x32 32 := addi v163 v170
  let v172 : IVec S4096x32x32 32 := broadcastInDim S4096x32x32 ![] bcast_S_S4096x32x32 arg0
  let v173 : IVec S4096x32x32 32 := addi v169 v172
  let c_44 : IVec S_ 32 := constantI S_ 32 5#32
  let v174 : IVec S4096x32x32 32 := broadcastInDim S4096x32x32 ![] bcast_S_S4096x32x32 c_44
  let v175 : IVec S4096x32x32 32 := addi v173 v174
  (v171, v175)

def fn_threefry2x32_part8 {F : FTy → Type} [FloatOps F] (arg0 : IVec S_ 32) (v1 : IVec S_ 32) (v148 : IVec S4096x32x32 32) (v149 : IVec S4096x32x32 32) (v151 : IVec S4096x32x32 32) : IVec S4096x32x32 32 × IVec S4096x32x32 32 :=
  let c_39 : IVec S_ 32 := constantI S_ 32 17#32
  let v152 : IVec S4096x32x32 32 := broadcastInDim S4096x32x32 ![] bcast_S_S4096x32x32 c_39
  let v153 : IVec S4096x32x32 32 := Host.shrui v148 v152
  let v154 : IVec S4096x32x32 32 := ori v151 v153
  let v155 : IVec S4096x32x32 32 := xori v149 v154
  let v156 : IVec S4096x32x32 32 := addi v149 v155
  let c_40 : IVec S_ 32 := constantI S_ 32 26#32
  let v157 : IVec S4096x32x32 32 := broadcastInDim S4096x32x32 ![] bcast_S_S4096x32x32 c_40
  let v158 : IVec S4096x32x32 32 := Host.shli v155 v157
  let c_41 : IVec S_ 32 := constantI S_ 32 6#32
  let v159 : IVec S4096x32x32 32 := broadcastInDim S4096x32x32 ![] bcast_S_S4096x32x32 c_41
  let v160 : IVec S4096x32x32 32 := Host.shrui v155 v159
  let v161 : IVec S4096x32x32 32 := ori v158 v160
  let v162 : IVec S4096x32x32 32 := xori v156 v161
  let v163 : IVec S4096x32x32 32 := addi v156 v162
  let c_42 : IVec S_ 32 := constantI S_ 32 6#32
  let v164 : IVec S4096x32x32 32 := broadcastInDim S4096x32x32 ![] bcast_S_S4096x32x32 c_42
  let v165 : IVec S4096x32x32 32 := Host.shli v162 v164
  let c_43 : IVec S_ 32 := constantI S_ 32 26#32
  let v166 : IVec S4096x32x32 32 := broadcastInDim S4096x32x32 ![] bcast_S_S4096x32x32 c_43
  let v167 : IVec S4096x32x32 32 := Host.shrui v162 v166
  let v168 : IVec S4096x32x32 32 := ori v165 v167
  let v169 : IVec S4096x32x32 32 := xori v163 v168
  let v170 : IVec S4096x32x32 32 := broadcastInDim S4096x32x32 ![] bcast_S_S4096x32x32 v1
  fn_threefry2x32_part9 (F := F) arg0 v163 v169 v170

def fn_threefry2x32_part7 {F : FTy → Type} [FloatOps F] (arg0 : IVec S_ 32) (arg1 : IVec S_ 32) (v1 : IVec S_ 32) (v128 : IVec S4096x32x32 32) (v129 : IVec S4096x32x32 32) (v131 : IVec S4096x32x32 32) (c_34 : IVec S_ 32) : IVec S4096x32x32 32 × IVec S4096x32x32 32 :=
  let v132 : IVec S4096x32x32 32 := broadcastInDim S4096x32x32 ![] bcast_S_S4096x32x32 c_34
  let v133 : IVec S4096x32x32 32 := Host.shrui v128 v132
  let v134 : IVec S4096x32x32 32 := ori v131 v133
  let v135 : IVec S4096x32x32 32 := xori v129 v134
  let v136 : IVec S4096x32x32 32 := broadcastInDim S4096x32x32 ![] bcast_S_S4096x32x32 arg1
  let v137 : IVec S4096x32x32 32 := addi v129 v136
  let v138 : IVec S4096x32x32 32 := broadcastInDim S4096x32x32 ![] bcast_S_S4096x32x32 v1
  let v139 : IVec S4096x32x32 32 := addi v135 v138
  let c_35 : IVec S_ 32 := constantI S_ 32 4#32
  let v140 : IVec S4096x32x32 32 := broadcastInDim S4096x32x32 ![] bcast_S_S4096x32x32 c_35
  let v141 : IVec S4096x32x32 32 := addi v139 v140
  let v142 : IVec S4096x32x32 32 := addi v137 v141
  let c_36 : IVec S_ 32 := constantI S_ 32 13#32
  let v143 : IVec S4096x32x32 32 := broadcastInDim S4096x32x32 ![] bcast_S_S4096x32x32 c_36
  let v144 : IVec S4096x32x32 32 := Host.shli v141 v143
  let c_37 : IVec S_ 32 := constantI S_ 32 19#32
  let v145 : IVec S4096x32x32 32 := broadcastInDim S4096x32x32 ![] bcast_S_S4096x32x32 c_37
  let v146 : IVec S4096x32x32 32 := Host.shrui v141 v145
  let v147 : IVec S4096x32x32 32 := ori v144 v146
  let v148 : IVec S4096x32x32 32 := xori v142 v147
  let v149 : IVec S4096x32x32 32 := addi v142 v148
  let c_38 : IVec S_ 32 := constantI S_ 32 15#32
  let v150 : IVec S4096x32x32 32 := broadcastInDim S4096x32x32 ![] bcast_S_S4096x32x32 c_38
  let v151 : IVec S4096x32x32 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S4096x32x32 32) (v113 : IVec S4096x32x32 32) : IVec S4096x32x32 32 × IVec S4096x32x32 32 :=
  let v114 : IVec S4096x32x32 32 := xori v108 v113
  let v115 : IVec S4096x32x32 32 := addi v108 v114
  let c_29 : IVec S_ 32 := constantI S_ 32 29#32
  let v116 : IVec S4096x32x32 32 := broadcastInDim S4096x32x32 ![] bcast_S_S4096x32x32 c_29
  let v117 : IVec S4096x32x32 32 := Host.shli v114 v116
  let c_30 : IVec S_ 32 := constantI S_ 32 3#32
  let v118 : IVec S4096x32x32 32 := broadcastInDim S4096x32x32 ![] bcast_S_S4096x32x32 c_30
  let v119 : IVec S4096x32x32 32 := Host.shrui v114 v118
  let v120 : IVec S4096x32x32 32 := ori v117 v119
  let v121 : IVec S4096x32x32 32 := xori v115 v120
  let v122 : IVec S4096x32x32 32 := addi v115 v121
  let c_31 : IVec S_ 32 := constantI S_ 32 16#32
  let v123 : IVec S4096x32x32 32 := broadcastInDim S4096x32x32 ![] bcast_S_S4096x32x32 c_31
  let v124 : IVec S4096x32x32 32 := Host.shli v121 v123
  let c_32 : IVec S_ 32 := constantI S_ 32 16#32
  let v125 : IVec S4096x32x32 32 := broadcastInDim S4096x32x32 ![] bcast_S_S4096x32x32 c_32
  let v126 : IVec S4096x32x32 32 := Host.shrui v121 v125
  let v127 : IVec S4096x32x32 32 := ori v124 v126
  let v128 : IVec S4096x32x32 32 := xori v122 v127
  let v129 : IVec S4096x32x32 32 := addi v122 v128
  let c_33 : IVec S_ 32 := constantI S_ 32 24#32
  let v130 : IVec S4096x32x32 32 := broadcastInDim S4096x32x32 ![] bcast_S_S4096x32x32 c_33
  let v131 : IVec S4096x32x32 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S4096x32x32 32) (v94 : IVec S4096x32x32 32) : IVec S4096x32x32 32 × IVec S4096x32x32 32 :=
  let v95 : IVec S4096x32x32 32 := addi v88 v94
  let c_24 : IVec S_ 32 := constantI S_ 32 6#32
  let v96 : IVec S4096x32x32 32 := broadcastInDim S4096x32x32 ![] bcast_S_S4096x32x32 c_24
  let v97 : IVec S4096x32x32 32 := Host.shli v94 v96
  let c_25 : IVec S_ 32 := constantI S_ 32 26#32
  let v98 : IVec S4096x32x32 32 := broadcastInDim S4096x32x32 ![] bcast_S_S4096x32x32 c_25
  let v99 : IVec S4096x32x32 32 := Host.shrui v94 v98
  let v100 : IVec S4096x32x32 32 := ori v97 v99
  let v101 : IVec S4096x32x32 32 := xori v95 v100
  let v102 : IVec S4096x32x32 32 := broadcastInDim S4096x32x32 ![] bcast_S_S4096x32x32 arg0
  let v103 : IVec S4096x32x32 32 := addi v95 v102
  let v104 : IVec S4096x32x32 32 := broadcastInDim S4096x32x32 ![] bcast_S_S4096x32x32 arg1
  let v105 : IVec S4096x32x32 32 := addi v101 v104
  let c_26 : IVec S_ 32 := constantI S_ 32 3#32
  let v106 : IVec S4096x32x32 32 := broadcastInDim S4096x32x32 ![] bcast_S_S4096x32x32 c_26
  let v107 : IVec S4096x32x32 32 := addi v105 v106
  let v108 : IVec S4096x32x32 32 := addi v103 v107
  let c_27 : IVec S_ 32 := constantI S_ 32 17#32
  let v109 : IVec S4096x32x32 32 := broadcastInDim S4096x32x32 ![] bcast_S_S4096x32x32 c_27
  let v110 : IVec S4096x32x32 32 := Host.shli v107 v109
  let c_28 : IVec S_ 32 := constantI S_ 32 15#32
  let v111 : IVec S4096x32x32 32 := broadcastInDim S4096x32x32 ![] bcast_S_S4096x32x32 c_28
  let v112 : IVec S4096x32x32 32 := Host.shrui v107 v111
  let v113 : IVec S4096x32x32 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S4096x32x32 32) (v74 : IVec S4096x32x32 32) (v75 : IVec S4096x32x32 32) : IVec S4096x32x32 32 × IVec S4096x32x32 32 :=
  let v76 : IVec S4096x32x32 32 := Host.shli v73 v75
  let c_19 : IVec S_ 32 := constantI S_ 32 19#32
  let v77 : IVec S4096x32x32 32 := broadcastInDim S4096x32x32 ![] bcast_S_S4096x32x32 c_19
  let v78 : IVec S4096x32x32 32 := Host.shrui v73 v77
  let v79 : IVec S4096x32x32 32 := ori v76 v78
  let v80 : IVec S4096x32x32 32 := xori v74 v79
  let v81 : IVec S4096x32x32 32 := addi v74 v80
  let c_20 : IVec S_ 32 := constantI S_ 32 15#32
  let v82 : IVec S4096x32x32 32 := broadcastInDim S4096x32x32 ![] bcast_S_S4096x32x32 c_20
  let v83 : IVec S4096x32x32 32 := Host.shli v80 v82
  let c_21 : IVec S_ 32 := constantI S_ 32 17#32
  let v84 : IVec S4096x32x32 32 := broadcastInDim S4096x32x32 ![] bcast_S_S4096x32x32 c_21
  let v85 : IVec S4096x32x32 32 := Host.shrui v80 v84
  let v86 : IVec S4096x32x32 32 := ori v83 v85
  let v87 : IVec S4096x32x32 32 := xori v81 v86
  let v88 : IVec S4096x32x32 32 := addi v81 v87
  let c_22 : IVec S_ 32 := constantI S_ 32 26#32
  let v89 : IVec S4096x32x32 32 := broadcastInDim S4096x32x32 ![] bcast_S_S4096x32x32 c_22
  let v90 : IVec S4096x32x32 32 := Host.shli v87 v89
  let c_23 : IVec S_ 32 := constantI S_ 32 6#32
  let v91 : IVec S4096x32x32 32 := broadcastInDim S4096x32x32 ![] bcast_S_S4096x32x32 c_23
  let v92 : IVec S4096x32x32 32 := Host.shrui v87 v91
  let v93 : IVec S4096x32x32 32 := ori v90 v92
  let v94 : IVec S4096x32x32 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S4096x32x32 32) (v54 : IVec S4096x32x32 32) (v56 : IVec S4096x32x32 32) : IVec S4096x32x32 32 × IVec S4096x32x32 32 :=
  let c_14 : IVec S_ 32 := constantI S_ 32 16#32
  let v57 : IVec S4096x32x32 32 := broadcastInDim S4096x32x32 ![] bcast_S_S4096x32x32 c_14
  let v58 : IVec S4096x32x32 32 := Host.shrui v53 v57
  let v59 : IVec S4096x32x32 32 := ori v56 v58
  let v60 : IVec S4096x32x32 32 := xori v54 v59
  let v61 : IVec S4096x32x32 32 := addi v54 v60
  let c_15 : IVec S_ 32 := constantI S_ 32 24#32
  let v62 : IVec S4096x32x32 32 := broadcastInDim S4096x32x32 ![] bcast_S_S4096x32x32 c_15
  let v63 : IVec S4096x32x32 32 := Host.shli v60 v62
  let c_16 : IVec S_ 32 := constantI S_ 32 8#32
  let v64 : IVec S4096x32x32 32 := broadcastInDim S4096x32x32 ![] bcast_S_S4096x32x32 c_16
  let v65 : IVec S4096x32x32 32 := Host.shrui v60 v64
  let v66 : IVec S4096x32x32 32 := ori v63 v65
  let v67 : IVec S4096x32x32 32 := xori v61 v66
  let v68 : IVec S4096x32x32 32 := broadcastInDim S4096x32x32 ![] bcast_S_S4096x32x32 v1
  let v69 : IVec S4096x32x32 32 := addi v61 v68
  let v70 : IVec S4096x32x32 32 := broadcastInDim S4096x32x32 ![] bcast_S_S4096x32x32 arg0
  let v71 : IVec S4096x32x32 32 := addi v67 v70
  let c_17 : IVec S_ 32 := constantI S_ 32 2#32
  let v72 : IVec S4096x32x32 32 := broadcastInDim S4096x32x32 ![] bcast_S_S4096x32x32 c_17
  let v73 : IVec S4096x32x32 32 := addi v71 v72
  let v74 : IVec S4096x32x32 32 := addi v69 v73
  let c_18 : IVec S_ 32 := constantI S_ 32 13#32
  let v75 : IVec S4096x32x32 32 := broadcastInDim S4096x32x32 ![] bcast_S_S4096x32x32 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S4096x32x32 32) (v37 : IVec S4096x32x32 32) (c_8 : IVec S_ 32) : IVec S4096x32x32 32 × IVec S4096x32x32 32 :=
  let v38 : IVec S4096x32x32 32 := broadcastInDim S4096x32x32 ![] bcast_S_S4096x32x32 c_8
  let v39 : IVec S4096x32x32 32 := addi v37 v38
  let v40 : IVec S4096x32x32 32 := addi v35 v39
  let c_9 : IVec S_ 32 := constantI S_ 32 17#32
  let v41 : IVec S4096x32x32 32 := broadcastInDim S4096x32x32 ![] bcast_S_S4096x32x32 c_9
  let v42 : IVec S4096x32x32 32 := Host.shli v39 v41
  let c_10 : IVec S_ 32 := constantI S_ 32 15#32
  let v43 : IVec S4096x32x32 32 := broadcastInDim S4096x32x32 ![] bcast_S_S4096x32x32 c_10
  let v44 : IVec S4096x32x32 32 := Host.shrui v39 v43
  let v45 : IVec S4096x32x32 32 := ori v42 v44
  let v46 : IVec S4096x32x32 32 := xori v40 v45
  let v47 : IVec S4096x32x32 32 := addi v40 v46
  let c_11 : IVec S_ 32 := constantI S_ 32 29#32
  let v48 : IVec S4096x32x32 32 := broadcastInDim S4096x32x32 ![] bcast_S_S4096x32x32 c_11
  let v49 : IVec S4096x32x32 32 := Host.shli v46 v48
  let c_12 : IVec S_ 32 := constantI S_ 32 3#32
  let v50 : IVec S4096x32x32 32 := broadcastInDim S4096x32x32 ![] bcast_S_S4096x32x32 c_12
  let v51 : IVec S4096x32x32 32 := Host.shrui v46 v50
  let v52 : IVec S4096x32x32 32 := ori v49 v51
  let v53 : IVec S4096x32x32 32 := xori v47 v52
  let v54 : IVec S4096x32x32 32 := addi v47 v53
  let c_13 : IVec S_ 32 := constantI S_ 32 16#32
  let v55 : IVec S4096x32x32 32 := broadcastInDim S4096x32x32 ![] bcast_S_S4096x32x32 c_13
  let v56 : IVec S4096x32x32 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S4096x32x32 32) (v18 : IVec S4096x32x32 32) : IVec S4096x32x32 32 × IVec S4096x32x32 32 :=
  let v19 : IVec S4096x32x32 32 := xori v13 v18
  let v20 : IVec S4096x32x32 32 := addi v13 v19
  let c_4 : IVec S_ 32 := constantI S_ 32 26#32
  let v21 : IVec S4096x32x32 32 := broadcastInDim S4096x32x32 ![] bcast_S_S4096x32x32 c_4
  let v22 : IVec S4096x32x32 32 := Host.shli v19 v21
  let c_5 : IVec S_ 32 := constantI S_ 32 6#32
  let v23 : IVec S4096x32x32 32 := broadcastInDim S4096x32x32 ![] bcast_S_S4096x32x32 c_5
  let v24 : IVec S4096x32x32 32 := Host.shrui v19 v23
  let v25 : IVec S4096x32x32 32 := ori v22 v24
  let v26 : IVec S4096x32x32 32 := xori v20 v25
  let v27 : IVec S4096x32x32 32 := addi v20 v26
  let c_6 : IVec S_ 32 := constantI S_ 32 6#32
  let v28 : IVec S4096x32x32 32 := broadcastInDim S4096x32x32 ![] bcast_S_S4096x32x32 c_6
  let v29 : IVec S4096x32x32 32 := Host.shli v26 v28
  let c_7 : IVec S_ 32 := constantI S_ 32 26#32
  let v30 : IVec S4096x32x32 32 := broadcastInDim S4096x32x32 ![] bcast_S_S4096x32x32 c_7
  let v31 : IVec S4096x32x32 32 := Host.shrui v26 v30
  let v32 : IVec S4096x32x32 32 := ori v29 v31
  let v33 : IVec S4096x32x32 32 := xori v27 v32
  let v34 : IVec S4096x32x32 32 := broadcastInDim S4096x32x32 ![] bcast_S_S4096x32x32 arg1
  let v35 : IVec S4096x32x32 32 := addi v27 v34
  let v36 : IVec S4096x32x32 32 := broadcastInDim S4096x32x32 ![] bcast_S_S4096x32x32 v1
  let v37 : IVec S4096x32x32 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S4096x32x32 32) (arg3 : IVec S4096x32x32 32) : IVec S4096x32x32 32 × IVec S4096x32x32 32 :=
  let v0 : IVec S_ 32 := xori arg0 arg1
  let c : IVec S_ 32 := constantI S_ 32 466688986#32
  let v1 : IVec S_ 32 := xori v0 c
  let v2 : IVec S4096x32x32 32 := broadcastInDim S4096x32x32 ![] bcast_S_S4096x32x32 arg0
  let v3 : IVec S4096x32x32 32 := addi arg2 v2
  let v4 : IVec S4096x32x32 32 := broadcastInDim S4096x32x32 ![] bcast_S_S4096x32x32 arg1
  let v5 : IVec S4096x32x32 32 := addi arg3 v4
  let v6 : IVec S4096x32x32 32 := addi v3 v5
  let c_0 : IVec S_ 32 := constantI S_ 32 13#32
  let v7 : IVec S4096x32x32 32 := broadcastInDim S4096x32x32 ![] bcast_S_S4096x32x32 c_0
  let v8 : IVec S4096x32x32 32 := Host.shli v5 v7
  let c_1 : IVec S_ 32 := constantI S_ 32 19#32
  let v9 : IVec S4096x32x32 32 := broadcastInDim S4096x32x32 ![] bcast_S_S4096x32x32 c_1
  let v10 : IVec S4096x32x32 32 := Host.shrui v5 v9
  let v11 : IVec S4096x32x32 32 := ori v8 v10
  let v12 : IVec S4096x32x32 32 := xori v6 v11
  let v13 : IVec S4096x32x32 32 := addi v6 v12
  let c_2 : IVec S_ 32 := constantI S_ 32 15#32
  let v14 : IVec S4096x32x32 32 := broadcastInDim S4096x32x32 ![] bcast_S_S4096x32x32 c_2
  let v15 : IVec S4096x32x32 32 := Host.shli v12 v14
  let c_3 : IVec S_ 32 := constantI S_ 32 17#32
  let v16 : IVec S4096x32x32 32 := broadcastInDim S4096x32x32 ![] bcast_S_S4096x32x32 c_3
  let v17 : IVec S4096x32x32 32 := Host.shrui v12 v16
  let v18 : IVec S4096x32x32 32 := ori v15 v17
  fn_threefry2x32_part1 (F := F) arg0 arg1 v1 v13 v18

def fn_uniform_part1 {F : FTy → Type} [FloatOps F] (v1 : FVec F S1x1x1 .f32) (v2 : FVec F S1x1x1 .f32) (v4 : IVec S_ 32) (v6 : IVec S_ 32) (v17 : IVec S4096x32x32 64) (v19 : IVec S4096x32x32 64) : FVec F S4096x32x32 .f32 :=
  let v20 : IVec S4096x32x32 32 := (trunci 32 · natLt_32_64) v17
  let v21 : IVec S4096x32x32 32 := (trunci 32 · natLt_32_64) v19
  let v22_0 : IVec S4096x32x32 32 := (fn_threefry2x32 (F := F) v4 v6 v21 v20).1
  let v22_1 : IVec S4096x32x32 32 := (fn_threefry2x32 (F := F) v4 v6 v21 v20).2
  let v23 : IVec S4096x32x32 32 := xori v22_0 v22_1
  let c_3 : IVec S_ 32 := constantI S_ 32 9#32
  let v24 : IVec S4096x32x32 32 := broadcastInDim S4096x32x32 ![] bcast_S_S4096x32x32 c_3
  let v25 : IVec S4096x32x32 32 := Host.shrui v23 v24
  let c_4 : IVec S_ 32 := constantI S_ 32 1065353216#32
  let v26 : IVec S4096x32x32 32 := broadcastInDim S4096x32x32 ![] bcast_S_S4096x32x32 c_4
  let v27 : IVec S4096x32x32 32 := ori v25 v26
  let v28 : FVec F S4096x32x32 .f32 := bitcastToFloat .f32 v27
  let cst : FVec F S_ .f32 := constant S_ .f32 0x3F800000#32
  let v29 : FVec F S4096x32x32 .f32 := broadcastInDim S4096x32x32 ![] bcast_S_S4096x32x32 cst
  let v30 : FVec F S4096x32x32 .f32 := subf v28 v29
  let v31 : FVec F S1x1x1 .f32 := subf v2 v1
  let v32 : FVec F S4096x32x32 .f32 := broadcastInDim S4096x32x32 ![0, 1, 2] bcast_S1x1x1_S4096x32x32_0_1_2 v31
  let v33 : FVec F S4096x32x32 .f32 := mulf v30 v32
  let v34 : FVec F S4096x32x32 .f32 := broadcastInDim S4096x32x32 ![0, 1, 2] bcast_S1x1x1_S4096x32x32_0_1_2 v1
  let v35 : FVec F S4096x32x32 .f32 := addf v33 v34
  let v36 : FVec F S4096x32x32 .f32 := broadcastInDim S4096x32x32 ![0, 1, 2] bcast_S1x1x1_S4096x32x32_0_1_2 v1
  let v37 : FVec F S4096x32x32 .f32 := maximumf v36 v35
  v37

def fn_uniform {F : FTy → Type} [FloatOps F] (arg0 : IVec S2 32) (arg1 : FVec F S_ .f32) (arg2 : FVec F S_ .f32) : FVec F S4096x32x32 .f32 :=
  let v0 : FVec F S_ .f32 := id arg1
  let v1 : FVec F S1x1x1 .f32 := broadcastInDim S1x1x1 ![] bcast_S_S1x1x1 arg2
  let v2 : FVec F S1x1x1 .f32 := broadcastInDim S1x1x1 ![] bcast_S_S1x1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S4096x32x32 64 := iotaInDim S4096x32x32 64 0
  let v8 : IVec S4096x32x32 64 := iotaInDim S4096x32x32 64 1
  let v9 : IVec S4096x32x32 64 := iotaInDim S4096x32x32 64 2
  let c : IVec S_ 64 := constantI S_ 64 1024#64
  let v10 : IVec S4096x32x32 64 := broadcastInDim S4096x32x32 ![] bcast_S_S4096x32x32 c
  let v11 : IVec S4096x32x32 64 := muli v10 v7
  let c_0 : IVec S_ 64 := constantI S_ 64 32#64
  let v12 : IVec S4096x32x32 64 := broadcastInDim S4096x32x32 ![] bcast_S_S4096x32x32 c_0
  let v13 : IVec S4096x32x32 64 := muli v12 v8
  let c_1 : IVec S_ 64 := constantI S_ 64 1#64
  let v14 : IVec S4096x32x32 64 := broadcastInDim S4096x32x32 ![] bcast_S_S4096x32x32 c_1
  let v15 : IVec S4096x32x32 64 := muli v14 v9
  let v16 : IVec S4096x32x32 64 := addi v11 v13
  let v17 : IVec S4096x32x32 64 := addi v16 v15
  let c_2 : IVec S_ 64 := constantI S_ 64 32#64
  let v18 : IVec S4096x32x32 64 := broadcastInDim S4096x32x32 ![] bcast_S_S4096x32x32 c_2
  let v19 : IVec S4096x32x32 64 := Host.shrui v17 v18
  fn_uniform_part1 (F := F) v1 v2 v4 v6 v17 v19

def fn_gumbel {F : FTy → Type} [FloatOps F] (arg0 : IVec S2 32) : FVec F S4096x32x32 .f32 :=
  let cst : FVec F S_ .f32 := constant S_ .f32 0x3F800000#32
  let cst_0 : FVec F S_ .f32 := constant S_ .f32 0x00800000#32
  let v0 : FVec F S4096x32x32 .f32 := fn_uniform (F := F) arg0 cst cst_0
  let v1 : FVec F S4096x32x32 .f32 := Host.log v0
  let v2 : FVec F S4096x32x32 .f32 := Host.negf v1
  let v3 : FVec F S4096x32x32 .f32 := Host.log v2
  let v4 : FVec F S4096x32x32 .f32 := Host.negf v3
  v4

def fn_argmax {F : FTy → Type} [FloatOps F] (arg0 : FVec F S4096x32x32 .f32) : IVec S4096x32 32 :=
  let v0 : IVec S4096x32x32 32 := iotaInDim S4096x32x32 32 2
  let cst : FVec F S_ .f32 := constant S_ .f32 0xFF800000#32
  let c : IVec S_ 32 := constantI S_ 32 0#32
  let v1_0 : FVec F S4096x32 .f32 := (fun x y u v j => (Host.argReduce reducer_argmax_f32_i32 x y u v reducesTo_S4096x32x32_S4096x32_d2 h_S_ j).1) arg0 v0 cst c
  let v1_1 : IVec S4096x32 32 := (fun x y u v j => (Host.argReduce reducer_argmax_f32_i32 x y u v reducesTo_S4096x32x32_S4096x32_d2 h_S_ j).2) arg0 v0 cst c
  v1_1

def fn_one_hot {F : FTy → Type} [FloatOps F] (arg0 : IVec S4096x32 32) : FVec F S4096x32x32 .f32 :=
  let v0 : IVec S4096x32x1 32 := broadcastInDim S4096x32x1 ![0, 1] bcast_S4096x32_S4096x32x1_0_1 arg0
  let v1 : IVec S1x1x32 32 := iotaInDim S1x1x32 32 2
  let v2 : IVec S4096x32x32 32 := broadcastInDim S4096x32x32 ![0, 1, 2] bcast_S4096x32x1_S4096x32x32_0_1_2 v0
  let v3 : IVec S4096x32x32 32 := broadcastInDim S4096x32x32 ![0, 1, 2] bcast_S1x1x32_S4096x32x32_0_1_2 v1
  let v4 : IVec S4096x32x32 1 := cmpi .eq v2 v3
  let v5 : FVec F S4096x32x32 .f32 := uitofp .f32 v4
  v5

def fn_part2 {F : FTy → Type} [FloatOps F] (main_v29 : FVec F S4096x32x32 .f32) (main_v33 : IVec S4096x32x32 1) (main_v35 : FVec F S4096x32x1 .f32) : IVec S4096x32x32 1 :=
  let main_v36 : FVec F S4096x32x32 .f32 := broadcastInDim S4096x32x32 ![0, 1, 2] bcast_S4096x32x1_S4096x32x32_0_1_2 main_v35
  let main_v37 : IVec S4096x32x32 1 := cmpf .olt main_v29 main_v36
  let main_v38 : IVec S4096x32x32 1 := ori main_v33 main_v37
  main_v38

def fn_part1 {F : FTy → Type} [FloatOps F] (main_v5 : FVec F S4096x32x32 .f32) (main_v16 : FVec F S4096x32x32 .f32) (main_cst_5 : FVec F S_ .f32) : IVec S4096x32x32 1 :=
  let main_v17 : FVec F S4096x32x32 .f32 := broadcastInDim S4096x32x32 ![] bcast_S_S4096x32x32 main_cst_5
  let main_v18 : FVec F S4096x32x32 .f32 := mulf main_v17 main_v16
  let main_v19 : FVec F S4096x32x32 .f32 := addf main_v5 main_v18
  let main_c : IVec S_ 32 := constantI S_ 32 42#32
  let main_c_6 : IVec S_ 32 := constantI S_ 32 32#32
  let main_v20 : IVec S_ 32 := Host.shrui main_c main_c_6
  let main_v21 : IVec S_ 32 := id main_v20
  let main_v22 : IVec S1 32 := broadcastInDim S1 ![] bcast_S_S1 main_v21
  let main_c_7 : IVec S_ 32 := constantI S_ 32 4294967295#32
  let main_v23 : IVec S_ 32 := andi main_c main_c_7
  let main_v24 : IVec S_ 32 := id main_v23
  let main_v25 : IVec S1 32 := broadcastInDim S1 ![] bcast_S_S1 main_v24
  let main_v26 : IVec S2 32 := (fun a b => concatenate S2 0 [⟨S1, a⟩, ⟨S1, b⟩] concatenates_S1_S1_S2_d0) main_v22 main_v25
  let main_v27 : FVec F S4096x32x32 .f32 := fn_gumbel (F := F) main_v26
  let main_v28 : FVec F S4096x32x32 .f32 := Host.log main_v19
  let main_v29 : FVec F S4096x32x32 .f32 := addf main_v27 main_v28
  let main_v30 : IVec S4096x32 32 := fn_argmax (F := F) main_v29
  let main_v31 : FVec F S4096x32x32 .f32 := fn_one_hot (F := F) main_v30
  let main_cst_8 : FVec F S_ .f32 := constant S_ .f32 0x3F800000#32
  let main_v32 : FVec F S4096x32x32 .f32 := broadcastInDim S4096x32x32 ![] bcast_S_S4096x32x32 main_cst_8
  let main_v33 : IVec S4096x32x32 1 := cmpf .oeq main_v31 main_v32
  let main_cst_9 : FVec F S_ .f32 := constant S_ .f32 0xFF800000#32
  let main_v34 : FVec F S4096x32 .f32 := (fun x v => Host.reduce FloatOps.maximumf x v reducesTo_S4096x32x32_S4096x32_d2 h_S_) main_v29 main_cst_9
  let main_v35 : FVec F S4096x32x1 .f32 := broadcastInDim S4096x32x1 ![0, 1] bcast_S4096x32_S4096x32x1_0_1 main_v34
  fn_part2 (F := F) main_v29 main_v33 main_v35

def fn {F : FTy → Type} [FloatOps F] (main_arg0 : FVec F S4096x1024 .f32) : IVec S4096x32x32 1 :=
  let main_v0 : FVec F S4096x32x32 .f32 := shapeCast S4096x32x32 main_arg0 shapeCasts_S4096x1024_S4096x32x32
  let main_cst : FVec F S_ .f32 := constant S_ .f32 0x3F800000#32
  let main_v1 : FVec F S4096x32x32 .f32 := broadcastInDim S4096x32x32 ![] bcast_S_S4096x32x32 main_cst
  let main_cst_0 : FVec F S_ .f32 := constant S_ .f32 0x3C23D70A#32
  let main_v2 : FVec F S4096x32x32 .f32 := broadcastInDim S4096x32x32 ![] bcast_S_S4096x32x32 main_cst_0
  let main_v3 : FVec F S4096x32x32 .f32 := mulf main_v2 main_v1
  let main_cst_1 : FVec F S_ .f32 := constant S_ .f32 0x42000000#32
  let main_v4 : FVec F S4096x32x32 .f32 := broadcastInDim S4096x32x32 ![] bcast_S_S4096x32x32 main_cst_1
  let main_v5 : FVec F S4096x32x32 .f32 := Host.divf main_v3 main_v4
  let main_cst_2 : FVec F S_ .f32 := constant S_ .f32 0xFF800000#32
  let main_v6 : FVec F S4096x32 .f32 := (fun x v => Host.reduce FloatOps.maximumf x v reducesTo_S4096x32x32_S4096x32_d2 h_S_) main_v0 main_cst_2
  let main_cst_3 : FVec F S_ .f32 := constant S_ .f32 0xFF800000#32
  let main_v7 : FVec F S4096x32 .f32 := broadcastInDim S4096x32 ![] bcast_S_S4096x32 main_cst_3
  let main_v8 : FVec F S4096x32 .f32 := maximumf main_v7 main_v6
  let main_v9 : FVec F S4096x32x1 .f32 := broadcastInDim S4096x32x1 ![0, 1] bcast_S4096x32_S4096x32x1_0_1 main_v8
  let main_v10 : FVec F S4096x32x32 .f32 := broadcastInDim S4096x32x32 ![0, 1, 2] bcast_S4096x32x1_S4096x32x32_0_1_2 main_v9
  let main_v11 : FVec F S4096x32x32 .f32 := subf main_v0 main_v10
  let main_v12 : FVec F S4096x32x32 .f32 := Host.exp main_v11
  let main_cst_4 : FVec F S_ .f32 := constant S_ .f32 0x00000000#32
  let main_v13 : FVec F S4096x32 .f32 := (fun x v => Host.reduceAdd x v reducesTo_S4096x32x32_S4096x32_d2 h_S_) main_v12 main_cst_4
  let main_v14 : FVec F S4096x32x1 .f32 := broadcastInDim S4096x32x1 ![0, 1] bcast_S4096x32_S4096x32x1_0_1 main_v13
  let main_v15 : FVec F S4096x32x32 .f32 := broadcastInDim S4096x32x32 ![0, 1, 2] bcast_S4096x32x1_S4096x32x32_0_1_2 main_v14
  let main_v16 : FVec F S4096x32x32 .f32 := Host.divf main_v12 main_v15
  let main_cst_5 : FVec F S_ .f32 := constant S_ .f32 0x3F7D70A4#32
  fn_part1 (F := F) main_v5 main_v16 main_cst_5
-- ==== Kernel.lean ====
abbrev S4096x1024 : Shape := ⟨2, ![4096, 1024]⟩
abbrev S4096x32x32 : Shape := ⟨3, ![4096, 32, 32]⟩
abbrev S256x1024 : Shape := ⟨2, ![256, 1024]⟩
abbrev S256x32x32 : Shape := ⟨3, ![256, 32, 32]⟩
abbrev S1024x1024 : Shape := ⟨2, ![1024, 1024]⟩
abbrev S256x32 : Shape := ⟨2, ![256, 32]⟩
abbrev S256x32x1 : Shape := ⟨3, ![256, 32, 1]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x32x32, .f32⟩
  | .local _ .vmem, ⟨0, _⟩ => ⟨S256x1024, .f32⟩
  | .local _ .vmem, ⟨1, _⟩ => ⟨S256x1024, .f32⟩
  | .local _ .vmem, ⟨2, _⟩ => ⟨S256x32x32, .f32⟩
  | .local _ .vmem, ⟨3, _⟩ => ⟨S256x32x32, .f32⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x1024 : Shape := ⟨2, ![4096, 1024]⟩
abbrev S4096x32x32 : Shape := ⟨3, ![4096, 32, 32]⟩
abbrev S_ : Shape := ⟨0, ![]⟩
abbrev S4096x32 : Shape := ⟨2, ![4096, 32]⟩
abbrev S4096x32x1 : Shape := ⟨3, ![4096, 32, 1]⟩
abbrev S1 : Shape := ⟨1, ![1]⟩
abbrev S2 : Shape := ⟨1, ![2]⟩
abbrev S1x1x1 : Shape := ⟨3, ![1, 1, 1]⟩
abbrev S1x1x32 : Shape := ⟨3, ![1, 1, 32]⟩

abbrev nBuf : Space → Nat
  | .hbm => 325
  | .vmem => 0
  | .smem => 0
  | _ => 0

abbrev hbmTy0_0 (i : Nat) : BufTy := match i % 128 with
  | 0 => ⟨S4096x1024, .f32⟩
  | 1 => ⟨S4096x32x32, .f32⟩
  | 2 => ⟨S_, .f32⟩
  | 3 => ⟨S4096x32, .f32⟩
  | 4 => ⟨S_, .f32⟩
  | 5 => ⟨S4096x32, .f32⟩
  | 6 => ⟨S4096x32, .f32⟩
  | 7 => ⟨S4096x32x1, .f32⟩
  | 8 => ⟨S4096x32x32, .f32⟩
  | 9 => ⟨S4096x32x32, .f32⟩
  | 10 => ⟨S4096x32x32, .f32⟩
  | 11 => ⟨S_, .f32⟩
  | 12 => ⟨S4096x32, .f32⟩
  | 13 => ⟨S4096x32x1, .f32⟩
  | 14 => ⟨S4096x32x32, .f32⟩
  | 15 => ⟨S4096x32x32, .f32⟩
  | 16 => ⟨S_, .f32⟩
  | 17 => ⟨S4096x32x32, .f32⟩
  | 18 => ⟨S_, .f32⟩
  | 19 => ⟨S4096x32x32, .f32⟩
  | 20 => ⟨S4096x32x32, .f32⟩
  | 21 => ⟨S_, .f32⟩
  | 22 => ⟨S4096x32x32, .f32⟩
  | 23 => ⟨S4096x32x32, .f32⟩
  | 24 => ⟨S_, .f32⟩
  | 25 => ⟨S4096x32x32, .f32⟩
  | 26 => ⟨S4096x32x32, .f32⟩
  | 27 => ⟨S4096x32x32, .f32⟩
  | 28 => ⟨S_, .i32⟩
  | 29 => ⟨S_, .i32⟩
  | 30 => ⟨S_, .i32⟩
  | 31 => ⟨S_, .i32⟩
  | 32 => ⟨S1, .i32⟩
  | 33 => ⟨S_, .i32⟩
  | 34 => ⟨S_, .i32⟩
  | 35 => ⟨S_, .i32⟩
  | 36 => ⟨S1, .i32⟩
  | 37 => ⟨S2, .i32⟩
  | 38 => ⟨S4096x32x32, .f32⟩
  | 39 => ⟨S_, .f32⟩
  | 40 => ⟨S_, .f32⟩
  | 41 => ⟨S_, .f32⟩
  | 42 => ⟨S1x1x1, .f32⟩
  | 43 => ⟨S1x1x1, .f32⟩
  | 44 => ⟨S1, .i32⟩
  | 45 => ⟨S_, .i32⟩
  | 46 => ⟨S1, .i32⟩
  | 47 => ⟨S_, .i32⟩
  | 48 => ⟨S4096x32x32, .i64⟩
  | 49 => ⟨S4096x32x32, .i64⟩
  | 50 => ⟨S4096x32x32, .i64⟩
  | 51 => ⟨S_, .i64⟩
  | 52 => ⟨S4096x32x32, .i64⟩
  | 53 => ⟨S4096x32x32, .i64⟩
  | 54 => ⟨S_, .i64⟩
  | 55 => ⟨S4096x32x32, .i64⟩
  | 56 => ⟨S4096x32x32, .i64⟩
  | 57 => ⟨S_, .i64⟩
  | 58 => ⟨S4096x32x32, .i64⟩
  | 59 => ⟨S4096x32x32, .i64⟩
  | 60 => ⟨S4096x32x32, .i64⟩
  | 61 => ⟨S4096x32x32, .i64⟩
  | 62 => ⟨S_, .i64⟩
  | 63 => ⟨S4096x32x32, .i64⟩
  | 64 => ⟨S4096x32x32, .i64⟩
  | 65 => ⟨S4096x32x32, .i32⟩
  | 66 => ⟨S4096x32x32, .i32⟩
  | 67 => ⟨S_, .i32⟩
  | 68 => ⟨S_, .i32⟩
  | 69 => ⟨S_, .i32⟩
  | 70 => ⟨S4096x32x32, .i32⟩
  | 71 => ⟨S4096x32x32, .i32⟩
  | 72 => ⟨S4096x32x32, .i32⟩
  | 73 => ⟨S4096x32x32, .i32⟩
  | 74 => ⟨S4096x32x32, .i32⟩
  | 75 => ⟨S_, .i32⟩
  | 76 => ⟨S4096x32x32, .i32⟩
  | 77 => ⟨S4096x32x32, .i32⟩
  | 78 => ⟨S_, .i32⟩
  | 79 => ⟨S4096x32x32, .i32⟩
  | 80 => ⟨S4096x32x32, .i32⟩
  | 81 => ⟨S4096x32x32, .i32⟩
  | 82 => ⟨S4096x32x32, .i32⟩
  | 83 => ⟨S4096x32x32, .i32⟩
  | 84 => ⟨S_, .i32⟩
  | 85 => ⟨S4096x32x32, .i32⟩
  | 86 => ⟨S4096x32x32, .i32⟩
  | 87 => ⟨S_, .i32⟩
  | 88 => ⟨S4096x32x32, .i32⟩
  | 89 => ⟨S4096x32x32, .i32⟩
  | 90 => ⟨S4096x32x32, .i32⟩
  | 91 => ⟨S4096x32x32, .i32⟩
  | 92 => ⟨S4096x32x32, .i32⟩
  | 93 => ⟨S_, .i32⟩
  | 94 => ⟨S4096x32x32, .i32⟩
  | 95 => ⟨S4096x32x32, .i32⟩
  | 96 => ⟨S_, .i32⟩
  | 97 => ⟨S4096x32x32, .i32⟩
  | 98 => ⟨S4096x32x32, .i32⟩
  | 99 => ⟨S4096x32x32, .i32⟩
  | 100 => ⟨S4096x32x32, .i32⟩
  | 101 => ⟨S4096x32x32, .i32⟩
  | 102 => ⟨S_, .i32⟩
  | 103 => ⟨S4096x32x32, .i32⟩
  | 104 => ⟨S4096x32x32, .i32⟩
  | 105 => ⟨S_, .i32⟩
  | 106 => ⟨S4096x32x32, .i32⟩
  | 107 => ⟨S4096x32x32, .i32⟩
  | 108 => ⟨S4096x32x32, .i32⟩
  | 109 => ⟨S4096x32x32, .i32⟩
  | 110 => ⟨S4096x32x32, .i32⟩
  | 111 => ⟨S4096x32x32, .i32⟩
  | 112 => ⟨S4096x32x32, .i32⟩
  | 113 => ⟨S4096x32x32, .i32⟩
  | 114 => ⟨S_, .i32⟩
  | 115 => ⟨S4096x32x32, .i32⟩
  | 116 => ⟨S4096x32x32, .i32⟩
  | 117 => ⟨S4096x32x32, .i32⟩
  | 118 => ⟨S_, .i32⟩
  | 119 => ⟨S4096x32x32, .i32⟩
  | 120 => ⟨S4096x32x32, .i32⟩
  | 121 => ⟨S_, .i32⟩
  | 122 => ⟨S4096x32x32, .i32⟩
  | 123 => ⟨S4096x32x32, .i32⟩
  | 124 => ⟨S4096x32x32, .i32⟩
  | 125 => ⟨S4096x32x32, .i32⟩
  | 126 => ⟨S4096x32x32, .i32⟩
  | 127 => ⟨S_, .i32⟩
  | _ => ⟨S4096x1024, .f32⟩

abbrev hbmTy0_1 (i : Nat) : BufTy := match i % 128 with
  | 0 => ⟨S4096x32x32, .i32⟩
  | 1 => ⟨S4096x32x32, .i32⟩
  | 2 => ⟨S_, .i32⟩
  | 3 => ⟨S4096x32x32, .i32⟩
  | 4 => ⟨S4096x32x32, .i32⟩
  | 5 => ⟨S4096x32x32, .i32⟩
  | 6 => ⟨S4096x32x32, .i32⟩
  | 7 => ⟨S4096x32x32, .i32⟩
  | 8 => ⟨S_, .i32⟩
  | 9 => ⟨S4096x32x32, .i32⟩
  | 10 => ⟨S4096x32x32, .i32⟩
  | 11 => ⟨S_, .i32⟩
  | 12 => ⟨S4096x32x32, .i32⟩
  | 13 => ⟨S4096x32x32, .i32⟩
  | 14 => ⟨S4096x32x32, .i32⟩
  | 15 => ⟨S4096x32x32, .i32⟩
  | 16 => ⟨S4096x32x32, .i32⟩
  | 17 => ⟨S_, .i32⟩
  | 18 => ⟨S4096x32x32, .i32⟩
  | 19 => ⟨S4096x32x32, .i32⟩
  | 20 => ⟨S_, .i32⟩
  | 21 => ⟨S4096x32x32, .i32⟩
  | 22 => ⟨S4096x32x32, .i32⟩
  | 23 => ⟨S4096x32x32, .i32⟩
  | 24 => ⟨S4096x32x32, .i32⟩
  | 25 => ⟨S4096x32x32, .i32⟩
  | 26 => ⟨S4096x32x32, .i32⟩
  | 27 => ⟨S4096x32x32, .i32⟩
  | 28 => ⟨S4096x32x32, .i32⟩
  | 29 => ⟨S_, .i32⟩
  | 30 => ⟨S4096x32x32, .i32⟩
  | 31 => ⟨S4096x32x32, .i32⟩
  | 32 => ⟨S4096x32x32, .i32⟩
  | 33 => ⟨S_, .i32⟩
  | 34 => ⟨S4096x32x32, .i32⟩
  | 35 => ⟨S4096x32x32, .i32⟩
  | 36 => ⟨S_, .i32⟩
  | 37 => ⟨S4096x32x32, .i32⟩
  | 38 => ⟨S4096x32x32, .i32⟩
  | 39 => ⟨S4096x32x32, .i32⟩
  | 40 => ⟨S4096x32x32, .i32⟩
  | 41 => ⟨S4096x32x32, .i32⟩
  | 42 => ⟨S_, .i32⟩
  | 43 => ⟨S4096x32x32, .i32⟩
  | 44 => ⟨S4096x32x32, .i32⟩
  | 45 => ⟨S_, .i32⟩
  | 46 => ⟨S4096x32x32, .i32⟩
  | 47 => ⟨S4096x32x32, .i32⟩
  | 48 => ⟨S4096x32x32, .i32⟩
  | 49 => ⟨S4096x32x32, .i32⟩
  | 50 => ⟨S4096x32x32, .i32⟩
  | 51 => ⟨S_, .i32⟩
  | 52 => ⟨S4096x32x32, .i32⟩
  | 53 => ⟨S4096x32x32, .i32⟩
  | 54 => ⟨S_, .i32⟩
  | 55 => ⟨S4096x32x32, .i32⟩
  | 56 => ⟨S4096x32x32, .i32⟩
  | 57 => ⟨S4096x32x32, .i32⟩
  | 58 => ⟨S4096x32x32, .i32⟩
  | 59 => ⟨S4096x32x32, .i32⟩
  | 60 => ⟨S_, .i32⟩
  | 61 => ⟨S4096x32x32, .i32⟩
  | 62 => ⟨S4096x32x32, .i32⟩
  | 63 => ⟨S_, .i32⟩
  | 64 => ⟨S4096x32x32, .i32⟩
  | 65 => ⟨S4096x32x32, .i32⟩
  | 66 => ⟨S4096x32x32, .i32⟩
  | 67 => ⟨S4096x32x32, .i32⟩
  | 68 => ⟨S4096x32x32, .i32⟩
  | 69 => ⟨S4096x32x32, .i32⟩
  | 70 => ⟨S4096x32x32, .i32⟩
  | 71 => ⟨S4096x32x32, .i32⟩
  | 72 => ⟨S_, .i32⟩
  | 73 => ⟨S4096x32x32, .i32⟩
  | 74 => ⟨S4096x32x32, .i32⟩
  | 75 => ⟨S4096x32x32, .i32⟩
  | 76 => ⟨S_, .i32⟩
  | 77 => ⟨S4096x32x32, .i32⟩
  | 78 => ⟨S4096x32x32, .i32⟩
  | 79 => ⟨S_, .i32⟩
  | 80 => ⟨S4096x32x32, .i32⟩
  | 81 => ⟨S4096x32x32, .i32⟩
  | 82 => ⟨S4096x32x32, .i32⟩
  | 83 => ⟨S4096x32x32, .i32⟩
  | 84 => ⟨S4096x32x32, .i32⟩
  | 85 => ⟨S_, .i32⟩
  | 86 => ⟨S4096x32x32, .i32⟩
  | 87 => ⟨S4096x32x32, .i32⟩
  | 88 => ⟨S_, .i32⟩
  | 89 => ⟨S4096x32x32, .i32⟩
  | 90 => ⟨S4096x32x32, .i32⟩
  | 91 => ⟨S4096x32x32, .i32⟩
  | 92 => ⟨S4096x32x32, .i32⟩
  | 93 => ⟨S4096x32x32, .i32⟩
  | 94 => ⟨S_, .i32⟩
  | 95 => ⟨S4096x32x32, .i32⟩
  | 96 => ⟨S4096x32x32, .i32⟩
  | 97 => ⟨S_, .i32⟩
  | 98 => ⟨S4096x32x32, .i32⟩
  | 99 => ⟨S4096x32x32, .i32⟩
  | 100 => ⟨S4096x32x32, .i32⟩
  | 101 => ⟨S4096x32x32, .i32⟩
  | 102 => ⟨S4096x32x32, .i32⟩
  | 103 => ⟨S_, .i32⟩
  | 104 => ⟨S4096x32x32, .i32⟩
  | 105 => ⟨S4096x32x32, .i32⟩
  | 106 => ⟨S_, .i32⟩
  | 107 => ⟨S4096x32x32, .i32⟩
  | 108 => ⟨S4096x32x32, .i32⟩
  | 109 => ⟨S4096x32x32, .i32⟩
  | 110 => ⟨S4096x32x32, .i32⟩
  | 111 => ⟨S4096x32x32, .i32⟩
  | 112 => ⟨S4096x32x32, .i32⟩
  | 113 => ⟨S4096x32x32, .i32⟩
  | 114 => ⟨S4096x32x32, .i32⟩
  | 115 => ⟨S_, .i32⟩
  | 116 => ⟨S4096x32x32, .i32⟩
  | 117 => ⟨S4096x32x32, .i32⟩
  | 118 => ⟨S4096x32x32, .i32⟩
  | 119 => ⟨S_, .i32⟩
  | 120 => ⟨S4096x32x32, .i32⟩
  | 121 => ⟨S4096x32x32, .i32⟩
  | 122 => ⟨S_, .i32⟩
  | 123 => ⟨S4096x32x32, .i32⟩
  | 124 => ⟨S4096x32x32, .i32⟩
  | 125 => ⟨S4096x32x32, .i32⟩
  | 126 => ⟨S4096x32x32, .i32⟩
  | 127 => ⟨S4096x32x32, .i32⟩
  | _ => ⟨S4096x1024, .f32⟩

abbrev hbmTy0_2 (i : Nat) : BufTy := match i % 128 with
  | 0 => ⟨S_, .i32⟩
  | 1 => ⟨S4096x32x32, .i32⟩
  | 2 => ⟨S4096x32x32, .i32⟩
  | 3 => ⟨S_, .i32⟩
  | 4 => ⟨S4096x32x32, .i32⟩
  | 5 => ⟨S4096x32x32, .i32⟩
  | 6 => ⟨S4096x32x32, .i32⟩
  | 7 => ⟨S4096x32x32, .i32⟩
  | 8 => ⟨S4096x32x32, .i32⟩
  | 9 => ⟨S_, .i32⟩
  | 10 => ⟨S4096x32x32, .i32⟩
  | 11 => ⟨S4096x32x32, .i32⟩
  | 12 => ⟨S_, .i32⟩
  | 13 => ⟨S4096x32x32, .i32⟩
  | 14 => ⟨S4096x32x32, .i32⟩
  | 15 => ⟨S4096x32x32, .i32⟩
  | 16 => ⟨S4096x32x32, .i32⟩
  | 17 => ⟨S4096x32x32, .i32⟩
  | 18 => ⟨S_, .i32⟩
  | 19 => ⟨S4096x32x32, .i32⟩
  | 20 => ⟨S4096x32x32, .i32⟩
  | 21 => ⟨S_, .i32⟩
  | 22 => ⟨S4096x32x32, .i32⟩
  | 23 => ⟨S4096x32x32, .i32⟩
  | 24 => ⟨S4096x32x32, .i32⟩
  | 25 => ⟨S4096x32x32, .i32⟩
  | 26 => ⟨S4096x32x32, .i32⟩
  | 27 => ⟨S4096x32x32, .i32⟩
  | 28 => ⟨S4096x32x32, .i32⟩
  | 29 => ⟨S4096x32x32, .i32⟩
  | 30 => ⟨S_, .i32⟩
  | 31 => ⟨S4096x32x32, .i32⟩
  | 32 => ⟨S4096x32x32, .i32⟩
  | 33 => ⟨S4096x32x32, .i32⟩
  | 34 => ⟨S_, .i32⟩
  | 35 => ⟨S4096x32x32, .i32⟩
  | 36 => ⟨S4096x32x32, .i32⟩
  | 37 => ⟨S_, .i32⟩
  | 38 => ⟨S4096x32x32, .i32⟩
  | 39 => ⟨S4096x32x32, .i32⟩
  | 40 => ⟨S4096x32x32, .f32⟩
  | 41 => ⟨S_, .f32⟩
  | 42 => ⟨S4096x32x32, .f32⟩
  | 43 => ⟨S4096x32x32, .f32⟩
  | 44 => ⟨S1x1x1, .f32⟩
  | 45 => ⟨S4096x32x32, .f32⟩
  | 46 => ⟨S4096x32x32, .f32⟩
  | 47 => ⟨S4096x32x32, .f32⟩
  | 48 => ⟨S4096x32x32, .f32⟩
  | 49 => ⟨S4096x32x32, .f32⟩
  | 50 => ⟨S4096x32x32, .f32⟩
  | 51 => ⟨S4096x32x32, .f32⟩
  | 52 => ⟨S4096x32x32, .f32⟩
  | 53 => ⟨S4096x32x32, .f32⟩
  | 54 => ⟨S4096x32x32, .f32⟩
  | 55 => ⟨S4096x32x32, .f32⟩
  | 56 => ⟨S4096x32x32, .i32⟩
  | 57 => ⟨S_, .f32⟩
  | 58 => ⟨S_, .i32⟩
  | 59 => ⟨S4096x32, .f32⟩
  | 60 => ⟨S4096x32, .i32⟩
  | 61 => ⟨S4096x32x1, .i32⟩
  | 62 => ⟨S1x1x32, .i32⟩
  | 63 => ⟨S4096x32x32, .i32⟩
  | 64 => ⟨S4096x32x32, .i32⟩
  | 65 => ⟨S4096x32x32, .i1⟩
  | 66 => ⟨S4096x32x32, .f32⟩
  | 67 => ⟨S4096x32x32, .f32⟩
  | 68 => ⟨S4096x32x32, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_cst_0 : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_c : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_call0_c_0 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_1 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_v16 : Ref sig .tc := ⟨.hbm, 60, rfl⟩
abbrev main_call0_call0_v17 : Ref sig .tc := ⟨.hbm, 61, rfl⟩
abbrev main_call0_call0_c_2 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_v21 : Ref sig .tc := ⟨.hbm, 66, rfl⟩
abbrev main_call0_call0_call0_v0 : Ref sig .tc := ⟨.hbm, 67, rfl⟩
abbrev main_call0_call0_call0_c : Ref sig .tc := ⟨.hbm, 68, rfl⟩
abbrev main_call0_call0_call0_v1 : Ref sig .tc := ⟨.hbm, 69, rfl⟩
abbrev main_call0_call0_call0_v2 : Ref sig .tc := ⟨.hbm, 70, rfl⟩
abbrev main_call0_call0_call0_v3 : Ref sig .tc := ⟨.hbm, 71, rfl⟩
abbrev main_call0_call0_call0_v4 : Ref sig .tc := ⟨.hbm, 72, rfl⟩
abbrev main_call0_call0_call0_v5 : Ref sig .tc := ⟨.hbm, 73, rfl⟩
abbrev main_call0_call0_call0_v6 : Ref sig .tc := ⟨.hbm, 74, rfl⟩
abbrev main_call0_call0_call0_c_0 : Ref sig .tc := ⟨.hbm, 75, rfl⟩
abbrev main_call0_call0_call0_v7 : Ref sig .tc := ⟨.hbm, 76, rfl⟩
abbrev main_call0_call0_call0_v8 : Ref sig .tc := ⟨.hbm, 77, rfl⟩
abbrev main_call0_call0_call0_c_1 : Ref sig .tc := ⟨.hbm, 78, rfl⟩
abbrev main_call0_call0_call0_v9 : Ref sig .tc := ⟨.hbm, 79, rfl⟩
abbrev main_call0_call0_call0_v10 : Ref sig .tc := ⟨.hbm, 80, rfl⟩
abbrev main_call0_call0_call0_v11 : Ref sig .tc := ⟨.hbm, 81, rfl⟩
abbrev main_call0_call0_call0_v12 : Ref sig .tc := ⟨.hbm, 82, rfl⟩
abbrev main_call0_call0_call0_v13 : Ref sig .tc := ⟨.hbm, 83, rfl⟩
abbrev main_call0_call0_call0_c_2 : Ref sig .tc := ⟨.hbm, 84, rfl⟩
abbrev main_call0_call0_call0_v14 : Ref sig .tc := ⟨.hbm, 85, rfl⟩
abbrev main_call0_call0_call0_v15 : Ref sig .tc := ⟨.hbm, 86, rfl⟩
abbrev main_call0_call0_call0_c_3 : Ref sig .tc := ⟨.hbm, 87, rfl⟩
abbrev main_call0_call0_call0_v16 : Ref sig .tc := ⟨.hbm, 88, rfl⟩
abbrev main_call0_call0_call0_v17 : Ref sig .tc := ⟨.hbm, 89, rfl⟩
abbrev main_call0_call0_call0_v18 : Ref sig .tc := ⟨.hbm, 90, rfl⟩
abbrev main_call0_call0_call0_v19 : Ref sig .tc := ⟨.hbm, 91, rfl⟩
abbrev main_call0_call0_call0_v20 : Ref sig .tc := ⟨.hbm, 92, rfl⟩
abbrev main_call0_call0_call0_c_4 : Ref sig .tc := ⟨.hbm, 93, rfl⟩
abbrev main_call0_call0_call0_v21 : Ref sig .tc := ⟨.hbm, 94, rfl⟩
abbrev main_call0_call0_call0_v22 : Ref sig .tc := ⟨.hbm, 95, rfl⟩
abbrev main_call0_call0_call0_c_5 : Ref sig .tc := ⟨.hbm, 96, rfl⟩
abbrev main_call0_call0_call0_v23 : Ref sig .tc := ⟨.hbm, 97, rfl⟩
abbrev main_call0_call0_call0_v24 : Ref sig .tc := ⟨.hbm, 98, rfl⟩
abbrev main_call0_call0_call0_v25 : Ref sig .tc := ⟨.hbm, 99, rfl⟩
abbrev main_call0_call0_call0_v26 : Ref sig .tc := ⟨.hbm, 100, rfl⟩
abbrev main_call0_call0_call0_v27 : Ref sig .tc := ⟨.hbm, 101, rfl⟩
abbrev main_call0_call0_call0_c_6 : Ref sig .tc := ⟨.hbm, 102, rfl⟩
abbrev main_call0_call0_call0_v28 : Ref sig .tc := ⟨.hbm, 103, rfl⟩
abbrev main_call0_call0_call0_v29 : Ref sig .tc := ⟨.hbm, 104, rfl⟩
abbrev main_call0_call0_call0_c_7 : Ref sig .tc := ⟨.hbm, 105, rfl⟩
abbrev main_call0_call0_call0_v30 : Ref sig .tc := ⟨.hbm, 106, rfl⟩
abbrev main_call0_call0_call0_v31 : Ref sig .tc := ⟨.hbm, 107, rfl⟩
abbrev main_call0_call0_call0_v32 : Ref sig .tc := ⟨.hbm, 108, rfl⟩
abbrev main_call0_call0_call0_v33 : Ref sig .tc := ⟨.hbm, 109, rfl⟩
abbrev main_call0_call0_call0_v34 : Ref sig .tc := ⟨.hbm, 110, rfl⟩
abbrev main_call0_call0_call0_v35 : Ref sig .tc := ⟨.hbm, 111, rfl⟩
abbrev main_call0_call0_call0_v36 : Ref sig .tc := ⟨.hbm, 112, rfl⟩
abbrev main_call0_call0_call0_v37 : Ref sig .tc := ⟨.hbm, 113, rfl⟩
abbrev main_call0_call0_call0_c_8 : Ref sig .tc := ⟨.hbm, 114, rfl⟩
abbrev main_call0_call0_call0_v38 : Ref sig .tc := ⟨.hbm, 115, rfl⟩
abbrev main_call0_call0_call0_v39 : Ref sig .tc := ⟨.hbm, 116, rfl⟩
abbrev main_call0_call0_call0_v40 : Ref sig .tc := ⟨.hbm, 117, rfl⟩
abbrev main_call0_call0_call0_c_9 : Ref sig .tc := ⟨.hbm, 118, rfl⟩
abbrev main_call0_call0_call0_v41 : Ref sig .tc := ⟨.hbm, 119, rfl⟩
abbrev main_call0_call0_call0_v42 : Ref sig .tc := ⟨.hbm, 120, rfl⟩
abbrev main_call0_call0_call0_c_10 : Ref sig .tc := ⟨.hbm, 121, rfl⟩
abbrev main_call0_call0_call0_v43 : Ref sig .tc := ⟨.hbm, 122, rfl⟩
abbrev main_call0_call0_call0_v44 : Ref sig .tc := ⟨.hbm, 123, rfl⟩
abbrev main_call0_call0_call0_v45 : Ref sig .tc := ⟨.hbm, 124, rfl⟩
abbrev main_call0_call0_call0_v46 : Ref sig .tc := ⟨.hbm, 125, rfl⟩
abbrev main_call0_call0_call0_v47 : Ref sig .tc := ⟨.hbm, 126, rfl⟩
abbrev main_call0_call0_call0_c_11 : Ref sig .tc := ⟨.hbm, 127, rfl⟩
abbrev main_call0_call0_call0_v48 : Ref sig .tc := ⟨.hbm, 128, rfl⟩
abbrev main_call0_call0_call0_v49 : Ref sig .tc := ⟨.hbm, 129, rfl⟩
abbrev main_call0_call0_call0_c_12 : Ref sig .tc := ⟨.hbm, 130, rfl⟩
abbrev main_call0_call0_call0_v50 : Ref sig .tc := ⟨.hbm, 131, rfl⟩
abbrev main_call0_call0_call0_v51 : Ref sig .tc := ⟨.hbm, 132, rfl⟩
abbrev main_call0_call0_call0_v52 : Ref sig .tc := ⟨.hbm, 133, rfl⟩
abbrev main_call0_call0_call0_v53 : Ref sig .tc := ⟨.hbm, 134, rfl⟩
abbrev main_call0_call0_call0_v54 : Ref sig .tc := ⟨.hbm, 135, rfl⟩
abbrev main_call0_call0_call0_c_13 : Ref sig .tc := ⟨.hbm, 136, rfl⟩
abbrev main_call0_call0_call0_v55 : Ref sig .tc := ⟨.hbm, 137, rfl⟩
abbrev main_call0_call0_call0_v56 : Ref sig .tc := ⟨.hbm, 138, rfl⟩
abbrev main_call0_call0_call0_c_14 : Ref sig .tc := ⟨.hbm, 139, rfl⟩
abbrev main_call0_call0_call0_v57 : Ref sig .tc := ⟨.hbm, 140, rfl⟩
abbrev main_call0_call0_call0_v58 : Ref sig .tc := ⟨.hbm, 141, rfl⟩
abbrev main_call0_call0_call0_v59 : Ref sig .tc := ⟨.hbm, 142, rfl⟩
abbrev main_call0_call0_call0_v60 : Ref sig .tc := ⟨.hbm, 143, rfl⟩
abbrev main_call0_call0_call0_v61 : Ref sig .tc := ⟨.hbm, 144, rfl⟩
abbrev main_call0_call0_call0_c_15 : Ref sig .tc := ⟨.hbm, 145, rfl⟩
abbrev main_call0_call0_call0_v62 : Ref sig .tc := ⟨.hbm, 146, rfl⟩
abbrev main_call0_call0_call0_v63 : Ref sig .tc := ⟨.hbm, 147, rfl⟩
abbrev main_call0_call0_call0_c_16 : Ref sig .tc := ⟨.hbm, 148, rfl⟩
abbrev main_call0_call0_call0_v64 : Ref sig .tc := ⟨.hbm, 149, rfl⟩
abbrev main_call0_call0_call0_v65 : Ref sig .tc := ⟨.hbm, 150, rfl⟩
abbrev main_call0_call0_call0_v66 : Ref sig .tc := ⟨.hbm, 151, rfl⟩
abbrev main_call0_call0_call0_v67 : Ref sig .tc := ⟨.hbm, 152, rfl⟩
abbrev main_call0_call0_call0_v68 : Ref sig .tc := ⟨.hbm, 153, rfl⟩
abbrev main_call0_call0_call0_v69 : Ref sig .tc := ⟨.hbm, 154, rfl⟩
abbrev main_call0_call0_call0_v70 : Ref sig .tc := ⟨.hbm, 155, rfl⟩
abbrev main_call0_call0_call0_v71 : Ref sig .tc := ⟨.hbm, 156, rfl⟩
abbrev main_call0_call0_call0_c_17 : Ref sig .tc := ⟨.hbm, 157, rfl⟩
abbrev main_call0_call0_call0_v72 : Ref sig .tc := ⟨.hbm, 158, rfl⟩
abbrev main_call0_call0_call0_v73 : Ref sig .tc := ⟨.hbm, 159, rfl⟩
abbrev main_call0_call0_call0_v74 : Ref sig .tc := ⟨.hbm, 160, rfl⟩
abbrev main_call0_call0_call0_c_18 : Ref sig .tc := ⟨.hbm, 161, rfl⟩
abbrev main_call0_call0_call0_v75 : Ref sig .tc := ⟨.hbm, 162, rfl⟩
abbrev main_call0_call0_call0_v76 : Ref sig .tc := ⟨.hbm, 163, rfl⟩
abbrev main_call0_call0_call0_c_19 : Ref sig .tc := ⟨.hbm, 164, rfl⟩
abbrev main_call0_call0_call0_v77 : Ref sig .tc := ⟨.hbm, 165, rfl⟩
abbrev main_call0_call0_call0_v78 : Ref sig .tc := ⟨.hbm, 166, rfl⟩
abbrev main_call0_call0_call0_v79 : Ref sig .tc := ⟨.hbm, 167, rfl⟩
abbrev main_call0_call0_call0_v80 : Ref sig .tc := ⟨.hbm, 168, rfl⟩
abbrev main_call0_call0_call0_v81 : Ref sig .tc := ⟨.hbm, 169, rfl⟩
abbrev main_call0_call0_call0_c_20 : Ref sig .tc := ⟨.hbm, 170, rfl⟩
abbrev main_call0_call0_call0_v82 : Ref sig .tc := ⟨.hbm, 171, rfl⟩
abbrev main_call0_call0_call0_v83 : Ref sig .tc := ⟨.hbm, 172, rfl⟩
abbrev main_call0_call0_call0_c_21 : Ref sig .tc := ⟨.hbm, 173, rfl⟩
abbrev main_call0_call0_call0_v84 : Ref sig .tc := ⟨.hbm, 174, rfl⟩
abbrev main_call0_call0_call0_v85 : Ref sig .tc := ⟨.hbm, 175, rfl⟩
abbrev main_call0_call0_call0_v86 : Ref sig .tc := ⟨.hbm, 176, rfl⟩
abbrev main_call0_call0_call0_v87 : Ref sig .tc := ⟨.hbm, 177, rfl⟩
abbrev main_call0_call0_call0_v88 : Ref sig .tc := ⟨.hbm, 178, rfl⟩
abbrev main_call0_call0_call0_c_22 : Ref sig .tc := ⟨.hbm, 179, rfl⟩
abbrev main_call0_call0_call0_v89 : Ref sig .tc := ⟨.hbm, 180, rfl⟩
abbrev main_call0_call0_call0_v90 : Ref sig .tc := ⟨.hbm, 181, rfl⟩
abbrev main_call0_call0_call0_c_23 : Ref sig .tc := ⟨.hbm, 182, rfl⟩
abbrev main_call0_call0_call0_v91 : Ref sig .tc := ⟨.hbm, 183, rfl⟩
abbrev main_call0_call0_call0_v92 : Ref sig .tc := ⟨.hbm, 184, rfl⟩
abbrev main_call0_call0_call0_v93 : Ref sig .tc := ⟨.hbm, 185, rfl⟩
abbrev main_call0_call0_call0_v94 : Ref sig .tc := ⟨.hbm, 186, rfl⟩
abbrev main_call0_call0_call0_v95 : Ref sig .tc := ⟨.hbm, 187, rfl⟩
abbrev main_call0_call0_call0_c_24 : Ref sig .tc := ⟨.hbm, 188, rfl⟩
abbrev main_call0_call0_call0_v96 : Ref sig .tc := ⟨.hbm, 189, rfl⟩
abbrev main_call0_call0_call0_v97 : Ref sig .tc := ⟨.hbm, 190, rfl⟩
abbrev main_call0_call0_call0_c_25 : Ref sig .tc := ⟨.hbm, 191, rfl⟩
abbrev main_call0_call0_call0_v98 : Ref sig .tc := ⟨.hbm, 192, rfl⟩
abbrev main_call0_call0_call0_v99 : Ref sig .tc := ⟨.hbm, 193, rfl⟩
abbrev main_call0_call0_call0_v100 : Ref sig .tc := ⟨.hbm, 194, rfl⟩
abbrev main_call0_call0_call0_v101 : Ref sig .tc := ⟨.hbm, 195, rfl⟩
abbrev main_call0_call0_call0_v102 : Ref sig .tc := ⟨.hbm, 196, rfl⟩
abbrev main_call0_call0_call0_v103 : Ref sig .tc := ⟨.hbm, 197, rfl⟩
abbrev main_call0_call0_call0_v104 : Ref sig .tc := ⟨.hbm, 198, rfl⟩
abbrev main_call0_call0_call0_v105 : Ref sig .tc := ⟨.hbm, 199, rfl⟩
abbrev main_call0_call0_call0_c_26 : Ref sig .tc := ⟨.hbm, 200, rfl⟩
abbrev main_call0_call0_call0_v106 : Ref sig .tc := ⟨.hbm, 201, rfl⟩
abbrev main_call0_call0_call0_v107 : Ref sig .tc := ⟨.hbm, 202, rfl⟩
abbrev main_call0_call0_call0_v108 : Ref sig .tc := ⟨.hbm, 203, rfl⟩
abbrev main_call0_call0_call0_c_27 : Ref sig .tc := ⟨.hbm, 204, rfl⟩
abbrev main_call0_call0_call0_v109 : Ref sig .tc := ⟨.hbm, 205, rfl⟩
abbrev main_call0_call0_call0_v110 : Ref sig .tc := ⟨.hbm, 206, rfl⟩
abbrev main_call0_call0_call0_c_28 : Ref sig .tc := ⟨.hbm, 207, rfl⟩
abbrev main_call0_call0_call0_v111 : Ref sig .tc := ⟨.hbm, 208, rfl⟩
abbrev main_call0_call0_call0_v112 : Ref sig .tc := ⟨.hbm, 209, rfl⟩
abbrev main_call0_call0_call0_v113 : Ref sig .tc := ⟨.hbm, 210, rfl⟩
abbrev main_call0_call0_call0_v114 : Ref sig .tc := ⟨.hbm, 211, rfl⟩
abbrev main_call0_call0_call0_v115 : Ref sig .tc := ⟨.hbm, 212, rfl⟩
abbrev main_call0_call0_call0_c_29 : Ref sig .tc := ⟨.hbm, 213, rfl⟩
abbrev main_call0_call0_call0_v116 : Ref sig .tc := ⟨.hbm, 214, rfl⟩
abbrev main_call0_call0_call0_v117 : Ref sig .tc := ⟨.hbm, 215, rfl⟩
abbrev main_call0_call0_call0_c_30 : Ref sig .tc := ⟨.hbm, 216, rfl⟩
abbrev main_call0_call0_call0_v118 : Ref sig .tc := ⟨.hbm, 217, rfl⟩
abbrev main_call0_call0_call0_v119 : Ref sig .tc := ⟨.hbm, 218, rfl⟩
abbrev main_call0_call0_call0_v120 : Ref sig .tc := ⟨.hbm, 219, rfl⟩
abbrev main_call0_call0_call0_v121 : Ref sig .tc := ⟨.hbm, 220, rfl⟩
abbrev main_call0_call0_call0_v122 : Ref sig .tc := ⟨.hbm, 221, rfl⟩
abbrev main_call0_call0_call0_c_31 : Ref sig .tc := ⟨.hbm, 222, rfl⟩
abbrev main_call0_call0_call0_v123 : Ref sig .tc := ⟨.hbm, 223, rfl⟩
abbrev main_call0_call0_call0_v124 : Ref sig .tc := ⟨.hbm, 224, rfl⟩
abbrev main_call0_call0_call0_c_32 : Ref sig .tc := ⟨.hbm, 225, rfl⟩
abbrev main_call0_call0_call0_v125 : Ref sig .tc := ⟨.hbm, 226, rfl⟩
abbrev main_call0_call0_call0_v126 : Ref sig .tc := ⟨.hbm, 227, rfl⟩
abbrev main_call0_call0_call0_v127 : Ref sig .tc := ⟨.hbm, 228, rfl⟩
abbrev main_call0_call0_call0_v128 : Ref sig .tc := ⟨.hbm, 229, rfl⟩
abbrev main_call0_call0_call0_v129 : Ref sig .tc := ⟨.hbm, 230, rfl⟩
abbrev main_call0_call0_call0_c_33 : Ref sig .tc := ⟨.hbm, 231, rfl⟩
abbrev main_call0_call0_call0_v130 : Ref sig .tc := ⟨.hbm, 232, rfl⟩
abbrev main_call0_call0_call0_v131 : Ref sig .tc := ⟨.hbm, 233, rfl⟩
abbrev main_call0_call0_call0_c_34 : Ref sig .tc := ⟨.hbm, 234, rfl⟩
abbrev main_call0_call0_call0_v132 : Ref sig .tc := ⟨.hbm, 235, rfl⟩
abbrev main_call0_call0_call0_v133 : Ref sig .tc := ⟨.hbm, 236, rfl⟩
abbrev main_call0_call0_call0_v134 : Ref sig .tc := ⟨.hbm, 237, rfl⟩
abbrev main_call0_call0_call0_v135 : Ref sig .tc := ⟨.hbm, 238, rfl⟩
abbrev main_call0_call0_call0_v136 : Ref sig .tc := ⟨.hbm, 239, rfl⟩
abbrev main_call0_call0_call0_v137 : Ref sig .tc := ⟨.hbm, 240, rfl⟩
abbrev main_call0_call0_call0_v138 : Ref sig .tc := ⟨.hbm, 241, rfl⟩
abbrev main_call0_call0_call0_v139 : Ref sig .tc := ⟨.hbm, 242, rfl⟩
abbrev main_call0_call0_call0_c_35 : Ref sig .tc := ⟨.hbm, 243, rfl⟩
abbrev main_call0_call0_call0_v140 : Ref sig .tc := ⟨.hbm, 244, rfl⟩
abbrev main_call0_call0_call0_v141 : Ref sig .tc := ⟨.hbm, 245, rfl⟩
abbrev main_call0_call0_call0_v142 : Ref sig .tc := ⟨.hbm, 246, rfl⟩
abbrev main_call0_call0_call0_c_36 : Ref sig .tc := ⟨.hbm, 247, rfl⟩
abbrev main_call0_call0_call0_v143 : Ref sig .tc := ⟨.hbm, 248, rfl⟩
abbrev main_call0_call0_call0_v144 : Ref sig .tc := ⟨.hbm, 249, rfl⟩
abbrev main_call0_call0_call0_c_37 : Ref sig .tc := ⟨.hbm, 250, rfl⟩
abbrev main_call0_call0_call0_v145 : Ref sig .tc := ⟨.hbm, 251, rfl⟩
abbrev main_call0_call0_call0_v146 : Ref sig .tc := ⟨.hbm, 252, rfl⟩
abbrev main_call0_call0_call0_v147 : Ref sig .tc := ⟨.hbm, 253, rfl⟩
abbrev main_call0_call0_call0_v148 : Ref sig .tc := ⟨.hbm, 254, rfl⟩
abbrev main_call0_call0_call0_v149 : Ref sig .tc := ⟨.hbm, 255, rfl⟩
abbrev main_call0_call0_call0_c_38 : Ref sig .tc := ⟨.hbm, 256, rfl⟩
abbrev main_call0_call0_call0_v150 : Ref sig .tc := ⟨.hbm, 257, rfl⟩
abbrev main_call0_call0_call0_v151 : Ref sig .tc := ⟨.hbm, 258, rfl⟩
abbrev main_call0_call0_call0_c_39 : Ref sig .tc := ⟨.hbm, 259, rfl⟩
abbrev main_call0_call0_call0_v152 : Ref sig .tc := ⟨.hbm, 260, rfl⟩
abbrev main_call0_call0_call0_v153 : Ref sig .tc := ⟨.hbm, 261, rfl⟩
abbrev main_call0_call0_call0_v154 : Ref sig .tc := ⟨.hbm, 262, rfl⟩
abbrev main_call0_call0_call0_v155 : Ref sig .tc := ⟨.hbm, 263, rfl⟩
abbrev main_call0_call0_call0_v156 : Ref sig .tc := ⟨.hbm, 264, rfl⟩
abbrev main_call0_call0_call0_c_40 : Ref sig .tc := ⟨.hbm, 265, rfl⟩
abbrev main_call0_call0_call0_v157 : Ref sig .tc := ⟨.hbm, 266, rfl⟩
abbrev main_call0_call0_call0_v158 : Ref sig .tc := ⟨.hbm, 267, rfl⟩
abbrev main_call0_call0_call0_c_41 : Ref sig .tc := ⟨.hbm, 268, rfl⟩
abbrev main_call0_call0_call0_v159 : Ref sig .tc := ⟨.hbm, 269, rfl⟩
abbrev main_call0_call0_call0_v160 : Ref sig .tc := ⟨.hbm, 270, rfl⟩
abbrev main_call0_call0_call0_v161 : Ref sig .tc := ⟨.hbm, 271, rfl⟩
abbrev main_call0_call0_call0_v162 : Ref sig .tc := ⟨.hbm, 272, rfl⟩
abbrev main_call0_call0_call0_v163 : Ref sig .tc := ⟨.hbm, 273, rfl⟩
abbrev main_call0_call0_call0_c_42 : Ref sig .tc := ⟨.hbm, 274, rfl⟩
abbrev main_call0_call0_call0_v164 : Ref sig .tc := ⟨.hbm, 275, rfl⟩
abbrev main_call0_call0_call0_v165 : Ref sig .tc := ⟨.hbm, 276, rfl⟩
abbrev main_call0_call0_call0_c_43 : Ref sig .tc := ⟨.hbm, 277, rfl⟩
abbrev main_call0_call0_call0_v166 : Ref sig .tc := ⟨.hbm, 278, rfl⟩
abbrev main_call0_call0_call0_v167 : Ref sig .tc := ⟨.hbm, 279, rfl⟩
abbrev main_call0_call0_call0_v168 : Ref sig .tc := ⟨.hbm, 280, rfl⟩
abbrev main_call0_call0_call0_v169 : Ref sig .tc := ⟨.hbm, 281, rfl⟩
abbrev main_call0_call0_call0_v170 : Ref sig .tc := ⟨.hbm, 282, rfl⟩
abbrev main_call0_call0_v22_0 : Ref sig .tc := ⟨.hbm, 283, rfl⟩
abbrev main_call0_call0_call0_v172 : Ref sig .tc := ⟨.hbm, 284, rfl⟩
abbrev main_call0_call0_call0_v173 : Ref sig .tc := ⟨.hbm, 285, rfl⟩
abbrev main_call0_call0_call0_c_44 : Ref sig .tc := ⟨.hbm, 286, rfl⟩
abbrev main_call0_call0_call0_v174 : Ref sig .tc := ⟨.hbm, 287, rfl⟩
abbrev main_call0_call0_v22_1 : Ref sig .tc := ⟨.hbm, 288, rfl⟩
abbrev main_call0_call0_v23 : Ref sig .tc := ⟨.hbm, 289, rfl⟩
abbrev main_call0_call0_c_3 : Ref sig .tc := ⟨.hbm, 290, rfl⟩
abbrev main_call0_call0_v24 : Ref sig .tc := ⟨.hbm, 291, rfl⟩
abbrev main_call0_call0_v25 : Ref sig .tc := ⟨.hbm, 292, rfl⟩
abbrev main_call0_call0_c_4 : Ref sig .tc := ⟨.hbm, 293, rfl⟩
abbrev main_call0_call0_v26 : Ref sig .tc := ⟨.hbm, 294, rfl⟩
abbrev main_call0_call0_v27 : Ref sig .tc := ⟨.hbm, 295, rfl⟩
abbrev main_call0_call0_v28 : Ref sig .tc := ⟨.hbm, 296, rfl⟩
abbrev main_call0_call0_cst : Ref sig .tc := ⟨.hbm, 297, rfl⟩
abbrev main_call0_call0_v29 : Ref sig .tc := ⟨.hbm, 298, rfl⟩
abbrev main_call0_call0_v30 : Ref sig .tc := ⟨.hbm, 299, rfl⟩
abbrev main_call0_call0_v31 : Ref sig .tc := ⟨.hbm, 300, rfl⟩
abbrev main_call0_call0_v32 : Ref sig .tc := ⟨.hbm, 301, rfl⟩
abbrev main_call0_call0_v33 : Ref sig .tc := ⟨.hbm, 302, rfl⟩
abbrev main_call0_call0_v34 : Ref sig .tc := ⟨.hbm, 303, rfl⟩
abbrev main_call0_call0_v35 : Ref sig .tc := ⟨.hbm, 304, rfl⟩
abbrev main_call0_call0_v36 : Ref sig .tc := ⟨.hbm, 305, rfl⟩
abbrev main_call0_v0 : Ref sig .tc := ⟨.hbm, 306, rfl⟩
abbrev main_call0_v1 : Ref sig .tc := ⟨.hbm, 307, rfl⟩
abbrev main_call0_v2 : Ref sig .tc := ⟨.hbm, 308, rfl⟩
abbrev main_call0_v3 : Ref sig .tc := ⟨.hbm, 309, rfl⟩
abbrev main_v28 : Ref sig .tc := ⟨.hbm, 310, rfl⟩
abbrev main_v29 : Ref sig .tc := ⟨.hbm, 311, rfl⟩
abbrev main_call1_v0 : Ref sig .tc := ⟨.hbm, 312, rfl⟩
abbrev main_call1_cst : Ref sig .tc := ⟨.hbm, 313, rfl⟩
abbrev main_call1_c : Ref sig .tc := ⟨.hbm, 314, rfl⟩
abbrev main_call1_v1_0 : Ref sig .tc := ⟨.hbm, 315, rfl⟩
abbrev main_v30 : Ref sig .tc := ⟨.hbm, 316, rfl⟩
abbrev main_call2_v0 : Ref sig .tc := ⟨.hbm, 317, rfl⟩
abbrev main_call2_v1 : Ref sig .tc := ⟨.hbm, 318, rfl⟩
abbrev main_call2_v2 : Ref sig .tc := ⟨.hbm, 319, rfl⟩
abbrev main_call2_v3 : Ref sig .tc := ⟨.hbm, 320, rfl⟩
abbrev main_call2_v4 : Ref sig .tc := ⟨.hbm, 321, rfl⟩
abbrev main_v31 : Ref sig .tc := ⟨.hbm, 322, rfl⟩
abbrev main_v32 : Ref sig .tc := ⟨.hbm, 323, rfl⟩
abbrev main_v33 : Ref sig .tc := ⟨.hbm, 324, rfl⟩

abbrev nD : Nat := 1
abbrev τ : Topo := Topo.v7x

variable {F : FTy → Type} [FloatOps F]
-- ==== Proof.RefOps.lean ====
/- The reference's main function as a list of its 324 host operations, cut into windows of thirty. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v26`, named. It packs its operands into a list of dependent pairs
    whose shapes a later argument's type mentions, so `simp` cannot rewrite an operand where it stands; applied by
    name, the operands are plain arguments, which the window lemmas below rewrite before the name unfolds. -/
def fn_main_v26 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 324 (@main, which the printer did not cut). -/
abbrev ops_0 : List (HloOp τ sig (Elt F)) :=
  [ reshape main_arg0 main_v0 (rfl : (.f32 : EltTy) = .f32) shapeCasts_S4096x1024_S4096x32x32,
    nullary main_cst (constant S_ .f32 0xFF800000#32),
    binary main_v0 main_cst main_v1 ((fun x v => Host.reduce FloatOps.maximumf x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    nullary main_cst_0 (constant S_ .f32 0xFF800000#32),
    unary main_cst_0 main_v2 (broadcastInDim S4096x32 ![] bcast_S_S4096x32 : (⟨S_, .f32⟩ : BufTy).Contents (Elt F) → (⟨S4096x32, .f32⟩ : BufTy).Contents (Elt F)),
    binary main_v2 main_v1 main_v3 (maximumf : (⟨S4096x32, .f32⟩ : BufTy).Contents (Elt F) → (⟨S4096x32, .f32⟩ : BufTy).Contents (Elt F) → (⟨S4096x32, .f32⟩ : BufTy).Contents (Elt F)),
    unary main_v3 main_v4 (broadcastInDim S4096x32x1 ![0, 1] bcast_S4096x32_S4096x32x1_0_1 : (⟨S4096x32, .f32⟩ : BufTy).Contents (Elt F) → (⟨S4096x32x1, .f32⟩ : BufTy).Contents (Elt F)),
    unary main_v4 main_v5 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    binary main_v0 main_v5 main_v6 (subf : (⟨S4096x32x32, .f32⟩ : BufTy).Contents (Elt F) → (⟨S4096x32x32, .f32⟩ : BufTy).Contents (Elt F) → (⟨S4096x32x32, .f32⟩ : BufTy).Contents (Elt F)),
    unary main_v6 main_v7 (Host.exp : (⟨S4096x32x32, .f32⟩ : BufTy).Contents (Elt F) → (⟨S4096x32x32, .f32⟩ : BufTy).Contents (Elt F)),
    nullary main_cst_1 (constant S_ .f32 0x00000000#32),
    binary main_v7 main_cst_1 main_v8 ((fun x v => Host.reduceAdd x v reducesTo_S4096x32x32_S4096x32_d2 h_S_) : (⟨S4096x32x32, .f32⟩ : BufTy).Contents (Elt F) → (⟨S_, .f32⟩ : BufTy).Contents (Elt F) → (⟨S4096x32, .f32⟩ : BufTy).Contents (Elt F)),
    unary main_v8 main_v9 (broadcastInDim S4096x32x1 ![0, 1] bcast_S4096x32_S4096x32x1_0_1 : (⟨S4096x32, .f32⟩ : BufTy).Contents (Elt F) → (⟨S4096x32x1, .f32⟩ : BufTy).Contents (Elt F)),
    unary main_v9 main_v10 (broadcastInDim S4096x32x32 ![0, 1, 2] bcast_S4096x32x1_S4096x32x32_0_1_2 : (⟨S4096x32x1, .f32⟩ : BufTy).Contents (Elt F) → (⟨S4096x32x32, .f32⟩ : BufTy).Contents (Elt F)),
    binary main_v7 main_v10 main_v11 (Host.divf : (⟨S4096x32x32, .f32⟩ : BufTy).Contents (Elt F) → (⟨S4096x32x32, .f32⟩ : BufTy).Contents (Elt F) → (⟨S4096x32x32, .f32⟩ : BufTy).Contents (Elt F)),
    nullary main_cst_2 (constant S_ .f32 0x3F800000#32),
    unary main_cst_2 main_v12 (broadcastInDim S4096x32x32 ![] bcast_S_S4096x32x32 : (⟨S_, .f32⟩ : BufTy).Contents (Elt F) → (⟨S4096x32x32, .f32⟩ : BufTy).Contents (Elt F)),
    nullary main_cst_3 (constant S_ .f32 0x3C23D70A#32),
    unary main_cst_3 main_v13 (broadcastInDim S4096x32x32 ![] bcast_S_S4096x32x32 : (⟨S_, .f32⟩ : BufTy).Contents (Elt F) → (⟨S4096x32x32, .f32⟩ : BufTy).Contents (Elt F)),
    binary main_v13 main_v12 main_v14 (mulf : (⟨S4096x32x32, .f32⟩ : BufTy).Contents (Elt F) → (⟨S4096x32x32, .f32⟩ : BufTy).Contents (Elt F) → (⟨S4096x32x32, .f32⟩ : BufTy).Contents (Elt F)),
    nullary main_cst_4 (constant S_ .f32 0x42000000#32),
    unary main_cst_4 main_v15 (broadcastInDim S4096x32x32 ![] bcast_S_S4096x32x32 : (⟨S_, .f32⟩ : BufTy).Contents (Elt F) → (⟨S4096x32x32, .f32⟩ : BufTy).Contents (Elt F)),
    binary main_v14 main_v15 main_v16 (Host.divf : (⟨S4096x32x32, .f32⟩ : BufTy).Contents (Elt F) → (⟨S4096x32x32, .f32⟩ : BufTy).Contents (Elt F) → (⟨S4096x32x32, .f32⟩ : BufTy).Contents (Elt F)),
    nullary main_cst_5 (constant S_ .f32 0x3F7D70A4#32),
    unary main_cst_5 main_v17 (broadcastInDim S4096x32x32 ![] bcast_S_S4096x32x32 : (⟨S_, .f32⟩ : BufTy).Contents (Elt F) → (⟨S4096x32x32, .f32⟩ : BufTy).Contents (Elt F)),
    binary main_v17 main_v11 main_v18 (mulf : (⟨S4096x32x32, .f32⟩ : BufTy).Contents (Elt F) → (⟨S4096x32x32, .f32⟩ : BufTy).Contents (Elt F) → (⟨S4096x32x32, .f32⟩ : BufTy).Contents (Elt F)),
    binary main_v16 main_v18 main_v19 (addf : (⟨S4096x32x32, .f32⟩ : BufTy).Contents (Elt F) → (⟨S4096x32x32, .f32⟩ : BufTy).Contents (Elt F) → (⟨S4096x32x32, .f32⟩ : BufTy).Contents (Elt F)),
    nullary main_c (constantI S_ 32 42#32),
    nullary main_c_6 (constantI S_ 32 32#32),
    binary main_c main_c_6 main_v20 (Host.shrui : (⟨S_, .i32⟩ : BufTy).Contents (Elt F) → (⟨S_, .i32⟩ : BufTy).Contents (Elt F) → (⟨S_, .i32⟩ : BufTy).Contents (Elt F)) ]

/-- @main's operations 31 … 60 of 324 (@main, which the printer did not cut). -/
abbrev ops_1 : List (HloOp τ sig (Elt F)) :=
  [ unary main_v20 main_v21 (id : (⟨S_, .i32⟩ : BufTy).Contents (Elt F) → (⟨S_, .i32⟩ : BufTy).Contents (Elt F)),
    unary main_v21 main_v22 (broadcastInDim S1 ![] bcast_S_S1 : (⟨S_, .i32⟩ : BufTy).Contents (Elt F) → (⟨S1, .i32⟩ : BufTy).Contents (Elt F)),
    nullary main_c_7 (constantI S_ 32 4294967295#32),
    binary main_c main_c_7 main_v23 (andi : (⟨S_, .i32⟩ : BufTy).Contents (Elt F) → (⟨S_, .i32⟩ : BufTy).Contents (Elt F) → (⟨S_, .i32⟩ : BufTy).Contents (Elt F)),
    unary main_v23 main_v24 (id : (⟨S_, .i32⟩ : BufTy).Contents (Elt F) → (⟨S_, .i32⟩ : BufTy).Contents (Elt F)),
    unary main_v24 main_v25 (broadcastInDim S1 ![] bcast_S_S1 : (⟨S_, .i32⟩ : BufTy).Contents (Elt F) → (⟨S1, .i32⟩ : BufTy).Contents (Elt F)),
    binary main_v22 main_v25 main_v26 (fn_main_v26 (F := F)),
    unary main_v19 main_v27 (Host.log : (⟨S4096x32x32, .f32⟩ : BufTy).Contents (Elt F) → (⟨S4096x32x32, .f32⟩ : BufTy).Contents (Elt F)),
    TRef.nullary (TRef.of (T := ⟨S_, .f32⟩) main_call0_cst) (constant S_ .f32 0x3F800000#32),
    TRef.nullary (TRef.of (T := ⟨S_, .f32⟩) main_call0_cst_0) (constant S_ .f32 0x00800000#32),
    TRef.unary (TRef.of (T := ⟨S_, .f32⟩) main_call0_cst) (TRef.of (T := ⟨S_, .f32⟩) main_call0_call0_v0) id,
    TRef.unary (TRef.of (T := ⟨S_, .f32⟩) main_call0_cst_0) (TRef.of (T := ⟨S1x1x1, .f32⟩) main_call0_call0_v1) (broadcastInDim S1x1x1 ![] bcast_S_S1x1x1),
    TRef.unary (TRef.of (T := ⟨S_, .f32⟩) main_call0_call0_v0) (TRef.of (T := ⟨S1x1x1, .f32⟩) main_call0_call0_v2) (broadcastInDim S1x1x1 ![] bcast_S_S1x1x1),
    TRef.unary (TRef.of (T := ⟨S2, .i32⟩) main_v26) (TRef.of (T := ⟨S1, .i32⟩) main_call0_call0_v3) (extractStridedSlice S1 ![0] · slices_S2_S1_0),
    TRef.reshape (TRef.of (T := ⟨S1, .i32⟩) main_call0_call0_v3) (TRef.of (T := ⟨S_, .i32⟩) main_call0_call0_v4) (rfl : (.i32 : EltTy) = .i32) shapeCasts_S1_S_,
    TRef.unary (TRef.of (T := ⟨S2, .i32⟩) main_v26) (TRef.of (T := ⟨S1, .i32⟩) main_call0_call0_v5) (extractStridedSlice S1 ![1] · slices_S2_S1_1),
    TRef.reshape (TRef.of (T := ⟨S1, .i32⟩) main_call0_call0_v5) (TRef.of (T := ⟨S_, .i32⟩) main_call0_call0_v6) (rfl : (.i32 : EltTy) = .i32) shapeCasts_S1_S_,
    TRef.nullary (TRef.of (T := ⟨S4096x32x32, .i64⟩) main_call0_call0_v7) (iotaInDim S4096x32x32 64 0),
    TRef.nullary (TRef.of (T := ⟨S4096x32x32, .i64⟩) main_call0_call0_v8) (iotaInDim S4096x32x32 64 1),
    TRef.nullary (TRef.of (T := ⟨S4096x32x32, .i64⟩) main_call0_call0_v9) (iotaInDim S4096x32x32 64 2),
    TRef.nullary (TRef.of (T := ⟨S_, .i64⟩) main_call0_call0_c) (constantI S_ 64 1024#64),
    TRef.unary (TRef.of (T := ⟨S_, .i64⟩) main_call0_call0_c) (TRef.of (T := ⟨S4096x32x32, .i64⟩) main_call0_call0_v10) (broadcastInDim S4096x32x32 ![] bcast_S_S4096x32x32),
    TRef.binary (TRef.of (T := ⟨S4096x32x32, .i64⟩) main_call0_call0_v10) (TRef.of (T := ⟨S4096x32x32, .i64⟩) main_call0_call0_v7) (TRef.of (T := ⟨S4096x32x32, .i64⟩) main_call0_call0_v11) muli,
    TRef.nullary (TRef.of (T := ⟨S_, .i64⟩) main_call0_call0_c_0) (constantI S_ 64 32#64),
    TRef.unary (TRef.of (T := ⟨S_, .i64⟩) main_call0_call0_c_0) (TRef.of (T := ⟨S4096x32x32, .i64⟩) main_call0_call0_v12) (broadcastInDim S4096x32x32 ![] bcast_S_S4096x32x32),
    TRef.binary (TRef.of (T := ⟨S4096x32x32, .i64⟩) main_call0_call0_v12) (TRef.of (T := ⟨S4096x32x32, .i64⟩) main_call0_call0_v8) (TRef.of (T := ⟨S4096x32x32, .i64⟩) main_call0_call0_v13) muli,
    TRef.nullary (TRef.of (T := ⟨S_, .i64⟩) main_call0_call0_c_1) (constantI S_ 64 1#64),
    TRef.unary (TRef.of (T := ⟨S_, .i64⟩) main_call0_call0_c_1) (TRef.of (T := ⟨S4096x32x32, .i64⟩) main_call0_call0_v14) (broadcastInDim S4096x32x32 ![] bcast_S_S4096x32x32),
    TRef.binary (TRef.of (T := ⟨S4096x32x32, .i64⟩) main_call0_call0_v14) (TRef.of (T := ⟨S4096x32x32, .i64⟩) main_call0_call0_v9) (TRef.of (T := ⟨S4096x32x32, .i64⟩) main_call0_call0_v15) muli,
    TRef.binary (TRef.of (T := ⟨S4096x32x32, .i64⟩) main_call0_call0_v11) (TRef.of (T := ⟨S4096x32x32, .i64⟩) main_call0_call0_v13) (TRef.of (T := ⟨S4096x32x32, .i64⟩) main_call0_call0_v16) addi ]

/-- @main's operations 61 … 90 of 324 (@main, which the printer did not cut). -/
abbrev ops_2 : List (HloOp τ sig (Elt F)) :=
  [ TRef.binary (TRef.of (T := ⟨S4096x32x32, .i64⟩) main_call0_call0_v16) (TRef.of (T := ⟨S4096x32x32, .i64⟩) main_call0_call0_v15) (TRef.of (T := ⟨S4096x32x32, .i64⟩) main_call0_call0_v17) addi,
    TRef.nullary (TRef.of (T := ⟨S_, .i64⟩) main_call0_call0_c_2) (constantI S_ 64 32#64),
    TRef.unary (TRef.of (T := ⟨S_, .i64⟩) main_call0_call0_c_2) (TRef.of (T := ⟨S4096x32x32, .i64⟩) main_call0_call0_v18) (broadcastInDim S4096x32x32 ![] bcast_S_S4096x32x32),
    TRef.binary (TRef.of (T := ⟨S4096x32x32, .i64⟩) main_call0_call0_v17) (TRef.of (T := ⟨S4096x32x32, .i64⟩) main_call0_call0_v18) (TRef.of (T := ⟨S4096x32x32, .i64⟩) main_call0_call0_v19) Host.shrui,
    TRef.unary (TRef.of (T := ⟨S4096x32x32, .i64⟩) main_call0_call0_v17) (TRef.of (T := ⟨S4096x32x32, .i32⟩) main_call0_call0_v20) (trunci 32 · natLt_32_64),
    TRef.unary (TRef.of (T := ⟨S4096x32x32, .i64⟩) main_call0_call0_v19) (TRef.of (T := ⟨S4096x32x32, .i32⟩) main_call0_call0_v21) (trunci 32 · natLt_32_64),
    TRef.binary (TRef.of (T := ⟨S_, .i32⟩) main_call0_call0_v4) (TRef.of (T := ⟨S_, .i32⟩) main_call0_call0_v6) (TRef.of (T := ⟨S_, .i32⟩) main_call0_call0_call0_v0) xori,
    TRef.nullary (TRef.of (T := ⟨S_, .i32⟩) main_call0_call0_call0_c) (constantI S_ 32 466688986#32),
    TRef.binary (TRef.of (T := ⟨S_, .i32⟩) main_call0_call0_call0_v0) (TRef.of (T := ⟨S_, .i32⟩) main_call0_call0_call0_c) (TRef.of (T := ⟨S_, .i32⟩) main_call0_call0_call0_v1) xori,
    TRef.unary (TRef.of (T := ⟨S_, .i32⟩) main_call0_call0_v4) (TRef.of (T := ⟨S4096x32x32, .i32⟩) main_call0_call0_call0_v2) (broadcastInDim S4096x32x32 ![] bcast_S_S4096x32x32),
    TRef.binary (TRef.of (T := ⟨S4096x32x32, .i32⟩) main_call0_call0_v21) (TRef.of (T := ⟨S4096x32x32, .i32⟩) main_call0_call0_call0_v2) (TRef.of (T := ⟨S4096x32x32, .i32⟩) main_call0_call0_call0_v3) addi,
    TRef.unary (TRef.of (T := ⟨S_, .i32⟩) main_call0_call0_v6) (TRef.of (T := ⟨S4096x32x32, .i32⟩) main_call0_call0_call0_v4) (broadcastInDim S4096x32x32 ![] bcast_S_S4096x32x32),
    TRef.binary (TRef.of (T := ⟨S4096x32x32, .i32⟩) main_call0_call0_v20) (TRef.of (T := ⟨S4096x32x32, .i32⟩) main_call0_call0_call0_v4) (TRef.of (T := ⟨S4096x32x32, .i32⟩) main_call0_call0_call0_v5) addi,
    TRef.binary (TRef.of (T := ⟨S4096x32x32, .i32⟩) main_call0_call0_call0_v3) (TRef.of (T := ⟨S4096x32x32, .i32⟩) main_call0_call0_call0_v5) (TRef.of (T := ⟨S4096x32x32, .i32⟩) main_call0_call0_call0_v6) addi,
    TRef.nullary (TRef.of (T := ⟨S_, .i32⟩) main_call0_call0_call0_c_0) (constantI S_ 32 13#32),
    TRef.unary (TRef.of (T := ⟨S_, .i32⟩) main_call0_call0_call0_c_0) (TRef.of (T := ⟨S4096x32x32, .i32⟩) main_call0_call0_call0_v7) (broadcastInDim S4096x32x32 ![] bcast_S_S4096x32x32),
    TRef.binary (TRef.of (T := ⟨S4096x32x32, .i32⟩) main_call0_call0_call0_v5) (TRef.of (T := ⟨S4096x32x32, .i32⟩) main_call0_call0_call0_v7) (TRef.of (T := ⟨S4096x32x32, .i32⟩) main_call0_call0_call0_v8) Host.shli,
    TRef.nullary (TRef.of (T := ⟨S_, .i32⟩) main_call0_call0_call0_c_1) (constantI S_ 32 19#32),
    TRef.unary (TRef.of (T := ⟨S_, .i32⟩) main_call0_call0_call0_c_1) (TRef.of (T := ⟨S4096x32x32, .i32⟩) main_call0_call0_call0_v9) (broadcastInDim S4096x32x32 ![] bcast_S_S4096x32x32),
    TRef.binary (TRef.of (T := ⟨S4096x32x32, .i32⟩) main_call0_call0_call0_v5) (TRef.of (T := ⟨S4096x32x32, .i32⟩) main_call0_call0_call0_v9) (TRef.of (T := ⟨S4096x32x32, .i32⟩) main_call0_call0_call0_v10) Host.shrui,
    TRef.binary (TRef.of (T := ⟨S4096x32x32, .i32⟩) main_call0_call0_call0_v8) (TRef.of (T := ⟨S4096x32x32, .i32⟩) main_call0_call0_call0_v10) (TRef.of (T := ⟨S4096x32x32, .i32⟩) main_call0_call0_call0_v11) ori,
    TRef.binary (TRef.of (T := ⟨S4096x32x32, .i32⟩) main_call0_call0_call0_v6) (TRef.of (T := ⟨S4096x32x32, .i32⟩) main_call0_call0_call0_v11) (TRef.of (T := ⟨S4096x32x32, .i32⟩) main_call0_call0_call0_v12) xori,
    TRef.binary (TRef.of (T := ⟨S4096x32x32, .i32⟩) main_call0_call0_call0_v6) (TRef.of (T := ⟨S4096x32x32, .i32⟩) main_call0_call0_call0_v12) (TRef.of (T := ⟨S4096x32x32, .i32⟩) main_call0_call0_call0_v13) addi,
    TRef.nullary (TRef.of (T := ⟨S_, .i32⟩) main_call0_call0_call0_c_2) (constantI S_ 32 15#32),
    TRef.unary (TRef.of (T := ⟨S_, .i32⟩) main_call0_call0_call0_c_2) (TRef.of (T := ⟨S4096x32x32, .i32⟩) main_call0_call0_call0_v14) (broadcastInDim S4096x32x32 ![] bcast_S_S4096x32x32),
    TRef.binary (TRef.of (T := ⟨S4096x32x32, .i32⟩) main_call0_call0_call0_v12) (TRef.of (T := ⟨S4096x32x32, .i32⟩) main_call0_call0_call0_v14) (TRef.of (T := ⟨S4096x32x32, .i32⟩) main_call0_call0_call0_v15) Host.shli,
    TRef.nullary (TRef.of (T := ⟨S_, .i32⟩) main_call0_call0_call0_c_3) (constantI S_ 32 17#32),
    TRef.unary (TRef.of (T := ⟨S_, .i32⟩) main_call0_call0_call0_c_3) (TRef.of (T := ⟨S4096x32x32, .i32⟩) main_call0_call0_call0_v16) (broadcastInDim S4096x32x32 ![] bcast_S_S4096x32x32),
    TRef.binary (TRef.of (T := ⟨S4096x32x32, .i32⟩) main_call0_call0_call0_v12) (TRef.of (T := ⟨S4096x32x32, .i32⟩) main_call0_call0_call0_v16) (TRef.of (T := ⟨S4096x32x32, .i32⟩) main_call0_call0_call0_v17) Host.shrui,
    TRef.binary (TRef.of (T := ⟨S4096x32x32, .i32⟩) main_call0_call0_call0_v15) (TRef.of (T := ⟨S4096x32x32, .i32⟩) main_call0_call0_call0_v17) (TRef.of (T := ⟨S4096x32x32, .i32⟩) main_call0_call0_call0_v18) ori ]

/-- @main's operations 91 … 120 of 324 (@main, which the printer did not cut). -/
abbrev ops_3 : List (HloOp τ sig (Elt F)) :=
  [ TRef.binary (TRef.of (T := ⟨S4096x32x32, .i32⟩) main_call0_call0_call0_v13) (TRef.of (T := ⟨S4096x32x32, .i32⟩) main_call0_call0_call0_v18) (TRef.of (T := ⟨S4096x32x32, .i32⟩) main_call0_call0_call0_v19) xori,
    TRef.binary (TRef.of (T := ⟨S4096x32x32, .i32⟩) main_call0_call0_call0_v13) (TRef.of (T := ⟨S4096x32x32, .i32⟩) main_call0_call0_call0_v19) (TRef.of (T := ⟨S4096x32x32, .i32⟩) main_call0_call0_call0_v20) addi,
    TRef.nullary (TRef.of (T := ⟨S_, .i32⟩) main_call0_call0_call0_c_4) (constantI S_ 32 26#32),
    TRef.unary (TRef.of (T := ⟨S_, .i32⟩) main_call0_call0_call0_c_4) (TRef.of (T := ⟨S4096x32x32, .i32⟩) main_call0_call0_call0_v21) (broadcastInDim S4096x32x32 ![] bcast_S_S4096x32x32),
    TRef.binary (TRef.of (T := ⟨S4096x32x32, .i32⟩) main_call0_call0_call0_v19) (TRef.of (T := ⟨S4096x32x32, .i32⟩) main_call0_call0_call0_v21) (TRef.of (T := ⟨S4096x32x32, .i32⟩) main_call0_call0_call0_v22) Host.shli,
    TRef.nullary (TRef.of (T := ⟨S_, .i32⟩) main_call0_call0_call0_c_5) (constantI S_ 32 6#32),
    TRef.unary (TRef.of (T := ⟨S_, .i32⟩) main_call0_call0_call0_c_5) (TRef.of (T := ⟨S4096x32x32, .i32⟩) main_call0_call0_call0_v23) (broadcastInDim S4096x32x32 ![] bcast_S_S4096x32x32),
    TRef.binary (TRef.of (T := ⟨S4096x32x32, .i32⟩) main_call0_call0_call0_v19) (TRef.of (T := ⟨S4096x32x32, .i32⟩) main_call0_call0_call0_v23) (TRef.of (T := ⟨S4096x32x32, .i32⟩) main_call0_call0_call0_v24) Host.shrui,
    TRef.binary (TRef.of (T := ⟨S4096x32x32, .i32⟩) main_call0_call0_call0_v22) (TRef.of (T := ⟨S4096x32x32, .i32⟩) main_call0_call0_call0_v24) (TRef.of (T := ⟨S4096x32x32, .i32⟩) main_call0_call0_call0_v25) ori,
    TRef.binary (TRef.of (T := ⟨S4096x32x32, .i32⟩) main_call0_call0_call0_v20) (TRef.of (T := ⟨S4096x32x32, .i32⟩) main_call0_call0_call0_v25) (TRef.of (T := ⟨S4096x32x32, .i32⟩) main_call0_call0_call0_v26) xori,
    TRef.binary (TRef.of (T := ⟨S4096x32x32, .i32⟩) main_call0_call0_call0_v20) (TRef.of (T := ⟨S4096x32x32, .i32⟩) main_call0_call0_call0_v26) (TRef.of (T := ⟨S4096x32x32, .i32⟩) main_call0_call0_call0_v27) addi,
    TRef.nullary (TRef.of (T := ⟨S_, .i32⟩) main_call0_call0_call0_c_6) (constantI S_ 32 6#32),
    TRef.unary (TRef.of (T := ⟨S_, .i32⟩) main_call0_call0_call0_c_6) (TRef.of (T := ⟨S4096x32x32, .i32⟩) main_call0_call0_call0_v28) (broadcastInDim S4096x32x32 ![] bcast_S_S4096x32x32),
    TRef.binary (TRef.of (T := ⟨S4096x32x32, .i32⟩) main_call0_call0_call0_v26) (TRef.of (T := ⟨S4096x32x32, .i32⟩) main_call0_call0_call0_v28) (TRef.of (T := ⟨S4096x32x32, .i32⟩) main_call0_call0_call0_v29) Host.shli,
    TRef.nullary (TRef.of (T := ⟨S_, .i32⟩) main_call0_call0_call0_c_7) (constantI S_ 32 26#32),
    TRef.unary (TRef.of (T := ⟨S_, .i32⟩) main_call0_call0_call0_c_7) (TRef.of (T := ⟨S4096x32x32, .i32⟩) main_call0_call0_call0_v30) (broadcastInDim S4096x32x32 ![] bcast_S_S4096x32x32),
    TRef.binary (TRef.of (T := ⟨S4096x32x32, .i32⟩) main_call0_call0_call0_v26) (TRef.of (T := ⟨S4096x32x32, .i32⟩) main_call0_call0_call0_v30) (TRef.of (T := ⟨S4096x32x32, .i32⟩) main_call0_call0_call0_v31) Host.shrui,
    TRef.binary (TRef.of (T := ⟨S4096x32x32, .i32⟩) main_call0_call0_call0_v29) (TRef.of (T := ⟨S4096x32x32, .i32⟩) main_call0_call0_call0_v31) (TRef.of (T := ⟨S4096x32x32, .i32⟩) main_call0_call0_call0_v32) ori,
    TRef.binary (TRef.of (T := ⟨S4096x32x32, .i32⟩) main_call0_call0_call0_v27) (TRef.of (T := ⟨S4096x32x32, .i32⟩) main_call0_call0_call0_v32) (TRef.of (T := ⟨S4096x32x32, .i32⟩) main_call0_call0_call0_v33) xori,
    TRef.unary (TRef.of (T := ⟨S_, .i32⟩) main_call0_call0_v6) (TRef.of (T := ⟨S4096x32x32, .i32⟩) main_call0_call0_call0_v34) (broadcastInDim S4096x32x32 ![] bcast_S_S4096x32x32),
    TRef.binary (TRef.of (T := ⟨S4096x32x32, .i32⟩) main_call0_call0_call0_v27) (TRef.of (T := ⟨S4096x32x32, .i32⟩) main_call0_call0_call0_v34) (TRef.of (T := ⟨S4096x32x32, .i32⟩) main_call0_call0_call0_v35) addi,
    TRef.unary (TRef.of (T := ⟨S_, .i32⟩) main_call0_call0_call0_v1) (TRef.of (T := ⟨S4096x32x32, .i32⟩) main_call0_call0_call0_v36) (broadcastInDim S4096x32x32 ![] bcast_S_S4096x32x32),
    TRef.binary (TRef.of (T := ⟨S4096x32x32, .i32⟩) main_call0_call0_call0_v33) (TRef.of (T := ⟨S4096x32x32, .i32⟩) main_call0_call0_call0_v36) (TRef.of (T := ⟨S4096x32x32, .i32⟩) main_call0_call0_call0_v37) addi,
    TRef.nullary (TRef.of (T := ⟨S_, .i32⟩) main_call0_call0_call0_c_8) (constantI S_ 32 1#32),
    TRef.unary (TRef.of (T := ⟨S_, .i32⟩) main_call0_call0_call0_c_8) (TRef.of (T := ⟨S4096x32x32, .i32⟩) main_call0_call0_call0_v38) (broadcastInDim S4096x32x32 ![] bcast_S_S4096x32x32),
    TRef.binary (TRef.of (T := ⟨S4096x32x32, .i32⟩) main_call0_call0_call0_v37) (TRef.of (T := ⟨S4096x32x32, .i32⟩) main_call0_call0_call0_v38) (TRef.of (T := ⟨S4096x32x32, .i32⟩) main_call0_call0_call0_v39) addi,
    TRef.binary (TRef.of (T := ⟨S4096x32x32, .i32⟩) main_call0_call0_call0_v35) (TRef.of (T := ⟨S4096x32x32, .i32⟩) main_call0_call0_call0_v39) (TRef.of (T := ⟨S4096x32x32, .i32⟩) main_call0_call0_call0_v40) addi,
    TRef.nullary (TRef.of (T := ⟨S_, .i32⟩) main_call0_call0_call0_c_9) (constantI S_ 32 17#32),
    TRef.unary (TRef.of (T := ⟨S_, .i32⟩) main_call0_call0_call0_c_9) (TRef.of (T := ⟨S4096x32x32, .i32⟩) main_call0_call0_call0_v41) (broadcastInDim S4096x32x32 ![] bcast_S_S4096x32x32),
    TRef.binary (TRef.of (T := ⟨S4096x32x32, .i32⟩) main_call0_call0_call0_v39) (TRef.of (T := ⟨S4096x32x32, .i32⟩) main_call0_call0_call0_v41) (TRef.of (T := ⟨S4096x32x32, .i32⟩) main_call0_call0_call0_v42) Host.shli ]

/-- @main's operations 121 … 150 of 324 (@main, which the printer did not cut). -/
abbrev ops_4 : List (HloOp τ sig (Elt F)) :=
  [ TRef.nullary (TRef.of (T := ⟨S_, .i32⟩) main_call0_call0_call0_c_10) (constantI S_ 32 15#32),
    TRef.unary (TRef.of (T := ⟨S_, .i32⟩) main_call0_call0_call0_c_10) (TRef.of (T := ⟨S4096x32x32, .i32⟩) main_call0_call0_call0_v43) (broadcastInDim S4096x32x32 ![] bcast_S_S4096x32x32),
    TRef.binary (TRef.of (T := ⟨S4096x32x32, .i32⟩) main_call0_call0_call0_v39) (TRef.of (T := ⟨S4096x32x32, .i32⟩) main_call0_call0_call0_v43) (TRef.of (T := ⟨S4096x32x32, .i32⟩) main_call0_call0_call0_v44) Host.shrui,
    TRef.binary (TRef.of (T := ⟨S4096x32x32, .i32⟩) main_call0_call0_call0_v42) (TRef.of (T := ⟨S4096x32x32, .i32⟩) main_call0_call0_call0_v44) (TRef.of (T := ⟨S4096x32x32, .i32⟩) main_call0_call0_call0_v45) ori,
    TRef.binary (TRef.of (T := ⟨S4096x32x32, .i32⟩) main_call0_call0_call0_v40) (TRef.of (T := ⟨S4096x32x32, .i32⟩) main_call0_call0_call0_v45) (TRef.of (T := ⟨S4096x32x32, .i32⟩) main_call0_call0_call0_v46) xori,
    TRef.binary (TRef.of (T := ⟨S4096x32x32, .i32⟩) main_call0_call0_call0_v40) (TRef.of (T := ⟨S4096x32x32, .i32⟩) main_call0_call0_call0_v46) (TRef.of (T := ⟨S4096x32x32, .i32⟩) main_call0_call0_call0_v47) addi,
    TRef.nullary (TRef.of (T := ⟨S_, .i32⟩) main_call0_call0_call0_c_11) (constantI S_ 32 29#32),
    TRef.unary (TRef.of (T := ⟨S_, .i32⟩) main_call0_call0_call0_c_11) (TRef.of (T := ⟨S4096x32x32, .i32⟩) main_call0_call0_call0_v48) (broadcastInDim S4096x32x32 ![] bcast_S_S4096x32x32),
    TRef.binary (TRef.of (T := ⟨S4096x32x32, .i32⟩) main_call0_call0_call0_v46) (TRef.of (T := ⟨S4096x32x32, .i32⟩) main_call0_call0_call0_v48) (TRef.of (T := ⟨S4096x32x32, .i32⟩) main_call0_call0_call0_v49) Host.shli,
    TRef.nullary (TRef.of (T := ⟨S_, .i32⟩) main_call0_call0_call0_c_12) (constantI S_ 32 3#32),
    TRef.unary (TRef.of (T := ⟨S_, .i32⟩) main_call0_call0_call0_c_12) (TRef.of (T := ⟨S4096x32x32, .i32⟩) main_call0_call0_call0_v50) (broadcastInDim S4096x32x32 ![] bcast_S_S4096x32x32),
    TRef.binary (TRef.of (T := ⟨S4096x32x32, .i32⟩) main_call0_call0_call0_v46) (TRef.of (T := ⟨S4096x32x32, .i32⟩) main_call0_call0_call0_v50) (TRef.of (T := ⟨S4096x32x32, .i32⟩) main_call0_call0_call0_v51) Host.shrui,
    TRef.binary (TRef.of (T := ⟨S4096x32x32, .i32⟩) main_call0_call0_call0_v49) (TRef.of (T := ⟨S4096x32x32, .i32⟩) main_call0_call0_call0_v51) (TRef.of (T := ⟨S4096x32x32, .i32⟩) main_call0_call0_call0_v52) ori,
    TRef.binary (TRef.of (T := ⟨S4096x32x32, .i32⟩) main_call0_call0_call0_v47) (TRef.of (T := ⟨S4096x32x32, .i32⟩) main_call0_call0_call0_v52) (TRef.of (T := ⟨S4096x32x32, .i32⟩) main_call0_call0_call0_v53) xori,
    TRef.binary (TRef.of (T := ⟨S4096x32x32, .i32⟩) main_call0_call0_call0_v47) (TRef.of (T := ⟨S4096x32x32, .i32⟩) main_call0_call0_call0_v53) (TRef.of (T := ⟨S4096x32x32, .i32⟩) main_call0_call0_call0_v54) addi,
    TRef.nullary (TRef.of (T := ⟨S_, .i32⟩) main_call0_call0_call0_c_13) (constantI S_ 32 16#32),
    TRef.unary (TRef.of (T := ⟨S_, .i32⟩) main_call0_call0_call0_c_13) (TRef.of (T := ⟨S4096x32x32, .i32⟩) main_call0_call0_call0_v55) (broadcastInDim S4096x32x32 ![] bcast_S_S4096x32x32),
    TRef.binary (TRef.of (T := ⟨S4096x32x32, .i32⟩) main_call0_call0_call0_v53) (TRef.of (T := ⟨S4096x32x32, .i32⟩) main_call0_call0_call0_v55) (TRef.of (T := ⟨S4096x32x32, .i32⟩) main_call0_call0_call0_v56) Host.shli,
    TRef.nullary (TRef.of (T := ⟨S_, .i32⟩) main_call0_call0_call0_c_14) (constantI S_ 32 16#32),
    TRef.unary (TRef.of (T := ⟨S_, .i32⟩) main_call0_call0_call0_c_14) (TRef.of (T := ⟨S4096x32x32, .i32⟩) main_call0_call0_call0_v57) (broadcastInDim S4096x32x32 ![] bcast_S_S4096x32x32),
    TRef.binary (TRef.of (T := ⟨S4096x32x32, .i32⟩) main_call0_call0_call0_v53) (TRef.of (T := ⟨S4096x32x32, .i32⟩) main_call0_call0_call0_v57) (TRef.of (T := ⟨S4096x32x32, .i32⟩) main_call0_call0_call0_v58) Host.shrui,
    TRef.binary (TRef.of (T := ⟨S4096x32x32, .i32⟩) main_call0_call0_call0_v56) (TRef.of (T := ⟨S4096x32x32, .i32⟩) main_call0_call0_call0_v58) (TRef.of (T := ⟨S4096x32x32, .i32⟩) main_call0_call0_call0_v59) ori,
    TRef.binary (TRef.of (T := ⟨S4096x32x32, .i32⟩) main_call0_call0_call0_v54) (TRef.of (T := ⟨S4096x32x32, .i32⟩) main_call0_call0_call0_v59) (TRef.of (T := ⟨S4096x32x32, .i32⟩) main_call0_call0_call0_v60) xori,
    TRef.binary (TRef.of (T := ⟨S4096x32x32, .i32⟩) main_call0_call0_call0_v54) (TRef.of (T := ⟨S4096x32x32, .i32⟩) main_call0_call0_call0_v60) (TRef.of (T := ⟨S4096x32x32, .i32⟩) main_call0_call0_call0_v61) addi,
    TRef.nullary (TRef.of (T := ⟨S_, .i32⟩) main_call0_call0_call0_c_15) (constantI S_ 32 24#32),
    TRef.unary (TRef.of (T := ⟨S_, .i32⟩) main_call0_call0_call0_c_15) (TRef.of (T := ⟨S4096x32x32, .i32⟩) main_call0_call0_call0_v62) (broadcastInDim S4096x32x32 ![] bcast_S_S4096x32x32),
    TRef.binary (TRef.of (T := ⟨S4096x32x32, .i32⟩) main_call0_call0_call0_v60) (TRef.of (T := ⟨S4096x32x32, .i32⟩) main_call0_call0_call0_v62) (TRef.of (T := ⟨S4096x32x32, .i32⟩) main_call0_call0_call0_v63) Host.shli,
    TRef.nullary (TRef.of (T := ⟨S_, .i32⟩) main_call0_call0_call0_c_16) (constantI S_ 32 8#32),
    TRef.unary (TRef.of (T := ⟨S_, .i32⟩) main_call0_call0_call0_c_16) (TRef.of (T := ⟨S4096x32x32, .i32⟩) main_call0_call0_call0_v64) (broadcastInDim S4096x32x32 ![] bcast_S_S4096x32x32),
    TRef.binary (TRef.of (T := ⟨S4096x32x32, .i32⟩) main_call0_call0_call0_v60) (TRef.of (T := ⟨S4096x32x32, .i32⟩) main_call0_call0_call0_v64) (TRef.of (T := ⟨S4096x32x32, .i32⟩) main_call0_call0_call0_v65) Host.shrui ]

/-- @main's operations 151 … 180 of 324 (@main, which the printer did not cut). -/
abbrev ops_5 : List (HloOp τ sig (Elt F)) :=
  [ TRef.binary (TRef.of (T := ⟨S4096x32x32, .i32⟩) main_call0_call0_call0_v63) (TRef.of (T := ⟨S4096x32x32, .i32⟩) main_call0_call0_call0_v65) (TRef.of (T := ⟨S4096x32x32, .i32⟩) main_call0_call0_call0_v66) ori,
    TRef.binary (TRef.of (T := ⟨S4096x32x32, .i32⟩) main_call0_call0_call0_v61) (TRef.of (T := ⟨S4096x32x32, .i32⟩) main_call0_call0_call0_v66) (TRef.of (T := ⟨S4096x32x32, .i32⟩) main_call0_call0_call0_v67) xori,
    TRef.unary (TRef.of (T := ⟨S_, .i32⟩) main_call0_call0_call0_v1) (TRef.of (T := ⟨S4096x32x32, .i32⟩) main_call0_call0_call0_v68) (broadcastInDim S4096x32x32 ![] bcast_S_S4096x32x32),
    TRef.binary (TRef.of (T := ⟨S4096x32x32, .i32⟩) main_call0_call0_call0_v61) (TRef.of (T := ⟨S4096x32x32, .i32⟩) main_call0_call0_call0_v68) (TRef.of (T := ⟨S4096x32x32, .i32⟩) main_call0_call0_call0_v69) addi,
    TRef.unary (TRef.of (T := ⟨S_, .i32⟩) main_call0_call0_v4) (TRef.of (T := ⟨S4096x32x32, .i32⟩) main_call0_call0_call0_v70) (broadcastInDim S4096x32x32 ![] bcast_S_S4096x32x32),
    TRef.binary (TRef.of (T := ⟨S4096x32x32, .i32⟩) main_call0_call0_call0_v67) (TRef.of (T := ⟨S4096x32x32, .i32⟩) main_call0_call0_call0_v70) (TRef.of (T := ⟨S4096x32x32, .i32⟩) main_call0_call0_call0_v71) addi,
    TRef.nullary (TRef.of (T := ⟨S_, .i32⟩) main_call0_call0_call0_c_17) (constantI S_ 32 2#32),
    TRef.unary (TRef.of (T := ⟨S_, .i32⟩) main_call0_call0_call0_c_17) (TRef.of (T := ⟨S4096x32x32, .i32⟩) main_call0_call0_call0_v72) (broadcastInDim S4096x32x32 ![] bcast_S_S4096x32x32),
    TRef.binary (TRef.of (T := ⟨S4096x32x32, .i32⟩) main_call0_call0_call0_v71) (TRef.of (T := ⟨S4096x32x32, .i32⟩) main_call0_call0_call0_v72) (TRef.of (T := ⟨S4096x32x32, .i32⟩) main_call0_call0_call0_v73) addi,
    TRef.binary (TRef.of (T := ⟨S4096x32x32, .i32⟩) main_call0_call0_call0_v69) (TRef.of (T := ⟨S4096x32x32, .i32⟩) main_call0_call0_call0_v73) (TRef.of (T := ⟨S4096x32x32, .i32⟩) main_call0_call0_call0_v74) addi,
    TRef.nullary (TRef.of (T := ⟨S_, .i32⟩) main_call0_call0_call0_c_18) (constantI S_ 32 13#32),
    TRef.unary (TRef.of (T := ⟨S_, .i32⟩) main_call0_call0_call0_c_18) (TRef.of (T := ⟨S4096x32x32, .i32⟩) main_call0_call0_call0_v75) (broadcastInDim S4096x32x32 ![] bcast_S_S4096x32x32),
    TRef.binary (TRef.of (T := ⟨S4096x32x32, .i32⟩) main_call0_call0_call0_v73) (TRef.of (T := ⟨S4096x32x32, .i32⟩) main_call0_call0_call0_v75) (TRef.of (T := ⟨S4096x32x32, .i32⟩) main_call0_call0_call0_v76) Host.shli,
    TRef.nullary (TRef.of (T := ⟨S_, .i32⟩) main_call0_call0_call0_c_19) (constantI S_ 32 19#32),
    TRef.unary (TRef.of (T := ⟨S_, .i32⟩) main_call0_call0_call0_c_19) (TRef.of (T := ⟨S4096x32x32, .i32⟩) main_call0_call0_call0_v77) (broadcastInDim S4096x32x32 ![] bcast_S_S4096x32x32),
    TRef.binary (TRef.of (T := ⟨S4096x32x32, .i32⟩) main_call0_call0_call0_v73) (TRef.of (T := ⟨S4096x32x32, .i32⟩) main_call0_call0_call0_v77) (TRef.of (T := ⟨S4096x32x32, .i32⟩) main_call0_call0_call0_v78) Host.shrui,
    TRef.binary (TRef.of (T := ⟨S4096x32x32, .i32⟩) main_call0_call0_call0_v76) (TRef.of (T := ⟨S4096x32x32, .i32⟩) main_call0_call0_call0_v78) (TRef.of (T := ⟨S4096x32x32, .i32⟩) main_call0_call0_call0_v79) ori,
    TRef.binary (TRef.of (T := ⟨S4096x32x32, .i32⟩) main_call0_call0_call0_v74) (TRef.of (T := ⟨S4096x32x32, .i32⟩) main_call0_call0_call0_v79) (TRef.of (T := ⟨S4096x32x32, .i32⟩) main_call0_call0_call0_v80) xori,
    TRef.binary (TRef.of (T := ⟨S4096x32x32, .i32⟩) main_call0_call0_call0_v74) (TRef.of (T := ⟨S4096x32x32, .i32⟩) main_call0_call0_call0_v80) (TRef.of (T := ⟨S4096x32x32, .i32⟩) main_call0_call0_call0_v81) addi,
    TRef.nullary (TRef.of (T := ⟨S_, .i32⟩) main_call0_call0_call0_c_20) (constantI S_ 32 15#32),
    TRef.unary (TRef.of (T := ⟨S_, .i32⟩) main_call0_call0_call0_c_20) (TRef.of (T := ⟨S4096x32x32, .i32⟩) main_call0_call0_call0_v82) (broadcastInDim S4096x32x32 ![] bcast_S_S4096x32x32),
    TRef.binary (TRef.of (T := ⟨S4096x32x32, .i32⟩) main_call0_call0_call0_v80) (TRef.of (T := ⟨S4096x32x32, .i32⟩) main_call0_call0_call0_v82) (TRef.of (T := ⟨S4096x32x32, .i32⟩) main_call0_call0_call0_v83) Host.shli,
    TRef.nullary (TRef.of (T := ⟨S_, .i32⟩) main_call0_call0_call0_c_21) (constantI S_ 32 17#32),
    TRef.unary (TRef.of (T := ⟨S_, .i32⟩) main_call0_call0_call0_c_21) (TRef.of (T := ⟨S4096x32x32, .i32⟩) main_call0_call0_call0_v84) (broadcastInDim S4096x32x32 ![] bcast_S_S4096x32x32),
    TRef.binary (TRef.of (T := ⟨S4096x32x32, .i32⟩) main_call0_call0_call0_v80) (TRef.of (T := ⟨S4096x32x32, .i32⟩) main_call0_call0_call0_v84) (TRef.of (T := ⟨S4096x32x32, .i32⟩) main_call0_call0_call0_v85) Host.shrui,
    TRef.binary (TRef.of (T := ⟨S4096x32x32, .i32⟩) main_call0_call0_call0_v83) (TRef.of (T := ⟨S4096x32x32, .i32⟩) main_call0_call0_call0_v85) (TRef.of (T := ⟨S4096x32x32, .i32⟩) main_call0_call0_call0_v86) ori,
    TRef.binary (TRef.of (T := ⟨S4096x32x32, .i32⟩) main_call0_call0_call0_v81) (TRef.of (T := ⟨S4096x32x32, .i32⟩) main_call0_call0_call0_v86) (TRef.of (T := ⟨S4096x32x32, .i32⟩) main_call0_call0_call0_v87) xori,
    TRef.binary (TRef.of (T := ⟨S4096x32x32, .i32⟩) main_call0_call0_call0_v81) (TRef.of (T := ⟨S4096x32x32, .i32⟩) main_call0_call0_call0_v87) (TRef.of (T := ⟨S4096x32x32, .i32⟩) main_call0_call0_call0_v88) addi,
    TRef.nullary (TRef.of (T := ⟨S_, .i32⟩) main_call0_call0_call0_c_22) (constantI S_ 32 26#32),
    TRef.unary (TRef.of (T := ⟨S_, .i32⟩) main_call0_call0_call0_c_22) (TRef.of (T := ⟨S4096x32x32, .i32⟩) main_call0_call0_call0_v89) (broadcastInDim S4096x32x32 ![] bcast_S_S4096x32x32) ]

/-- @main's operations 181 … 210 of 324 (@main, which the printer did not cut). -/
abbrev ops_6 : List (HloOp τ sig (Elt F)) :=
  [ TRef.binary (TRef.of (T := ⟨S4096x32x32, .i32⟩) main_call0_call0_call0_v87) (TRef.of (T := ⟨S4096x32x32, .i32⟩) main_call0_call0_call0_v89) (TRef.of (T := ⟨S4096x32x32, .i32⟩) main_call0_call0_call0_v90) Host.shli,
    TRef.nullary (TRef.of (T := ⟨S_, .i32⟩) main_call0_call0_call0_c_23) (constantI S_ 32 6#32),
    TRef.unary (TRef.of (T := ⟨S_, .i32⟩) main_call0_call0_call0_c_23) (TRef.of (T := ⟨S4096x32x32, .i32⟩) main_call0_call0_call0_v91) (broadcastInDim S4096x32x32 ![] bcast_S_S4096x32x32),
    TRef.binary (TRef.of (T := ⟨S4096x32x32, .i32⟩) main_call0_call0_call0_v87) (TRef.of (T := ⟨S4096x32x32, .i32⟩) main_call0_call0_call0_v91) (TRef.of (T := ⟨S4096x32x32, .i32⟩) main_call0_call0_call0_v92) Host.shrui,
    TRef.binary (TRef.of (T := ⟨S4096x32x32, .i32⟩) main_call0_call0_call0_v90) (TRef.of (T := ⟨S4096x32x32, .i32⟩) main_call0_call0_call0_v92) (TRef.of (T := ⟨S4096x32x32, .i32⟩) main_call0_call0_call0_v93) ori,
    TRef.binary (TRef.of (T := ⟨S4096x32x32, .i32⟩) main_call0_call0_call0_v88) (TRef.of (T := ⟨S4096x32x32, .i32⟩) main_call0_call0_call0_v93) (TRef.of (T := ⟨S4096x32x32, .i32⟩) main_call0_call0_call0_v94) xori,
    TRef.binary (TRef.of (T := ⟨S4096x32x32, .i32⟩) main_call0_call0_call0_v88) (TRef.of (T := ⟨S4096x32x32, .i32⟩) main_call0_call0_call0_v94) (TRef.of (T := ⟨S4096x32x32, .i32⟩) main_call0_call0_call0_v95) addi,
    TRef.nullary (TRef.of (T := ⟨S_, .i32⟩) main_call0_call0_call0_c_24) (constantI S_ 32 6#32),
    TRef.unary (TRef.of (T := ⟨S_, .i32⟩) main_call0_call0_call0_c_24) (TRef.of (T := ⟨S4096x32x32, .i32⟩) main_call0_call0_call0_v96) (broadcastInDim S4096x32x32 ![] bcast_S_S4096x32x32),
    TRef.binary (TRef.of (T := ⟨S4096x32x32, .i32⟩) main_call0_call0_call0_v94) (TRef.of (T := ⟨S4096x32x32, .i32⟩) main_call0_call0_call0_v96) (TRef.of (T := ⟨S4096x32x32, .i32⟩) main_call0_call0_call0_v97) Host.shli,
    TRef.nullary (TRef.of (T := ⟨S_, .i32⟩) main_call0_call0_call0_c_25) (constantI S_ 32 26#32),
    TRef.unary (TRef.of (T := ⟨S_, .i32⟩) main_call0_call0_call0_c_25) (TRef.of (T := ⟨S4096x32x32, .i32⟩) main_call0_call0_call0_v98) (broadcastInDim S4096x32x32 ![] bcast_S_S4096x32x32),
    TRef.binary (TRef.of (T := ⟨S4096x32x32, .i32⟩) main_call0_call0_call0_v94) (TRef.of (T := ⟨S4096x32x32, .i32⟩) main_call0_call0_call0_v98) (TRef.of (T := ⟨S4096x32x32, .i32⟩) main_call0_call0_call0_v99) Host.shrui,
    TRef.binary (TRef.of (T := ⟨S4096x32x32, .i32⟩) main_call0_call0_call0_v97) (TRef.of (T := ⟨S4096x32x32, .i32⟩) main_call0_call0_call0_v99) (TRef.of (T := ⟨S4096x32x32, .i32⟩) main_call0_call0_call0_v100) ori,
    TRef.binary (TRef.of (T := ⟨S4096x32x32, .i32⟩) main_call0_call0_call0_v95) (TRef.of (T := ⟨S4096x32x32, .i32⟩) main_call0_call0_call0_v100) (TRef.of (T := ⟨S4096x32x32, .i32⟩) main_call0_call0_call0_v101) xori,
    TRef.unary (TRef.of (T := ⟨S_, .i32⟩) main_call0_call0_v4) (TRef.of (T := ⟨S4096x32x32, .i32⟩) main_call0_call0_call0_v102) (broadcastInDim S4096x32x32 ![] bcast_S_S4096x32x32),
    TRef.binary (TRef.of (T := ⟨S4096x32x32, .i32⟩) main_call0_call0_call0_v95) (TRef.of (T := ⟨S4096x32x32, .i32⟩) main_call0_call0_call0_v102) (TRef.of (T := ⟨S4096x32x32, .i32⟩) main_call0_call0_call0_v103) addi,
    TRef.unary (TRef.of (T := ⟨S_, .i32⟩) main_call0_call0_v6) (TRef.of (T := ⟨S4096x32x32, .i32⟩) main_call0_call0_call0_v104) (broadcastInDim S4096x32x32 ![] bcast_S_S4096x32x32),
    TRef.binary (TRef.of (T := ⟨S4096x32x32, .i32⟩) main_call0_call0_call0_v101) (TRef.of (T := ⟨S4096x32x32, .i32⟩) main_call0_call0_call0_v104) (TRef.of (T := ⟨S4096x32x32, .i32⟩) main_call0_call0_call0_v105) addi,
    TRef.nullary (TRef.of (T := ⟨S_, .i32⟩) main_call0_call0_call0_c_26) (constantI S_ 32 3#32),
    TRef.unary (TRef.of (T := ⟨S_, .i32⟩) main_call0_call0_call0_c_26) (TRef.of (T := ⟨S4096x32x32, .i32⟩) main_call0_call0_call0_v106) (broadcastInDim S4096x32x32 ![] bcast_S_S4096x32x32),
    TRef.binary (TRef.of (T := ⟨S4096x32x32, .i32⟩) main_call0_call0_call0_v105) (TRef.of (T := ⟨S4096x32x32, .i32⟩) main_call0_call0_call0_v106) (TRef.of (T := ⟨S4096x32x32, .i32⟩) main_call0_call0_call0_v107) addi,
    TRef.binary (TRef.of (T := ⟨S4096x32x32, .i32⟩) main_call0_call0_call0_v103) (TRef.of (T := ⟨S4096x32x32, .i32⟩) main_call0_call0_call0_v107) (TRef.of (T := ⟨S4096x32x32, .i32⟩) main_call0_call0_call0_v108) addi,
    TRef.nullary (TRef.of (T := ⟨S_, .i32⟩) main_call0_call0_call0_c_27) (constantI S_ 32 17#32),
    TRef.unary (TRef.of (T := ⟨S_, .i32⟩) main_call0_call0_call0_c_27) (TRef.of (T := ⟨S4096x32x32, .i32⟩) main_call0_call0_call0_v109) (broadcastInDim S4096x32x32 ![] bcast_S_S4096x32x32),
    TRef.binary (TRef.of (T := ⟨S4096x32x32, .i32⟩) main_call0_call0_call0_v107) (TRef.of (T := ⟨S4096x32x32, .i32⟩) main_call0_call0_call0_v109) (TRef.of (T := ⟨S4096x32x32, .i32⟩) main_call0_call0_call0_v110) Host.shli,
    TRef.nullary (TRef.of (T := ⟨S_, .i32⟩) main_call0_call0_call0_c_28) (constantI S_ 32 15#32),
    TRef.unary (TRef.of (T := ⟨S_, .i32⟩) main_call0_call0_call0_c_28) (TRef.of (T := ⟨S4096x32x32, .i32⟩) main_call0_call0_call0_v111) (broadcastInDim S4096x32x32 ![] bcast_S_S4096x32x32),
    TRef.binary (TRef.of (T := ⟨S4096x32x32, .i32⟩) main_call0_call0_call0_v107) (TRef.of (T := ⟨S4096x32x32, .i32⟩) main_call0_call0_call0_v111) (TRef.of (T := ⟨S4096x32x32, .i32⟩) main_call0_call0_call0_v112) Host.shrui,
    TRef.binary (TRef.of (T := ⟨S4096x32x32, .i32⟩) main_call0_call0_call0_v110) (TRef.of (T := ⟨S4096x32x32, .i32⟩) main_call0_call0_call0_v112) (TRef.of (T := ⟨S4096x32x32, .i32⟩) main_call0_call0_call0_v113) ori ]

/-- @main's operations 211 … 240 of 324 (@main, which the printer did not cut). -/
abbrev ops_7 : List (HloOp τ sig (Elt F)) :=
  [ TRef.binary (TRef.of (T := ⟨S4096x32x32, .i32⟩) main_call0_call0_call0_v108) (TRef.of (T := ⟨S4096x32x32, .i32⟩) main_call0_call0_call0_v113) (TRef.of (T := ⟨S4096x32x32, .i32⟩) main_call0_call0_call0_v114) xori,
    TRef.binary (TRef.of (T := ⟨S4096x32x32, .i32⟩) main_call0_call0_call0_v108) (TRef.of (T := ⟨S4096x32x32, .i32⟩) main_call0_call0_call0_v114) (TRef.of (T := ⟨S4096x32x32, .i32⟩) main_call0_call0_call0_v115) addi,
    TRef.nullary (TRef.of (T := ⟨S_, .i32⟩) main_call0_call0_call0_c_29) (constantI S_ 32 29#32),
    TRef.unary (TRef.of (T := ⟨S_, .i32⟩) main_call0_call0_call0_c_29) (TRef.of (T := ⟨S4096x32x32, .i32⟩) main_call0_call0_call0_v116) (broadcastInDim S4096x32x32 ![] bcast_S_S4096x32x32),
    TRef.binary (TRef.of (T := ⟨S4096x32x32, .i32⟩) main_call0_call0_call0_v114) (TRef.of (T := ⟨S4096x32x32, .i32⟩) main_call0_call0_call0_v116) (TRef.of (T := ⟨S4096x32x32, .i32⟩) main_call0_call0_call0_v117) Host.shli,
    TRef.nullary (TRef.of (T := ⟨S_, .i32⟩) main_call0_call0_call0_c_30) (constantI S_ 32 3#32),
    TRef.unary (TRef.of (T := ⟨S_, .i32⟩) main_call0_call0_call0_c_30) (TRef.of (T := ⟨S4096x32x32, .i32⟩) main_call0_call0_call0_v118) (broadcastInDim S4096x32x32 ![] bcast_S_S4096x32x32),
    TRef.binary (TRef.of (T := ⟨S4096x32x32, .i32⟩) main_call0_call0_call0_v114) (TRef.of (T := ⟨S4096x32x32, .i32⟩) main_call0_call0_call0_v118) (TRef.of (T := ⟨S4096x32x32, .i32⟩) main_call0_call0_call0_v119) Host.shrui,
    TRef.binary (TRef.of (T := ⟨S4096x32x32, .i32⟩) main_call0_call0_call0_v117) (TRef.of (T := ⟨S4096x32x32, .i32⟩) main_call0_call0_call0_v119) (TRef.of (T := ⟨S4096x32x32, .i32⟩) main_call0_call0_call0_v120) ori,
    TRef.binary (TRef.of (T := ⟨S4096x32x32, .i32⟩) main_call0_call0_call0_v115) (TRef.of (T := ⟨S4096x32x32, .i32⟩) main_call0_call0_call0_v120) (TRef.of (T := ⟨S4096x32x32, .i32⟩) main_call0_call0_call0_v121) xori,
    TRef.binary (TRef.of (T := ⟨S4096x32x32, .i32⟩) main_call0_call0_call0_v115) (TRef.of (T := ⟨S4096x32x32, .i32⟩) main_call0_call0_call0_v121) (TRef.of (T := ⟨S4096x32x32, .i32⟩) main_call0_call0_call0_v122) addi,
    TRef.nullary (TRef.of (T := ⟨S_, .i32⟩) main_call0_call0_call0_c_31) (constantI S_ 32 16#32),
    TRef.unary (TRef.of (T := ⟨S_, .i32⟩) main_call0_call0_call0_c_31) (TRef.of (T := ⟨S4096x32x32, .i32⟩) main_call0_call0_call0_v123) (broadcastInDim S4096x32x32 ![] bcast_S_S4096x32x32),
    TRef.binary (TRef.of (T := ⟨S4096x32x32, .i32⟩) main_call0_call0_call0_v121) (TRef.of (T := ⟨S4096x32x32, .i32⟩) main_call0_call0_call0_v123) (TRef.of (T := ⟨S4096x32x32, .i32⟩) main_call0_call0_call0_v124) Host.shli,
    TRef.nullary (TRef.of (T := ⟨S_, .i32⟩) main_call0_call0_call0_c_32) (constantI S_ 32 16#32),
    TRef.unary (TRef.of (T := ⟨S_, .i32⟩) main_call0_call0_call0_c_32) (TRef.of (T := ⟨S4096x32x32, .i32⟩) main_call0_call0_call0_v125) (broadcastInDim S4096x32x32 ![] bcast_S_S4096x32x32),
    TRef.binary (TRef.of (T := ⟨S4096x32x32, .i32⟩) main_call0_call0_call0_v121) (TRef.of (T := ⟨S4096x32x32, .i32⟩) main_call0_call0_call0_v125) (TRef.of (T := ⟨S4096x32x32, .i32⟩) main_call0_call0_call0_v126) Host.shrui,
    TRef.binary (TRef.of (T := ⟨S4096x32x32, .i32⟩) main_call0_call0_call0_v124) (TRef.of (T := ⟨S4096x32x32, .i32⟩) main_call0_call0_call0_v126) (TRef.of (T := ⟨S4096x32x32, .i32⟩) main_call0_call0_call0_v127) ori,
    TRef.binary (TRef.of (T := ⟨S4096x32x32, .i32⟩) main_call0_call0_call0_v122) (TRef.of (T := ⟨S4096x32x32, .i32⟩) main_call0_call0_call0_v127) (TRef.of (T := ⟨S4096x32x32, .i32⟩) main_call0_call0_call0_v128) xori,
    TRef.binary (TRef.of (T := ⟨S4096x32x32, .i32⟩) main_call0_call0_call0_v122) (TRef.of (T := ⟨S4096x32x32, .i32⟩) main_call0_call0_call0_v128) (TRef.of (T := ⟨S4096x32x32, .i32⟩) main_call0_call0_call0_v129) addi,
    TRef.nullary (TRef.of (T := ⟨S_, .i32⟩) main_call0_call0_call0_c_33) (constantI S_ 32 24#32),
    TRef.unary (TRef.of (T := ⟨S_, .i32⟩) main_call0_call0_call0_c_33) (TRef.of (T := ⟨S4096x32x32, .i32⟩) main_call0_call0_call0_v130) (broadcastInDim S4096x32x32 ![] bcast_S_S4096x32x32),
    TRef.binary (TRef.of (T := ⟨S4096x32x32, .i32⟩) main_call0_call0_call0_v128) (TRef.of (T := ⟨S4096x32x32, .i32⟩) main_call0_call0_call0_v130) (TRef.of (T := ⟨S4096x32x32, .i32⟩) main_call0_call0_call0_v131) Host.shli,
    TRef.nullary (TRef.of (T := ⟨S_, .i32⟩) main_call0_call0_call0_c_34) (constantI S_ 32 8#32),
    TRef.unary (TRef.of (T := ⟨S_, .i32⟩) main_call0_call0_call0_c_34) (TRef.of (T := ⟨S4096x32x32, .i32⟩) main_call0_call0_call0_v132) (broadcastInDim S4096x32x32 ![] bcast_S_S4096x32x32),
    TRef.binary (TRef.of (T := ⟨S4096x32x32, .i32⟩) main_call0_call0_call0_v128) (TRef.of (T := ⟨S4096x32x32, .i32⟩) main_call0_call0_call0_v132) (TRef.of (T := ⟨S4096x32x32, .i32⟩) main_call0_call0_call0_v133) Host.shrui,
    TRef.binary (TRef.of (T := ⟨S4096x32x32, .i32⟩) main_call0_call0_call0_v131) (TRef.of (T := ⟨S4096x32x32, .i32⟩) main_call0_call0_call0_v133) (TRef.of (T := ⟨S4096x32x32, .i32⟩) main_call0_call0_call0_v134) ori,
    TRef.binary (TRef.of (T := ⟨S4096x32x32, .i32⟩) main_call0_call0_call0_v129) (TRef.of (T := ⟨S4096x32x32, .i32⟩) main_call0_call0_call0_v134) (TRef.of (T := ⟨S4096x32x32, .i32⟩) main_call0_call0_call0_v135) xori,
    TRef.unary (TRef.of (T := ⟨S_, .i32⟩) main_call0_call0_v6) (TRef.of (T := ⟨S4096x32x32, .i32⟩) main_call0_call0_call0_v136) (broadcastInDim S4096x32x32 ![] bcast_S_S4096x32x32),
    TRef.binary (TRef.of (T := ⟨S4096x32x32, .i32⟩) main_call0_call0_call0_v129) (TRef.of (T := ⟨S4096x32x32, .i32⟩) main_call0_call0_call0_v136) (TRef.of (T := ⟨S4096x32x32, .i32⟩) main_call0_call0_call0_v137) addi ]

/-- @main's operations 241 … 270 of 324 (@main, which the printer did not cut). -/
abbrev ops_8 : List (HloOp τ sig (Elt F)) :=
  [ TRef.unary (TRef.of (T := ⟨S_, .i32⟩) main_call0_call0_call0_v1) (TRef.of (T := ⟨S4096x32x32, .i32⟩) main_call0_call0_call0_v138) (broadcastInDim S4096x32x32 ![] bcast_S_S4096x32x32),
    TRef.binary (TRef.of (T := ⟨S4096x32x32, .i32⟩) main_call0_call0_call0_v135) (TRef.of (T := ⟨S4096x32x32, .i32⟩) main_call0_call0_call0_v138) (TRef.of (T := ⟨S4096x32x32, .i32⟩) main_call0_call0_call0_v139) addi,
    TRef.nullary (TRef.of (T := ⟨S_, .i32⟩) main_call0_call0_call0_c_35) (constantI S_ 32 4#32),
    TRef.unary (TRef.of (T := ⟨S_, .i32⟩) main_call0_call0_call0_c_35) (TRef.of (T := ⟨S4096x32x32, .i32⟩) main_call0_call0_call0_v140) (broadcastInDim S4096x32x32 ![] bcast_S_S4096x32x32),
    TRef.binary (TRef.of (T := ⟨S4096x32x32, .i32⟩) main_call0_call0_call0_v139) (TRef.of (T := ⟨S4096x32x32, .i32⟩) main_call0_call0_call0_v140) (TRef.of (T := ⟨S4096x32x32, .i32⟩) main_call0_call0_call0_v141) addi,
    TRef.binary (TRef.of (T := ⟨S4096x32x32, .i32⟩) main_call0_call0_call0_v137) (TRef.of (T := ⟨S4096x32x32, .i32⟩) main_call0_call0_call0_v141) (TRef.of (T := ⟨S4096x32x32, .i32⟩) main_call0_call0_call0_v142) addi,
    TRef.nullary (TRef.of (T := ⟨S_, .i32⟩) main_call0_call0_call0_c_36) (constantI S_ 32 13#32),
    TRef.unary (TRef.of (T := ⟨S_, .i32⟩) main_call0_call0_call0_c_36) (TRef.of (T := ⟨S4096x32x32, .i32⟩) main_call0_call0_call0_v143) (broadcastInDim S4096x32x32 ![] bcast_S_S4096x32x32),
    TRef.binary (TRef.of (T := ⟨S4096x32x32, .i32⟩) main_call0_call0_call0_v141) (TRef.of (T := ⟨S4096x32x32, .i32⟩) main_call0_call0_call0_v143) (TRef.of (T := ⟨S4096x32x32, .i32⟩) main_call0_call0_call0_v144) Host.shli,
    TRef.nullary (TRef.of (T := ⟨S_, .i32⟩) main_call0_call0_call0_c_37) (constantI S_ 32 19#32),
    TRef.unary (TRef.of (T := ⟨S_, .i32⟩) main_call0_call0_call0_c_37) (TRef.of (T := ⟨S4096x32x32, .i32⟩) main_call0_call0_call0_v145) (broadcastInDim S4096x32x32 ![] bcast_S_S4096x32x32),
    TRef.binary (TRef.of (T := ⟨S4096x32x32, .i32⟩) main_call0_call0_call0_v141) (TRef.of (T := ⟨S4096x32x32, .i32⟩) main_call0_call0_call0_v145) (TRef.of (T := ⟨S4096x32x32, .i32⟩) main_call0_call0_call0_v146) Host.shrui,
    TRef.binary (TRef.of (T := ⟨S4096x32x32, .i32⟩) main_call0_call0_call0_v144) (TRef.of (T := ⟨S4096x32x32, .i32⟩) main_call0_call0_call0_v146) (TRef.of (T := ⟨S4096x32x32, .i32⟩) main_call0_call0_call0_v147) ori,
    TRef.binary (TRef.of (T := ⟨S4096x32x32, .i32⟩) main_call0_call0_call0_v142) (TRef.of (T := ⟨S4096x32x32, .i32⟩) main_call0_call0_call0_v147) (TRef.of (T := ⟨S4096x32x32, .i32⟩) main_call0_call0_call0_v148) xori,
    TRef.binary (TRef.of (T := ⟨S4096x32x32, .i32⟩) main_call0_call0_call0_v142) (TRef.of (T := ⟨S4096x32x32, .i32⟩) main_call0_call0_call0_v148) (TRef.of (T := ⟨S4096x32x32, .i32⟩) main_call0_call0_call0_v149) addi,
    TRef.nullary (TRef.of (T := ⟨S_, .i32⟩) main_call0_call0_call0_c_38) (constantI S_ 32 15#32),
    TRef.unary (TRef.of (T := ⟨S_, .i32⟩) main_call0_call0_call0_c_38) (TRef.of (T := ⟨S4096x32x32, .i32⟩) main_call0_call0_call0_v150) (broadcastInDim S4096x32x32 ![] bcast_S_S4096x32x32),
    TRef.binary (TRef.of (T := ⟨S4096x32x32, .i32⟩) main_call0_call0_call0_v148) (TRef.of (T := ⟨S4096x32x32, .i32⟩) main_call0_call0_call0_v150) (TRef.of (T := ⟨S4096x32x32, .i32⟩) main_call0_call0_call0_v151) Host.shli,
    TRef.nullary (TRef.of (T := ⟨S_, .i32⟩) main_call0_call0_call0_c_39) (constantI S_ 32 17#32),
    TRef.unary (TRef.of (T := ⟨S_, .i32⟩) main_call0_call0_call0_c_39) (TRef.of (T := ⟨S4096x32x32, .i32⟩) main_call0_call0_call0_v152) (broadcastInDim S4096x32x32 ![] bcast_S_S4096x32x32),
    TRef.binary (TRef.of (T := ⟨S4096x32x32, .i32⟩) main_call0_call0_call0_v148) (TRef.of (T := ⟨S4096x32x32, .i32⟩) main_call0_call0_call0_v152) (TRef.of (T := ⟨S4096x32x32, .i32⟩) main_call0_call0_call0_v153) Host.shrui,
    TRef.binary (TRef.of (T := ⟨S4096x32x32, .i32⟩) main_call0_call0_call0_v151) (TRef.of (T := ⟨S4096x32x32, .i32⟩) main_call0_call0_call0_v153) (TRef.of (T := ⟨S4096x32x32, .i32⟩) main_call0_call0_call0_v154) ori,
    TRef.binary (TRef.of (T := ⟨S4096x32x32, .i32⟩) main_call0_call0_call0_v149) (TRef.of (T := ⟨S4096x32x32, .i32⟩) main_call0_call0_call0_v154) (TRef.of (T := ⟨S4096x32x32, .i32⟩) main_call0_call0_call0_v155) xori,
    TRef.binary (TRef.of (T := ⟨S4096x32x32, .i32⟩) main_call0_call0_call0_v149) (TRef.of (T := ⟨S4096x32x32, .i32⟩) main_call0_call0_call0_v155) (TRef.of (T := ⟨S4096x32x32, .i32⟩) main_call0_call0_call0_v156) addi,
    TRef.nullary (TRef.of (T := ⟨S_, .i32⟩) main_call0_call0_call0_c_40) (constantI S_ 32 26#32),
    TRef.unary (TRef.of (T := ⟨S_, .i32⟩) main_call0_call0_call0_c_40) (TRef.of (T := ⟨S4096x32x32, .i32⟩) main_call0_call0_call0_v157) (broadcastInDim S4096x32x32 ![] bcast_S_S4096x32x32),
    TRef.binary (TRef.of (T := ⟨S4096x32x32, .i32⟩) main_call0_call0_call0_v155) (TRef.of (T := ⟨S4096x32x32, .i32⟩) main_call0_call0_call0_v157) (TRef.of (T := ⟨S4096x32x32, .i32⟩) main_call0_call0_call0_v158) Host.shli,
    TRef.nullary (TRef.of (T := ⟨S_, .i32⟩) main_call0_call0_call0_c_41) (constantI S_ 32 6#32),
    TRef.unary (TRef.of (T := ⟨S_, .i32⟩) main_call0_call0_call0_c_41) (TRef.of (T := ⟨S4096x32x32, .i32⟩) main_call0_call0_call0_v159) (broadcastInDim S4096x32x32 ![] bcast_S_S4096x32x32),
    TRef.binary (TRef.of (T := ⟨S4096x32x32, .i32⟩) main_call0_call0_call0_v155) (TRef.of (T := ⟨S4096x32x32, .i32⟩) main_call0_call0_call0_v159) (TRef.of (T := ⟨S4096x32x32, .i32⟩) main_call0_call0_call0_v160) Host.shrui ]

/-- @main's operations 271 … 300 of 324 (@main, which the printer did not cut). -/
abbrev ops_9 : List (HloOp τ sig (Elt F)) :=
  [ TRef.binary (TRef.of (T := ⟨S4096x32x32, .i32⟩) main_call0_call0_call0_v158) (TRef.of (T := ⟨S4096x32x32, .i32⟩) main_call0_call0_call0_v160) (TRef.of (T := ⟨S4096x32x32, .i32⟩) main_call0_call0_call0_v161) ori,
    TRef.binary (TRef.of (T := ⟨S4096x32x32, .i32⟩) main_call0_call0_call0_v156) (TRef.of (T := ⟨S4096x32x32, .i32⟩) main_call0_call0_call0_v161) (TRef.of (T := ⟨S4096x32x32, .i32⟩) main_call0_call0_call0_v162) xori,
    TRef.binary (TRef.of (T := ⟨S4096x32x32, .i32⟩) main_call0_call0_call0_v156) (TRef.of (T := ⟨S4096x32x32, .i32⟩) main_call0_call0_call0_v162) (TRef.of (T := ⟨S4096x32x32, .i32⟩) main_call0_call0_call0_v163) addi,
    TRef.nullary (TRef.of (T := ⟨S_, .i32⟩) main_call0_call0_call0_c_42) (constantI S_ 32 6#32),
    TRef.unary (TRef.of (T := ⟨S_, .i32⟩) main_call0_call0_call0_c_42) (TRef.of (T := ⟨S4096x32x32, .i32⟩) main_call0_call0_call0_v164) (broadcastInDim S4096x32x32 ![] bcast_S_S4096x32x32),
    TRef.binary (TRef.of (T := ⟨S4096x32x32, .i32⟩) main_call0_call0_call0_v162) (TRef.of (T := ⟨S4096x32x32, .i32⟩) main_call0_call0_call0_v164) (TRef.of (T := ⟨S4096x32x32, .i32⟩) main_call0_call0_call0_v165) Host.shli,
    TRef.nullary (TRef.of (T := ⟨S_, .i32⟩) main_call0_call0_call0_c_43) (constantI S_ 32 26#32),
    TRef.unary (TRef.of (T := ⟨S_, .i32⟩) main_call0_call0_call0_c_43) (TRef.of (T := ⟨S4096x32x32, .i32⟩) main_call0_call0_call0_v166) (broadcastInDim S4096x32x32 ![] bcast_S_S4096x32x32),
    TRef.binary (TRef.of (T := ⟨S4096x32x32, .i32⟩) main_call0_call0_call0_v162) (TRef.of (T := ⟨S4096x32x32, .i32⟩) main_call0_call0_call0_v166) (TRef.of (T := ⟨S4096x32x32, .i32⟩) main_call0_call0_call0_v167) Host.shrui,
    TRef.binary (TRef.of (T := ⟨S4096x32x32, .i32⟩) main_call0_call0_call0_v165) (TRef.of (T := ⟨S4096x32x32, .i32⟩) main_call0_call0_call0_v167) (TRef.of (T := ⟨S4096x32x32, .i32⟩) main_call0_call0_call0_v168) ori,
    TRef.binary (TRef.of (T := ⟨S4096x32x32, .i32⟩) main_call0_call0_call0_v163) (TRef.of (T := ⟨S4096x32x32, .i32⟩) main_call0_call0_call0_v168) (TRef.of (T := ⟨S4096x32x32, .i32⟩) main_call0_call0_call0_v169) xori,
    TRef.unary (TRef.of (T := ⟨S_, .i32⟩) main_call0_call0_call0_v1) (TRef.of (T := ⟨S4096x32x32, .i32⟩) main_call0_call0_call0_v170) (broadcastInDim S4096x32x32 ![] bcast_S_S4096x32x32),
    TRef.binary (TRef.of (T := ⟨S4096x32x32, .i32⟩) main_call0_call0_call0_v163) (TRef.of (T := ⟨S4096x32x32, .i32⟩) main_call0_call0_call0_v170) (TRef.of (T := ⟨S4096x32x32, .i32⟩) main_call0_call0_v22_0) addi,
    TRef.unary (TRef.of (T := ⟨S_, .i32⟩) main_call0_call0_v4) (TRef.of (T := ⟨S4096x32x32, .i32⟩) main_call0_call0_call0_v172) (broadcastInDim S4096x32x32 ![] bcast_S_S4096x32x32),
    TRef.binary (TRef.of (T := ⟨S4096x32x32, .i32⟩) main_call0_call0_call0_v169) (TRef.of (T := ⟨S4096x32x32, .i32⟩) main_call0_call0_call0_v172) (TRef.of (T := ⟨S4096x32x32, .i32⟩) main_call0_call0_call0_v173) addi,
    TRef.nullary (TRef.of (T := ⟨S_, .i32⟩) main_call0_call0_call0_c_44) (constantI S_ 32 5#32),
    TRef.unary (TRef.of (T := ⟨S_, .i32⟩) main_call0_call0_call0_c_44) (TRef.of (T := ⟨S4096x32x32, .i32⟩) main_call0_call0_call0_v174) (broadcastInDim S4096x32x32 ![] bcast_S_S4096x32x32),
    TRef.binary (TRef.of (T := ⟨S4096x32x32, .i32⟩) main_call0_call0_call0_v173) (TRef.of (T := ⟨S4096x32x32, .i32⟩) main_call0_call0_call0_v174) (TRef.of (T := ⟨S4096x32x32, .i32⟩) main_call0_call0_v22_1) addi,
    TRef.binary (TRef.of (T := ⟨S4096x32x32, .i32⟩) main_call0_call0_v22_0) (TRef.of (T := ⟨S4096x32x32, .i32⟩) main_call0_call0_v22_1) (TRef.of (T := ⟨S4096x32x32, .i32⟩) main_call0_call0_v23) xori,
    TRef.nullary (TRef.of (T := ⟨S_, .i32⟩) main_call0_call0_c_3) (constantI S_ 32 9#32),
    TRef.unary (TRef.of (T := ⟨S_, .i32⟩) main_call0_call0_c_3) (TRef.of (T := ⟨S4096x32x32, .i32⟩) main_call0_call0_v24) (broadcastInDim S4096x32x32 ![] bcast_S_S4096x32x32),
    TRef.binary (TRef.of (T := ⟨S4096x32x32, .i32⟩) main_call0_call0_v23) (TRef.of (T := ⟨S4096x32x32, .i32⟩) main_call0_call0_v24) (TRef.of (T := ⟨S4096x32x32, .i32⟩) main_call0_call0_v25) Host.shrui,
    TRef.nullary (TRef.of (T := ⟨S_, .i32⟩) main_call0_call0_c_4) (constantI S_ 32 1065353216#32),
    TRef.unary (TRef.of (T := ⟨S_, .i32⟩) main_call0_call0_c_4) (TRef.of (T := ⟨S4096x32x32, .i32⟩) main_call0_call0_v26) (broadcastInDim S4096x32x32 ![] bcast_S_S4096x32x32),
    TRef.binary (TRef.of (T := ⟨S4096x32x32, .i32⟩) main_call0_call0_v25) (TRef.of (T := ⟨S4096x32x32, .i32⟩) main_call0_call0_v26) (TRef.of (T := ⟨S4096x32x32, .i32⟩) main_call0_call0_v27) ori,
    TRef.unary (TRef.of (T := ⟨S4096x32x32, .i32⟩) main_call0_call0_v27) (TRef.of (T := ⟨S4096x32x32, .f32⟩) main_call0_call0_v28) (bitcastToFloat (F := F) .f32),
    TRef.nullary (TRef.of (T := ⟨S_, .f32⟩) main_call0_call0_cst) (constant S_ .f32 0x3F800000#32),
    TRef.unary (TRef.of (T := ⟨S_, .f32⟩) main_call0_call0_cst) (TRef.of (T := ⟨S4096x32x32, .f32⟩) main_call0_call0_v29) (broadcastInDim S4096x32x32 ![] bcast_S_S4096x32x32),
    TRef.binary (TRef.of (T := ⟨S4096x32x32, .f32⟩) main_call0_call0_v28) (TRef.of (T := ⟨S4096x32x32, .f32⟩) main_call0_call0_v29) (TRef.of (T := ⟨S4096x32x32, .f32⟩) main_call0_call0_v30) subf,
    TRef.binary (TRef.of (T := ⟨S1x1x1, .f32⟩) main_call0_call0_v2) (TRef.of (T := ⟨S1x1x1, .f32⟩) main_call0_call0_v1) (TRef.of (T := ⟨S1x1x1, .f32⟩) main_call0_call0_v31) subf ]

/-- @main's operations 301 … 324 of 324 (@main, which the printer did not cut). -/
abbrev ops_10 : List (HloOp τ sig (Elt F)) :=
  [ TRef.unary (TRef.of (T := ⟨S1x1x1, .f32⟩) main_call0_call0_v31) (TRef.of (T := ⟨S4096x32x32, .f32⟩) main_call0_call0_v32) (broadcastInDim S4096x32x32 ![0, 1, 2] bcast_S1x1x1_S4096x32x32_0_1_2),
    TRef.binary (TRef.of (T := ⟨S4096x32x32, .f32⟩) main_call0_call0_v30) (TRef.of (T := ⟨S4096x32x32, .f32⟩) main_call0_call0_v32) (TRef.of (T := ⟨S4096x32x32, .f32⟩) main_call0_call0_v33) mulf,
    TRef.unary (TRef.of (T := ⟨S1x1x1, .f32⟩) main_call0_call0_v1) (TRef.of (T := ⟨S4096x32x32, .f32⟩) main_call0_call0_v34) (broadcastInDim S4096x32x32 ![0, 1, 2] bcast_S1x1x1_S4096x32x32_0_1_2),
    TRef.binary (TRef.of (T := ⟨S4096x32x32, .f32⟩) main_call0_call0_v33) (TRef.of (T := ⟨S4096x32x32, .f32⟩) main_call0_call0_v34) (TRef.of (T := ⟨S4096x32x32, .f32⟩) main_call0_call0_v35) addf,
    TRef.unary (TRef.of (T := ⟨S1x1x1, .f32⟩) main_call0_call0_v1) (TRef.of (T := ⟨S4096x32x32, .f32⟩) main_call0_call0_v36) (broadcastInDim S4096x32x32 ![0, 1, 2] bcast_S1x1x1_S4096x32x32_0_1_2),
    TRef.binary (TRef.of (T := ⟨S4096x32x32, .f32⟩) main_call0_call0_v36) (TRef.of (T := ⟨S4096x32x32, .f32⟩) main_call0_call0_v35) (TRef.of (T := ⟨S4096x32x32, .f32⟩) main_call0_v0) maximumf,
    TRef.unary (TRef.of (T := ⟨S4096x32x32, .f32⟩) main_call0_v0) (TRef.of (T := ⟨S4096x32x32, .f32⟩) main_call0_v1) Host.log,
    TRef.unary (TRef.of (T := ⟨S4096x32x32, .f32⟩) main_call0_v1) (TRef.of (T := ⟨S4096x32x32, .f32⟩) main_call0_v2) Host.negf,
    TRef.unary (TRef.of (T := ⟨S4096x32x32, .f32⟩) main_call0_v2) (TRef.of (T := ⟨S4096x32x32, .f32⟩) main_call0_v3) Host.log,
    TRef.unary (TRef.of (T := ⟨S4096x32x32, .f32⟩) main_call0_v3) (TRef.of (T := ⟨S4096x32x32, .f32⟩) main_v28) Host.negf,
    binary main_v28 main_v27 main_v29 (addf : (⟨S4096x32x32, .f32⟩ : BufTy).Contents (Elt F) → (⟨S4096x32x32, .f32⟩ : BufTy).Contents (Elt F) → (⟨S4096x32x32, .f32⟩ : BufTy).Contents (Elt F)),
    TRef.nullary (TRef.of (T := ⟨S4096x32x32, .i32⟩) main_call1_v0) (iotaInDim S4096x32x32 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S4096x32x32, .f32⟩) main_v29) (TRef.of (T := ⟨S4096x32x32, .i32⟩) main_call1_v0) (TRef.of (T := ⟨S_, .f32⟩) main_call1_cst) (TRef.of (T := ⟨S_, .i32⟩) main_call1_c) (TRef.of (T := ⟨S4096x32, .f32⟩) main_call1_v1_0) (fun x y u v => fun j => (Host.argReduce reducer_argmax_f32_i32 x y u v reducesTo_S4096x32x32_S4096x32_d2 h_S_ j).1),
    TRef.quaternary (TRef.of (T := ⟨S4096x32x32, .f32⟩) main_v29) (TRef.of (T := ⟨S4096x32x32, .i32⟩) main_call1_v0) (TRef.of (T := ⟨S_, .f32⟩) main_call1_cst) (TRef.of (T := ⟨S_, .i32⟩) main_call1_c) (TRef.of (T := ⟨S4096x32, .i32⟩) main_v30) (fun x y u v => fun j => (Host.argReduce reducer_argmax_f32_i32 x y u v reducesTo_S4096x32x32_S4096x32_d2 h_S_ j).2),
    TRef.unary (TRef.of (T := ⟨S4096x32, .i32⟩) main_v30) (TRef.of (T := ⟨S4096x32x1, .i32⟩) main_call2_v0) (broadcastInDim S4096x32x1 ![0, 1] bcast_S4096x32_S4096x32x1_0_1),
    TRef.nullary (TRef.of (T := ⟨S1x1x32, .i32⟩) main_call2_v1) (iotaInDim S1x1x32 32 2),
    TRef.unary (TRef.of (T := ⟨S4096x32x1, .i32⟩) main_call2_v0) (TRef.of (T := ⟨S4096x32x32, .i32⟩) main_call2_v2) (broadcastInDim S4096x32x32 ![0, 1, 2] bcast_S4096x32x1_S4096x32x32_0_1_2),
    TRef.unary (TRef.of (T := ⟨S1x1x32, .i32⟩) main_call2_v1) (TRef.of (T := ⟨S4096x32x32, .i32⟩) main_call2_v3) (broadcastInDim S4096x32x32 ![0, 1, 2] bcast_S1x1x32_S4096x32x32_0_1_2),
    TRef.binary (TRef.of (T := ⟨S4096x32x32, .i32⟩) main_call2_v2) (TRef.of (T := ⟨S4096x32x32, .i32⟩) main_call2_v3) (TRef.of (T := ⟨S4096x32x32, .i1⟩) main_call2_v4) (cmpi .eq),
    TRef.unary (TRef.of (T := ⟨S4096x32x32, .i1⟩) main_call2_v4) (TRef.of (T := ⟨S4096x32x32, .f32⟩) main_v31) (uitofp .f32),
    binary main_v31 main_v19 main_v32 (addf : (⟨S4096x32x32, .f32⟩ : BufTy).Contents (Elt F) → (⟨S4096x32x32, .f32⟩ : BufTy).Contents (Elt F) → (⟨S4096x32x32, .f32⟩ : BufTy).Contents (Elt F)),
    binary main_v32 main_v19 main_v33 (subf : (⟨S4096x32x32, .f32⟩ : BufTy).Contents (Elt F) → (⟨S4096x32x32, .f32⟩ : BufTy).Contents (Elt F) → (⟨S4096x32x32, .f32⟩ : BufTy).Contents (Elt F)) ]

/-- @main's 324 operations, in order (a called function's operations stand in its call's place, spelt `TRef.…`). -/
abbrev ops : List (HloOp τ sig (Elt F)) :=
  ops_0 ++ (ops_1 ++ (ops_2 ++ (ops_3 ++ (ops_4 ++ (ops_5 ++ (ops_6 ++ (ops_7 ++ (ops_8 ++ (ops_9 ++ (ops_10))))))))))

set_option maxRecDepth 8192 in
set_option maxHeartbeats 4000000 in
/-- The main function performs the windows' operations in order. -/
theorem main_eq (c : Dev nD) : main (F := F) c = seq ops := rfl
/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide
set_option maxRecDepth 8192 in
/-- Each operation of window `ops_0` touches only the program's own buffers. -/
theorem ops_0_sub : (ops_0 : List (HloOp τ sig (Elt F))).Forall fun op => op.bufs ⊆ tcRefs τ sig :=
  ⟨reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., nullary_bufs_sub .., binary_bufs_sub ..⟩
set_option maxRecDepth 8192 in
/-- No operation of window `ops_0` takes a fresh buffer. -/
theorem ops_0_fresh : (ops_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Each operation of window `ops_1` touches only the program's own buffers. -/
theorem ops_1_sub : (ops_1 : List (HloOp τ sig (Elt F))).Forall fun op => op.bufs ⊆ tcRefs τ sig :=
  ⟨unary_bufs_sub .., unary_bufs_sub .., nullary_bufs_sub .., binary_bufs_sub .., unary_bufs_sub .., unary_bufs_sub .., binary_bufs_sub .., unary_bufs_sub .., nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., binary_bufs_sub ..⟩
set_option maxRecDepth 8192 in
/-- No operation of window `ops_1` takes a fresh buffer. -/
theorem ops_1_fresh : (ops_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Each operation of window `ops_2` touches only the program's own buffers. -/
theorem ops_2_sub : (ops_2 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
/-- No operation of window `ops_2` takes a fresh buffer. -/
theorem ops_2_fresh : (ops_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Each operation of window `ops_3` touches only the program's own buffers. -/
theorem ops_3_sub : (ops_3 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩
set_option maxRecDepth 8192 in
/-- No operation of window `ops_3` takes a fresh buffer. -/
theorem ops_3_fresh : (ops_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Each operation of window `ops_4` touches only the program's own buffers. -/
theorem ops_4_sub : (ops_4 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
set_option maxRecDepth 8192 in
/-- No operation of window `ops_4` takes a fresh buffer. -/
theorem ops_4_fresh : (ops_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Each operation of window `ops_5` touches only the program's own buffers. -/
theorem ops_5_sub : (ops_5 : List (HloOp τ sig (Elt F))).Forall fun op => op.bufs ⊆ tcRefs τ sig :=
  ⟨binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub ..⟩
set_option maxRecDepth 8192 in
/-- No operation of window `ops_5` takes a fresh buffer. -/
theorem ops_5_fresh : (ops_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Each operation of window `ops_6` touches only the program's own buffers. -/
theorem ops_6_sub : (ops_6 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
/-- No operation of window `ops_6` takes a fresh buffer. -/
theorem ops_6_fresh : (ops_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Each operation of window `ops_7` touches only the program's own buffers. -/
theorem ops_7_sub : (ops_7 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub ..⟩
set_option maxRecDepth 8192 in
/-- No operation of window `ops_7` takes a fresh buffer. -/
theorem ops_7_fresh : (ops_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Each operation of window `ops_8` touches only the program's own buffers. -/
theorem ops_8_sub : (ops_8 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
set_option maxRecDepth 8192 in
/-- No operation of window `ops_8` takes a fresh buffer. -/
theorem ops_8_fresh : (ops_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Each operation of window `ops_9` touches only the program's own buffers. -/
theorem ops_9_sub : (ops_9 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub ..⟩
set_option maxRecDepth 8192 in
/-- No operation of window `ops_9` takes a fresh buffer. -/
theorem ops_9_fresh : (ops_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Each operation of window `ops_10` touches only the program's own buffers. -/
theorem ops_10_sub : (ops_10 : List (HloOp τ sig (Elt F))).Forall fun op => op.bufs ⊆ tcRefs τ sig :=
  ⟨unary_bufs_sub .., binary_bufs_sub .., unary_bufs_sub .., binary_bufs_sub .., unary_bufs_sub .., binary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub ..⟩
set_option maxRecDepth 8192 in
/-- No operation of window `ops_10` takes a fresh buffer. -/
theorem ops_10_fresh : (ops_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- Each operation touches only the program's own buffers. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h, List.forall_iff_forall_mem.mp ops_10_sub op h]
/-- No operation takes a fresh buffer. -/
theorem ops_fresh : ∀ op ∈ (ops : List (HloOp τ sig (Elt F))), op.fresh = ∅ := fun op h => by
    simp only [ops, List.mem_append] at h
    rcases h with h | h | h | h | h | h | h | h | h | h | h
    exacts [List.forall_iff_forall_mem.mp ops_0_fresh op h, List.forall_iff_forall_mem.mp ops_1_fresh op h, List.forall_iff_forall_mem.mp ops_2_fresh op h, List.forall_iff_forall_mem.mp ops_3_fresh op h, List.forall_iff_forall_mem.mp ops_4_fresh op h, List.forall_iff_forall_mem.mp ops_5_fresh op h, List.forall_iff_forall_mem.mp ops_6_fresh op h, List.forall_iff_forall_mem.mp ops_7_fresh op h, List.forall_iff_forall_mem.mp ops_8_fresh op h, List.forall_iff_forall_mem.mp ops_9_fresh op h, List.forall_iff_forall_mem.mp ops_10_fresh op h]

end Cert.ReferenceIdeal.Value

end
-- ==== Proof.RefVals.lean ====
/- The values of the reference's buffers that later windows read, each a term over the earlier ones, and the contents after the first six windows. -/
module

public import proofs.«01_k».proof.Proof.RefOps

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v0`'s composed term of the arguments (named: it is used 2 times). -/
def res_main_v0 (V0 : Valuation τ sig (Elt F)) : (Proc.devRef .tc main_v0 : DevRef τ sig).ty.Contents (Elt F) :=
  shapeCast _ (V0 (Proc.devRef .tc main_arg0)) shapeCasts_S4096x1024_S4096x32x32

set_option maxRecDepth 8192 in
/-- `main_v7`'s composed term of the arguments (named: it is used 2 times). -/
def res_main_v7 (V0 : Valuation τ sig (Elt F)) : (Proc.devRef .tc main_v7 : DevRef τ sig).ty.Contents (Elt F) :=
  Host.exp (subf (res_main_v0 V0) (broadcastInDim S4096x32x32 ![0, 1, 2] bcast_S4096x32x1_S4096x32x32_0_1_2 (broadcastInDim S4096x32x1 ![0, 1] bcast_S4096x32_S4096x32x1_0_1 (maximumf (broadcastInDim S4096x32 ![] bcast_S_S4096x32 (constant S_ .f32 0xFF800000#32)) (Host.reduce FloatOps.maximumf (res_main_v0 V0) (constant S_ .f32 0xFF800000#32) reducesTo_S4096x32x32_S4096x32_d2 h_S_)))))

set_option maxRecDepth 8192 in
/-- `main_v19`'s composed term of the arguments (named: it is used 3 times). -/
def res_main_v19 (V0 : Valuation τ sig (Elt F)) : (Proc.devRef .tc main_v19 : DevRef τ sig).ty.Contents (Elt F) :=
  addf (Host.divf (mulf (broadcastInDim S4096x32x32 ![] bcast_S_S4096x32x32 (constant S_ .f32 0x3C23D70A#32)) (broadcastInDim S4096x32x32 ![] bcast_S_S4096x32x32 (constant S_ .f32 0x3F800000#32))) (broadcastInDim S4096x32x32 ![] bcast_S_S4096x32x32 (constant S_ .f32 0x42000000#32))) (mulf (broadcastInDim S4096x32x32 ![] bcast_S_S4096x32x32 (constant S_ .f32 0x3F7D70A4#32)) (Host.divf (res_main_v7 V0) (broadcastInDim S4096x32x32 ![0, 1, 2] bcast_S4096x32x1_S4096x32x32_0_1_2 (broadcastInDim S4096x32x1 ![0, 1] bcast_S4096x32_S4096x32x1_0_1 (Host.reduceAdd (res_main_v7 V0) (constant S_ .f32 0x00000000#32) reducesTo_S4096x32x32_S4096x32_d2 h_S_)))))

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 42#32

set_option maxRecDepth 8192 in
/-- `main_v26`'s composed term of the arguments (named: it is used 2 times). -/
def res_main_v26 (V0 : Valuation τ sig (Elt F)) : (Proc.devRef .tc main_v26 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_call0_call0_v1`'s composed term of the arguments (named: it is used 3 times). -/
def res_main_call0_call0_v1 (V0 : Valuation τ sig (Elt F)) : (Proc.devRef .tc main_call0_call0_v1 : DevRef τ sig).ty.Contents (Elt F) :=
  broadcastInDim S1x1x1 ![] bcast_S_S1x1x1 (constant S_ .f32 0x00800000#32)

set_option maxRecDepth 8192 in
/-- `main_call0_call0_v4`'s composed term of the arguments (named: it is used 5 times). -/
def res_main_call0_call0_v4 (V0 : Valuation τ sig (Elt F)) : (Proc.devRef .tc main_call0_call0_v4 : DevRef τ sig).ty.Contents (Elt F) :=
  shapeCast _ (extractStridedSlice S1 ![0] (res_main_v26 V0) slices_S2_S1_0) shapeCasts_S1_S_

set_option maxRecDepth 8192 in
/-- `main_call0_call0_v6`'s composed term of the arguments (named: it is used 5 times). -/
def res_main_call0_call0_v6 (V0 : Valuation τ sig (Elt F)) : (Proc.devRef .tc main_call0_call0_v6 : DevRef τ sig).ty.Contents (Elt F) :=
  shapeCast _ (extractStridedSlice S1 ![1] (res_main_v26 V0) slices_S2_S1_1) shapeCasts_S1_S_

set_option maxRecDepth 8192 in
/-- `main_call0_call0_v17`'s composed term of the arguments (named: it is used 2 times). -/
def res_main_call0_call0_v17 (V0 : Valuation τ sig (Elt F)) : (Proc.devRef .tc main_call0_call0_v17 : DevRef τ sig).ty.Contents (Elt F) :=
  addi (addi (muli (broadcastInDim S4096x32x32 ![] bcast_S_S4096x32x32 (constantI S_ 64 1024#64)) (iotaInDim S4096x32x32 64 0)) (muli (broadcastInDim S4096x32x32 ![] bcast_S_S4096x32x32 (constantI S_ 64 32#64)) (iotaInDim S4096x32x32 64 1))) (muli (broadcastInDim S4096x32x32 ![] bcast_S_S4096x32x32 (constantI S_ 64 1#64)) (iotaInDim S4096x32x32 64 2))

set_option maxRecDepth 8192 in
/-- `main_call0_call0_call0_v1`'s composed term of the arguments (named: it is used 4 times). -/
def res_main_call0_call0_call0_v1 (V0 : Valuation τ sig (Elt F)) : (Proc.devRef .tc main_call0_call0_call0_v1 : DevRef τ sig).ty.Contents (Elt F) :=
  xori (xori (res_main_call0_call0_v4 V0) (res_main_call0_call0_v6 V0)) (constantI S_ 32 466688986#32)

set_option maxRecDepth 8192 in
/-- `main_call0_call0_call0_v5`'s composed term of the arguments (named: it is used 3 times). -/
def res_main_call0_call0_call0_v5 (V0 : Valuation τ sig (Elt F)) : (Proc.devRef .tc main_call0_call0_call0_v5 : DevRef τ sig).ty.Contents (Elt F) :=
  addi (trunci 32 (res_main_call0_call0_v17 V0) natLt_32_64) (broadcastInDim S4096x32x32 ![] bcast_S_S4096x32x32 (res_main_call0_call0_v6 V0))

set_option maxRecDepth 8192 in
/-- `main_call0_call0_call0_v6`'s composed term of the arguments (named: it is used 2 times). -/
def res_main_call0_call0_call0_v6 (V0 : Valuation τ sig (Elt F)) : (Proc.devRef .tc main_call0_call0_call0_v6 : DevRef τ sig).ty.Contents (Elt F) :=
  addi (addi (trunci 32 (Host.shrui (res_main_call0_call0_v17 V0) (broadcastInDim S4096x32x32 ![] bcast_S_S4096x32x32 (constantI S_ 64 32#64))) natLt_32_64) (broadcastInDim S4096x32x32 ![] bcast_S_S4096x32x32 (res_main_call0_call0_v4 V0))) (res_main_call0_call0_call0_v5 V0)

set_option maxRecDepth 8192 in
/-- `main_call0_call0_call0_v12`'s composed term of the arguments (named: it is used 3 times). -/
def res_main_call0_call0_call0_v12 (V0 : Valuation τ sig (Elt F)) : (Proc.devRef .tc main_call0_call0_call0_v12 : DevRef τ sig).ty.Contents (Elt F) :=
  xori (res_main_call0_call0_call0_v6 V0) (ori (Host.shli (res_main_call0_call0_call0_v5 V0) (broadcastInDim S4096x32x32 ![] bcast_S_S4096x32x32 (constantI S_ 32 13#32))) (Host.shrui (res_main_call0_call0_call0_v5 V0) (broadcastInDim S4096x32x32 ![] bcast_S_S4096x32x32 (constantI S_ 32 19#32))))

set_option maxRecDepth 8192 in
/-- `main_call0_call0_call0_v13`'s composed term of the arguments (named: it is used 2 times). -/
def res_main_call0_call0_call0_v13 (V0 : Valuation τ sig (Elt F)) : (Proc.devRef .tc main_call0_call0_call0_v13 : DevRef τ sig).ty.Contents (Elt F) :=
  addi (res_main_call0_call0_call0_v6 V0) (res_main_call0_call0_call0_v12 V0)

set_option maxRecDepth 8192 in
/-- `main_call0_call0_call0_v19`'s composed term of the arguments (named: it is used 3 times). -/
def res_main_call0_call0_call0_v19 (V0 : Valuation τ sig (Elt F)) : (Proc.devRef .tc main_call0_call0_call0_v19 : DevRef τ sig).ty.Contents (Elt F) :=
  xori (res_main_call0_call0_call0_v13 V0) (ori (Host.shli (res_main_call0_call0_call0_v12 V0) (broadcastInDim S4096x32x32 ![] bcast_S_S4096x32x32 (constantI S_ 32 15#32))) (Host.shrui (res_main_call0_call0_call0_v12 V0) (broadcastInDim S4096x32x32 ![] bcast_S_S4096x32x32 (constantI S_ 32 17#32))))

set_option maxRecDepth 8192 in
/-- `main_call0_call0_call0_v20`'s composed term of the arguments (named: it is used 2 times). -/
def res_main_call0_call0_call0_v20 (V0 : Valuation τ sig (Elt F)) : (Proc.devRef .tc main_call0_call0_call0_v20 : DevRef τ sig).ty.Contents (Elt F) :=
  addi (res_main_call0_call0_call0_v13 V0) (res_main_call0_call0_call0_v19 V0)

set_option maxRecDepth 8192 in
/-- `main_call0_call0_call0_v26`'s composed term of the arguments (named: it is used 3 times). -/
def res_main_call0_call0_call0_v26 (V0 : Valuation τ sig (Elt F)) : (Proc.devRef .tc main_call0_call0_call0_v26 : DevRef τ sig).ty.Contents (Elt F) :=
  xori (res_main_call0_call0_call0_v20 V0) (ori (Host.shli (res_main_call0_call0_call0_v19 V0) (broadcastInDim S4096x32x32 ![] bcast_S_S4096x32x32 (constantI S_ 32 26#32))) (Host.shrui (res_main_call0_call0_call0_v19 V0) (broadcastInDim S4096x32x32 ![] bcast_S_S4096x32x32 (constantI S_ 32 6#32))))

set_option maxRecDepth 8192 in
/-- `main_call0_call0_call0_v27`'s composed term of the arguments (named: it is used 2 times). -/
def res_main_call0_call0_call0_v27 (V0 : Valuation τ sig (Elt F)) : (Proc.devRef .tc main_call0_call0_call0_v27 : DevRef τ sig).ty.Contents (Elt F) :=
  addi (res_main_call0_call0_call0_v20 V0) (res_main_call0_call0_call0_v26 V0)

set_option maxRecDepth 8192 in
/-- `main_call0_call0_call0_v39`'s composed term of the arguments (named: it is used 3 times). -/
def res_main_call0_call0_call0_v39 (V0 : Valuation τ sig (Elt F)) : (Proc.devRef .tc main_call0_call0_call0_v39 : DevRef τ sig).ty.Contents (Elt F) :=
  addi (addi (xori (res_main_call0_call0_call0_v27 V0) (ori (Host.shli (res_main_call0_call0_call0_v26 V0) (broadcastInDim S4096x32x32 ![] bcast_S_S4096x32x32 (constantI S_ 32 6#32))) (Host.shrui (res_main_call0_call0_call0_v26 V0) (broadcastInDim S4096x32x32 ![] bcast_S_S4096x32x32 (constantI S_ 32 26#32))))) (broadcastInDim S4096x32x32 ![] bcast_S_S4096x32x32 (res_main_call0_call0_call0_v1 V0))) (broadcastInDim S4096x32x32 ![] bcast_S_S4096x32x32 (constantI S_ 32 1#32))

set_option maxRecDepth 8192 in
/-- `main_call0_call0_call0_v40`'s composed term of the arguments (named: it is used 2 times). -/
def res_main_call0_call0_call0_v40 (V0 : Valuation τ sig (Elt F)) : (Proc.devRef .tc main_call0_call0_call0_v40 : DevRef τ sig).ty.Contents (Elt F) :=
  addi (addi (res_main_call0_call0_call0_v27 V0) (broadcastInDim S4096x32x32 ![] bcast_S_S4096x32x32 (res_main_call0_call0_v6 V0))) (res_main_call0_call0_call0_v39 V0)

set_option maxRecDepth 8192 in
/-- `main_call0_call0_call0_v46`'s composed term of the arguments (named: it is used 3 times). -/
def res_main_call0_call0_call0_v46 (V0 : Valuation τ sig (Elt F)) : (Proc.devRef .tc main_call0_call0_call0_v46 : DevRef τ sig).ty.Contents (Elt F) :=
  xori (res_main_call0_call0_call0_v40 V0) (ori (Host.shli (res_main_call0_call0_call0_v39 V0) (broadcastInDim S4096x32x32 ![] bcast_S_S4096x32x32 (constantI S_ 32 17#32))) (Host.shrui (res_main_call0_call0_call0_v39 V0) (broadcastInDim S4096x32x32 ![] bcast_S_S4096x32x32 (constantI S_ 32 15#32))))

set_option maxRecDepth 8192 in
/-- `main_call0_call0_call0_v47`'s composed term of the arguments (named: it is used 2 times). -/
def res_main_call0_call0_call0_v47 (V0 : Valuation τ sig (Elt F)) : (Proc.devRef .tc main_call0_call0_call0_v47 : DevRef τ sig).ty.Contents (Elt F) :=
  addi (res_main_call0_call0_call0_v40 V0) (res_main_call0_call0_call0_v46 V0)

set_option maxRecDepth 8192 in
/-- `main_call0_call0_call0_v53`'s composed term of the arguments (named: it is used 3 times). -/
def res_main_call0_call0_call0_v53 (V0 : Valuation τ sig (Elt F)) : (Proc.devRef .tc main_call0_call0_call0_v53 : DevRef τ sig).ty.Contents (Elt F) :=
  xori (res_main_call0_call0_call0_v47 V0) (ori (Host.shli (res_main_call0_call0_call0_v46 V0) (broadcastInDim S4096x32x32 ![] bcast_S_S4096x32x32 (constantI S_ 32 29#32))) (Host.shrui (res_main_call0_call0_call0_v46 V0) (broadcastInDim S4096x32x32 ![] bcast_S_S4096x32x32 (constantI S_ 32 3#32))))

set_option maxRecDepth 8192 in
/-- `main_call0_call0_call0_v54`'s composed term of the arguments (named: it is used 2 times). -/
def res_main_call0_call0_call0_v54 (V0 : Valuation τ sig (Elt F)) : (Proc.devRef .tc main_call0_call0_call0_v54 : DevRef τ sig).ty.Contents (Elt F) :=
  addi (res_main_call0_call0_call0_v47 V0) (res_main_call0_call0_call0_v53 V0)

set_option maxRecDepth 8192 in
/-- `main_call0_call0_call0_v60`'s composed term of the arguments (named: it is used 3 times). -/
def res_main_call0_call0_call0_v60 (V0 : Valuation τ sig (Elt F)) : (Proc.devRef .tc main_call0_call0_call0_v60 : DevRef τ sig).ty.Contents (Elt F) :=
  xori (res_main_call0_call0_call0_v54 V0) (ori (Host.shli (res_main_call0_call0_call0_v53 V0) (broadcastInDim S4096x32x32 ![] bcast_S_S4096x32x32 (constantI S_ 32 16#32))) (Host.shrui (res_main_call0_call0_call0_v53 V0) (broadcastInDim S4096x32x32 ![] bcast_S_S4096x32x32 (constantI S_ 32 16#32))))

set_option maxRecDepth 8192 in
/-- `main_call0_call0_call0_v61`'s composed term of the arguments (named: it is used 2 times). -/
def res_main_call0_call0_call0_v61 (V0 : Valuation τ sig (Elt F)) : (Proc.devRef .tc main_call0_call0_call0_v61 : DevRef τ sig).ty.Contents (Elt F) :=
  addi (res_main_call0_call0_call0_v54 V0) (res_main_call0_call0_call0_v60 V0)

set_option maxRecDepth 8192 in
/-- `main_call0_call0_call0_v73`'s composed term of the arguments (named: it is used 3 times). -/
def res_main_call0_call0_call0_v73 (V0 : Valuation τ sig (Elt F)) : (Proc.devRef .tc main_call0_call0_call0_v73 : DevRef τ sig).ty.Contents (Elt F) :=
  addi (addi (xori (res_main_call0_call0_call0_v61 V0) (ori (Host.shli (res_main_call0_call0_call0_v60 V0) (broadcastInDim S4096x32x32 ![] bcast_S_S4096x32x32 (constantI S_ 32 24#32))) (Host.shrui (res_main_call0_call0_call0_v60 V0) (broadcastInDim S4096x32x32 ![] bcast_S_S4096x32x32 (constantI S_ 32 8#32))))) (broadcastInDim S4096x32x32 ![] bcast_S_S4096x32x32 (res_main_call0_call0_v4 V0))) (broadcastInDim S4096x32x32 ![] bcast_S_S4096x32x32 (constantI S_ 32 2#32))

set_option maxRecDepth 8192 in
/-- `main_call0_call0_call0_v74`'s composed term of the arguments (named: it is used 2 times). -/
def res_main_call0_call0_call0_v74 (V0 : Valuation τ sig (Elt F)) : (Proc.devRef .tc main_call0_call0_call0_v74 : DevRef τ sig).ty.Contents (Elt F) :=
  addi (addi (res_main_call0_call0_call0_v61 V0) (broadcastInDim S4096x32x32 ![] bcast_S_S4096x32x32 (res_main_call0_call0_call0_v1 V0))) (res_main_call0_call0_call0_v73 V0)

set_option maxRecDepth 8192 in
/-- `main_call0_call0_call0_v80`'s composed term of the arguments (named: it is used 3 times). -/
def res_main_call0_call0_call0_v80 (V0 : Valuation τ sig (Elt F)) : (Proc.devRef .tc main_call0_call0_call0_v80 : DevRef τ sig).ty.Contents (Elt F) :=
  xori (res_main_call0_call0_call0_v74 V0) (ori (Host.shli (res_main_call0_call0_call0_v73 V0) (broadcastInDim S4096x32x32 ![] bcast_S_S4096x32x32 (constantI S_ 32 13#32))) (Host.shrui (res_main_call0_call0_call0_v73 V0) (broadcastInDim S4096x32x32 ![] bcast_S_S4096x32x32 (constantI S_ 32 19#32))))

set_option maxRecDepth 8192 in
/-- `main_call0_call0_call0_v81`'s composed term of the arguments (named: it is used 2 times). -/
def res_main_call0_call0_call0_v81 (V0 : Valuation τ sig (Elt F)) : (Proc.devRef .tc main_call0_call0_call0_v81 : DevRef τ sig).ty.Contents (Elt F) :=
  addi (res_main_call0_call0_call0_v74 V0) (res_main_call0_call0_call0_v80 V0)

set_option maxRecDepth 8192 in
/-- `main_call0_call0_call0_v87`'s composed term of the arguments (named: it is used 3 times). -/
def res_main_call0_call0_call0_v87 (V0 : Valuation τ sig (Elt F)) : (Proc.devRef .tc main_call0_call0_call0_v87 : DevRef τ sig).ty.Contents (Elt F) :=
  xori (res_main_call0_call0_call0_v81 V0) (ori (Host.shli (res_main_call0_call0_call0_v80 V0) (broadcastInDim S4096x32x32 ![] bcast_S_S4096x32x32 (constantI S_ 32 15#32))) (Host.shrui (res_main_call0_call0_call0_v80 V0) (broadcastInDim S4096x32x32 ![] bcast_S_S4096x32x32 (constantI S_ 32 17#32))))

set_option maxRecDepth 8192 in
/-- `main_call0_call0_call0_v88`'s composed term of the arguments (named: it is used 2 times). -/
def res_main_call0_call0_call0_v88 (V0 : Valuation τ sig (Elt F)) : (Proc.devRef .tc main_call0_call0_call0_v88 : DevRef τ sig).ty.Contents (Elt F) :=
  addi (res_main_call0_call0_call0_v81 V0) (res_main_call0_call0_call0_v87 V0)

set_option maxRecDepth 8192 in
/-- `main_call0_call0_call0_v94`'s composed term of the arguments (named: it is used 3 times). -/
def res_main_call0_call0_call0_v94 (V0 : Valuation τ sig (Elt F)) : (Proc.devRef .tc main_call0_call0_call0_v94 : DevRef τ sig).ty.Contents (Elt F) :=
  xori (res_main_call0_call0_call0_v88 V0) (ori (Host.shli (res_main_call0_call0_call0_v87 V0) (broadcastInDim S4096x32x32 ![] bcast_S_S4096x32x32 (constantI S_ 32 26#32))) (Host.shrui (res_main_call0_call0_call0_v87 V0) (broadcastInDim S4096x32x32 ![] bcast_S_S4096x32x32 (constantI S_ 32 6#32))))

set_option maxRecDepth 8192 in
/-- `main_call0_call0_call0_v95`'s composed term of the arguments (named: it is used 2 times). -/
def res_main_call0_call0_call0_v95 (V0 : Valuation τ sig (Elt F)) : (Proc.devRef .tc main_call0_call0_call0_v95 : DevRef τ sig).ty.Contents (Elt F) :=
  addi (res_main_call0_call0_call0_v88 V0) (res_main_call0_call0_call0_v94 V0)

set_option maxRecDepth 8192 in
/-- `main_call0_call0_call0_v107`'s composed term of the arguments (named: it is used 3 times). -/
def res_main_call0_call0_call0_v107 (V0 : Valuation τ sig (Elt F)) : (Proc.devRef .tc main_call0_call0_call0_v107 : DevRef τ sig).ty.Contents (Elt F) :=
  addi (addi (xori (res_main_call0_call0_call0_v95 V0) (ori (Host.shli (res_main_call0_call0_call0_v94 V0) (broadcastInDim S4096x32x32 ![] bcast_S_S4096x32x32 (constantI S_ 32 6#32))) (Host.shrui (res_main_call0_call0_call0_v94 V0) (broadcastInDim S4096x32x32 ![] bcast_S_S4096x32x32 (constantI S_ 32 26#32))))) (broadcastInDim S4096x32x32 ![] bcast_S_S4096x32x32 (res_main_call0_call0_v6 V0))) (broadcastInDim S4096x32x32 ![] bcast_S_S4096x32x32 (constantI S_ 32 3#32))

set_option maxRecDepth 8192 in
/-- `main_call0_call0_call0_v108`'s composed term of the arguments (named: it is used 2 times). -/
def res_main_call0_call0_call0_v108 (V0 : Valuation τ sig (Elt F)) : (Proc.devRef .tc main_call0_call0_call0_v108 : DevRef τ sig).ty.Contents (Elt F) :=
  addi (addi (res_main_call0_call0_call0_v95 V0) (broadcastInDim S4096x32x32 ![] bcast_S_S4096x32x32 (res_main_call0_call0_v4 V0))) (res_main_call0_call0_call0_v107 V0)

set_option maxRecDepth 8192 in
/-- `main_call0_call0_call0_v114`'s composed term of the arguments (named: it is used 3 times). -/
def res_main_call0_call0_call0_v114 (V0 : Valuation τ sig (Elt F)) : (Proc.devRef .tc main_call0_call0_call0_v114 : DevRef τ sig).ty.Contents (Elt F) :=
  xori (res_main_call0_call0_call0_v108 V0) (ori (Host.shli (res_main_call0_call0_call0_v107 V0) (broadcastInDim S4096x32x32 ![] bcast_S_S4096x32x32 (constantI S_ 32 17#32))) (Host.shrui (res_main_call0_call0_call0_v107 V0) (broadcastInDim S4096x32x32 ![] bcast_S_S4096x32x32 (constantI S_ 32 15#32))))

set_option maxRecDepth 8192 in
/-- `main_call0_call0_call0_v115`'s composed term of the arguments (named: it is used 2 times). -/
def res_main_call0_call0_call0_v115 (V0 : Valuation τ sig (Elt F)) : (Proc.devRef .tc main_call0_call0_call0_v115 : DevRef τ sig).ty.Contents (Elt F) :=
  addi (res_main_call0_call0_call0_v108 V0) (res_main_call0_call0_call0_v114 V0)

set_option maxRecDepth 8192 in
/-- `main_call0_call0_call0_v121`'s composed term of the arguments (named: it is used 3 times). -/
def res_main_call0_call0_call0_v121 (V0 : Valuation τ sig (Elt F)) : (Proc.devRef .tc main_call0_call0_call0_v121 : DevRef τ sig).ty.Contents (Elt F) :=
  xori (res_main_call0_call0_call0_v115 V0) (ori (Host.shli (res_main_call0_call0_call0_v114 V0) (broadcastInDim S4096x32x32 ![] bcast_S_S4096x32x32 (constantI S_ 32 29#32))) (Host.shrui (res_main_call0_call0_call0_v114 V0) (broadcastInDim S4096x32x32 ![] bcast_S_S4096x32x32 (constantI S_ 32 3#32))))

set_option maxRecDepth 8192 in
/-- `main_call0_call0_call0_v122`'s composed term of the arguments (named: it is used 2 times). -/
def res_main_call0_call0_call0_v122 (V0 : Valuation τ sig (Elt F)) : (Proc.devRef .tc main_call0_call0_call0_v122 : DevRef τ sig).ty.Contents (Elt F) :=
  addi (res_main_call0_call0_call0_v115 V0) (res_main_call0_call0_call0_v121 V0)

set_option maxRecDepth 8192 in
/-- `main_call0_call0_call0_v128`'s composed term of the arguments (named: it is used 3 times). -/
def res_main_call0_call0_call0_v128 (V0 : Valuation τ sig (Elt F)) : (Proc.devRef .tc main_call0_call0_call0_v128 : DevRef τ sig).ty.Contents (Elt F) :=
  xori (res_main_call0_call0_call0_v122 V0) (ori (Host.shli (res_main_call0_call0_call0_v121 V0) (broadcastInDim S4096x32x32 ![] bcast_S_S4096x32x32 (constantI S_ 32 16#32))) (Host.shrui (res_main_call0_call0_call0_v121 V0) (broadcastInDim S4096x32x32 ![] bcast_S_S4096x32x32 (constantI S_ 32 16#32))))

set_option maxRecDepth 8192 in
/-- `main_call0_call0_call0_v129`'s composed term of the arguments (named: it is used 2 times). -/
def res_main_call0_call0_call0_v129 (V0 : Valuation τ sig (Elt F)) : (Proc.devRef .tc main_call0_call0_call0_v129 : DevRef τ sig).ty.Contents (Elt F) :=
  addi (res_main_call0_call0_call0_v122 V0) (res_main_call0_call0_call0_v128 V0)

set_option maxRecDepth 8192 in
/-- `main_call0_call0_call0_v141`'s composed term of the arguments (named: it is used 3 times). -/
def res_main_call0_call0_call0_v141 (V0 : Valuation τ sig (Elt F)) : (Proc.devRef .tc main_call0_call0_call0_v141 : DevRef τ sig).ty.Contents (Elt F) :=
  addi (addi (xori (res_main_call0_call0_call0_v129 V0) (ori (Host.shli (res_main_call0_call0_call0_v128 V0) (broadcastInDim S4096x32x32 ![] bcast_S_S4096x32x32 (constantI S_ 32 24#32))) (Host.shrui (res_main_call0_call0_call0_v128 V0) (broadcastInDim S4096x32x32 ![] bcast_S_S4096x32x32 (constantI S_ 32 8#32))))) (broadcastInDim S4096x32x32 ![] bcast_S_S4096x32x32 (res_main_call0_call0_call0_v1 V0))) (broadcastInDim S4096x32x32 ![] bcast_S_S4096x32x32 (constantI S_ 32 4#32))

set_option maxRecDepth 8192 in
/-- `main_call0_call0_call0_v142`'s composed term of the arguments (named: it is used 2 times). -/
def res_main_call0_call0_call0_v142 (V0 : Valuation τ sig (Elt F)) : (Proc.devRef .tc main_call0_call0_call0_v142 : DevRef τ sig).ty.Contents (Elt F) :=
  addi (addi (res_main_call0_call0_call0_v129 V0) (broadcastInDim S4096x32x32 ![] bcast_S_S4096x32x32 (res_main_call0_call0_v6 V0))) (res_main_call0_call0_call0_v141 V0)

set_option maxRecDepth 8192 in
/-- `main_call0_call0_call0_v148`'s composed term of the arguments (named: it is used 3 times). -/
def res_main_call0_call0_call0_v148 (V0 : Valuation τ sig (Elt F)) : (Proc.devRef .tc main_call0_call0_call0_v148 : DevRef τ sig).ty.Contents (Elt F) :=
  xori (res_main_call0_call0_call0_v142 V0) (ori (Host.shli (res_main_call0_call0_call0_v141 V0) (broadcastInDim S4096x32x32 ![] bcast_S_S4096x32x32 (constantI S_ 32 13#32))) (Host.shrui (res_main_call0_call0_call0_v141 V0) (broadcastInDim S4096x32x32 ![] bcast_S_S4096x32x32 (constantI S_ 32 19#32))))

set_option maxRecDepth 8192 in
/-- `main_call0_call0_call0_v149`'s composed term of the arguments (named: it is used 2 times). -/
def res_main_call0_call0_call0_v149 (V0 : Valuation τ sig (Elt F)) : (Proc.devRef .tc main_call0_call0_call0_v149 : DevRef τ sig).ty.Contents (Elt F) :=
  addi (res_main_call0_call0_call0_v142 V0) (res_main_call0_call0_call0_v148 V0)

set_option maxRecDepth 8192 in
/-- `main_call0_call0_call0_v155`'s composed term of the arguments (named: it is used 3 times). -/
def res_main_call0_call0_call0_v155 (V0 : Valuation τ sig (Elt F)) : (Proc.devRef .tc main_call0_call0_call0_v155 : DevRef τ sig).ty.Contents (Elt F) :=
  xori (res_main_call0_call0_call0_v149 V0) (ori (Host.shli (res_main_call0_call0_call0_v148 V0) (broadcastInDim S4096x32x32 ![] bcast_S_S4096x32x32 (constantI S_ 32 15#32))) (Host.shrui (res_main_call0_call0_call0_v148 V0) (broadcastInDim S4096x32x32 ![] bcast_S_S4096x32x32 (constantI S_ 32 17#32))))

set_option maxRecDepth 8192 in
/-- `main_call0_call0_call0_v156`'s composed term of the arguments (named: it is used 2 times). -/
def res_main_call0_call0_call0_v156 (V0 : Valuation τ sig (Elt F)) : (Proc.devRef .tc main_call0_call0_call0_v156 : DevRef τ sig).ty.Contents (Elt F) :=
  addi (res_main_call0_call0_call0_v149 V0) (res_main_call0_call0_call0_v155 V0)

set_option maxRecDepth 8192 in
/-- `main_call0_call0_call0_v162`'s composed term of the arguments (named: it is used 3 times). -/
def res_main_call0_call0_call0_v162 (V0 : Valuation τ sig (Elt F)) : (Proc.devRef .tc main_call0_call0_call0_v162 : DevRef τ sig).ty.Contents (Elt F) :=
  xori (res_main_call0_call0_call0_v156 V0) (ori (Host.shli (res_main_call0_call0_call0_v155 V0) (broadcastInDim S4096x32x32 ![] bcast_S_S4096x32x32 (constantI S_ 32 26#32))) (Host.shrui (res_main_call0_call0_call0_v155 V0) (broadcastInDim S4096x32x32 ![] bcast_S_S4096x32x32 (constantI S_ 32 6#32))))

set_option maxRecDepth 8192 in
/-- `main_call0_call0_call0_v163`'s composed term of the arguments (named: it is used 2 times). -/
def res_main_call0_call0_call0_v163 (V0 : Valuation τ sig (Elt F)) : (Proc.devRef .tc main_call0_call0_call0_v163 : DevRef τ sig).ty.Contents (Elt F) :=
  addi (res_main_call0_call0_call0_v156 V0) (res_main_call0_call0_call0_v162 V0)

set_option maxRecDepth 8192 in
/-- `main_v29`'s composed term of the arguments (named: it is used 2 times). -/
def res_main_v29 (V0 : Valuation τ sig (Elt F)) : (Proc.devRef .tc main_v29 : DevRef τ sig).ty.Contents (Elt F) :=
  addf (Host.negf (Host.log (Host.negf (Host.log (maximumf (broadcastInDim S4096x32x32 ![0, 1, 2] bcast_S1x1x1_S4096x32x32_0_1_2 (res_main_call0_call0_v1 V0)) (addf (mulf (subf (bitcastToFloat (F := F) .f32 (ori (Host.shrui (xori (addi (res_main_call0_call0_call0_v163 V0) (broadcastInDim S4096x32x32 ![] bcast_S_S4096x32x32 (res_main_call0_call0_call0_v1 V0))) (addi (addi (xori (res_main_call0_call0_call0_v163 V0) (ori (Host.shli (res_main_call0_call0_call0_v162 V0) (broadcastInDim S4096x32x32 ![] bcast_S_S4096x32x32 (constantI S_ 32 6#32))) (Host.shrui (res_main_call0_call0_call0_v162 V0) (broadcastInDim S4096x32x32 ![] bcast_S_S4096x32x32 (constantI S_ 32 26#32))))) (broadcastInDim S4096x32x32 ![] bcast_S_S4096x32x32 (res_main_call0_call0_v4 V0))) (broadcastInDim S4096x32x32 ![] bcast_S_S4096x32x32 (constantI S_ 32 5#32)))) (broadcastInDim S4096x32x32 ![] bcast_S_S4096x32x32 (constantI S_ 32 9#32))) (broadcastInDim S4096x32x32 ![] bcast_S_S4096x32x32 (constantI S_ 32 1065353216#32)))) (broadcastInDim S4096x32x32 ![] bcast_S_S4096x32x32 (constant S_ .f32 0x3F800000#32))) (broadcastInDim S4096x32x32 ![0, 1, 2] bcast_S1x1x1_S4096x32x32_0_1_2 (subf (broadcastInDim S1x1x1 ![] bcast_S_S1x1x1 (id (constant S_ .f32 0x3F800000#32))) (res_main_call0_call0_v1 V0)))) (broadcastInDim S4096x32x32 ![0, 1, 2] bcast_S1x1x1_S4096x32x32_0_1_2 (res_main_call0_call0_v1 V0)))))))) (Host.log (res_main_v19 V0))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S4096x32x32 32 2

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

/-- The device's buffer contents before @main's first operation. -/
def val0 (V0 : Valuation τ sig (Elt F)) : Valuation τ sig (Elt F) := V0
/-- What the buffer `main_arg0` holds in `val0`, as a term of the initial contents. -/
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_0 (val0 V0)
/-- The buffers that window `ops_0`'s operations write. -/
abbrev ops_0_W : List (Ref sig .tc) := [main_v0, main_cst, main_v1, main_cst_0, main_v2, main_v3, main_v4, main_v5, main_v6, main_v7, main_cst_1, main_v8, main_v9, main_v10, main_v11, main_cst_2, main_v12, main_cst_3, main_v13, main_v14, main_cst_4, main_v15, main_v16, main_cst_5, main_v17, main_v18, main_v19, main_c, main_c_6, main_v20]
set_option maxRecDepth 8192 in
/-- Each operation of window `ops_0` writes only the buffers listed for it. -/
theorem ops_0_writes : (ops_0 : List (HloOp τ sig (Elt F))).Forall fun op => op.writes ⊆ (ops_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_0` does not write keeps its contents through it. -/
theorem val0_1_keep (V0 : Valuation τ sig (Elt F)) (r : Ref sig .tc) (h : r ∉ ops_0_W) :
    val0_1 V0 (Proc.devRef .tc r) = val0 V0 (Proc.devRef .tc r) :=
  after_of_writes_sub ops_0 _ ops_0_writes h
/-- What the buffer `main_arg0` holds in `val0_1`, as a term of the initial contents. -/
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxRecDepth 8192 in
set_option maxHeartbeats 2000000 in
/-- What the buffer `main_v19` holds in `val0_1`, as a term of the initial contents. -/
theorem val0_1_main_v19 (V0 : Valuation τ sig (Elt F)) : val0_1 V0 (no_index (Proc.devRef .tc main_v19)) = res_main_v19 V0 := by
  unfold val0_1
  simp only [ops_0]
  after_results_simp
  simp only [val0_main_arg0] <;> rfl
set_option maxRecDepth 8192 in
set_option maxHeartbeats 2000000 in
/-- What the buffer `main_c` holds in `val0_1`, as a term of the initial contents. -/
theorem val0_1_main_c (V0 : Valuation τ sig (Elt F)) : val0_1 V0 (no_index (Proc.devRef .tc main_c)) = res_main_c V0 := by
  unfold val0_1
  simp only [ops_0]
  after_results_simp
  all_goals rfl
set_option maxRecDepth 8192 in
set_option maxHeartbeats 2000000 in
/-- What the buffer `main_v20` holds in `val0_1`, as a term of the initial contents. -/
theorem val0_1_main_v20 (V0 : Valuation τ sig (Elt F)) : val0_1 V0 (no_index (Proc.devRef .tc main_v20)) = Host.shrui (res_main_c V0) (constantI S_ 32 32#32) := by
  unfold val0_1
  simp only [ops_0]
  after_results_simp
  all_goals rfl

/-- The device's buffer contents after @main's first 60 operations. -/
def val0_2 (V0 : Valuation τ sig (Elt F)) : Valuation τ sig (Elt F) := after ops_1 (val0_1 V0)
/-- The buffers that window `ops_1`'s operations write. -/
abbrev ops_1_W : List (Ref sig .tc) := [main_v21, main_v22, main_c_7, main_v23, main_v24, main_v25, main_v26, main_v27, main_call0_cst, main_call0_cst_0, main_call0_call0_v0, main_call0_call0_v1, main_call0_call0_v2, main_call0_call0_v3, main_call0_call0_v4, main_call0_call0_v5, main_call0_call0_v6, main_call0_call0_v7, main_call0_call0_v8, main_call0_call0_v9, main_call0_call0_c, main_call0_call0_v10, main_call0_call0_v11, main_call0_call0_c_0, main_call0_call0_v12, main_call0_call0_v13, main_call0_call0_c_1, main_call0_call0_v14, main_call0_call0_v15, main_call0_call0_v16]
set_option maxRecDepth 8192 in
/-- Each operation of window `ops_1` writes only the buffers listed for it. -/
theorem ops_1_writes : (ops_1 : List (HloOp τ sig (Elt F))).Forall fun op => op.writes ⊆ (ops_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_1` does not write keeps its contents through it. -/
theorem val0_2_keep (V0 : Valuation τ sig (Elt F)) (r : Ref sig .tc) (h : r ∉ ops_1_W) :
    val0_2 V0 (Proc.devRef .tc r) = val0_1 V0 (Proc.devRef .tc r) :=
  after_of_writes_sub ops_1 _ ops_1_writes h
/-- What the buffer `main_arg0` holds in `val0_2`, as a term of the initial contents. -/
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
/-- What the buffer `main_v19` holds in `val0_2`, as a term of the initial contents. -/
theorem val0_2_main_v19 (V0 : Valuation τ sig (Elt F)) : val0_2 V0 (no_index (Proc.devRef .tc main_v19)) = res_main_v19 V0 :=
  (val0_2_keep V0 main_v19 (by decide)).trans (val0_1_main_v19 V0)
set_option maxRecDepth 8192 in
set_option maxHeartbeats 2000000 in
/-- What the buffer `main_v27` holds in `val0_2`, as a term of the initial contents. -/
theorem val0_2_main_v27 (V0 : Valuation τ sig (Elt F)) : val0_2 V0 (no_index (Proc.devRef .tc main_v27)) = Host.log (res_main_v19 V0) := by
  unfold val0_2
  simp only [ops_1, TRef.binary, TRef.nullary, TRef.reshape, TRef.unary, TRef.toBuf, TRef.ofBuf, cast_eq]
  after_results_simp
  simp only [val0_1_main_v19] <;> rfl
set_option maxRecDepth 8192 in
set_option maxHeartbeats 2000000 in
/-- What the buffer `main_call0_call0_v1` holds in `val0_2`, as a term of the initial contents. -/
theorem val0_2_main_call0_call0_v1 (V0 : Valuation τ sig (Elt F)) : val0_2 V0 (no_index (Proc.devRef .tc main_call0_call0_v1)) = res_main_call0_call0_v1 V0 := by
  unfold val0_2
  simp only [ops_1, TRef.binary, TRef.nullary, TRef.reshape, TRef.unary, TRef.toBuf, TRef.ofBuf, cast_eq]
  after_results_simp
  all_goals rfl
set_option maxRecDepth 8192 in
set_option maxHeartbeats 2000000 in
/-- What the buffer `main_call0_call0_v2` holds in `val0_2`, as a term of the initial contents. -/
theorem val0_2_main_call0_call0_v2 (V0 : Valuation τ sig (Elt F)) : val0_2 V0 (no_index (Proc.devRef .tc main_call0_call0_v2)) = broadcastInDim S1x1x1 ![] bcast_S_S1x1x1 (id (constant S_ .f32 0x3F800000#32)) := by
  unfold val0_2
  simp only [ops_1, TRef.binary, TRef.nullary, TRef.reshape, TRef.unary, TRef.toBuf, TRef.ofBuf, cast_eq]
  after_results_simp
  all_goals rfl
set_option maxRecDepth 8192 in
set_option maxHeartbeats 2000000 in
/-- What the buffer `main_call0_call0_v4` holds in `val0_2`, as a term of the initial contents. -/
theorem val0_2_main_call0_call0_v4 (V0 : Valuation τ sig (Elt F)) : val0_2 V0 (no_index (Proc.devRef .tc main_call0_call0_v4)) = res_main_call0_call0_v4 V0 := by
  unfold val0_2
  simp only [ops_1, TRef.binary, TRef.nullary, TRef.reshape, TRef.unary, TRef.toBuf, TRef.ofBuf, cast_eq]
  after_results_simp
  simp only [val0_1_main_c, val0_1_main_v20] <;> rfl
set_option maxRecDepth 8192 in
set_option maxHeartbeats 2000000 in
/-- What the buffer `main_call0_call0_v6` holds in `val0_2`, as a term of the initial contents. -/
theorem val0_2_main_call0_call0_v6 (V0 : Valuation τ sig (Elt F)) : val0_2 V0 (no_index (Proc.devRef .tc main_call0_call0_v6)) = res_main_call0_call0_v6 V0 := by
  unfold val0_2
  simp only [ops_1, TRef.binary, TRef.nullary, TRef.reshape, TRef.unary, TRef.toBuf, TRef.ofBuf, cast_eq]
  after_results_simp
  simp only [val0_1_main_c, val0_1_main_v20] <;> rfl
set_option maxRecDepth 8192 in
set_option maxHeartbeats 2000000 in
/-- What the buffer `main_call0_call0_v15` holds in `val0_2`, as a term of the initial contents. -/
theorem val0_2_main_call0_call0_v15 (V0 : Valuation τ sig (Elt F)) : val0_2 V0 (no_index (Proc.devRef .tc main_call0_call0_v15)) = muli (broadcastInDim S4096x32x32 ![] bcast_S_S4096x32x32 (constantI S_ 64 1#64)) (iotaInDim S4096x32x32 64 2) := by
  unfold val0_2
  simp only [ops_1, TRef.binary, TRef.nullary, TRef.reshape, TRef.unary, TRef.toBuf, TRef.ofBuf, cast_eq]
  after_results_simp
  all_goals rfl
set_option maxRecDepth 8192 in
set_option maxHeartbeats 2000000 in
/-- What the buffer `main_call0_call0_v16` holds in `val0_2`, as a term of the initial contents. -/
theorem val0_2_main_call0_call0_v16 (V0 : Valuation τ sig (Elt F)) : val0_2 V0 (no_index (Proc.devRef .tc main_call0_call0_v16)) = addi (muli (broadcastInDim S4096x32x32 ![] bcast_S_S4096x32x32 (constantI S_ 64 1024#64)) (iotaInDim S4096x32x32 64 0)) (muli (broadcastInDim S4096x32x32 ![] bcast_S_S4096x32x32 (constantI S_ 64 32#64)) (iotaInDim S4096x32x32 64 1)) := by
  unfold val0_2
  simp only [ops_1, TRef.binary, TRef.nullary, TRef.reshape, TRef.unary, TRef.toBuf, TRef.ofBuf, cast_eq]
  after_results_simp
  all_goals rfl

/-- The device's buffer contents after @main's first 90 operations. -/
def val0_3 (V0 : Valuation τ sig (Elt F)) : Valuation τ sig (Elt F) := after ops_2 (val0_2 V0)
/-- The buffers that window `ops_2`'s operations write. -/
abbrev ops_2_W : List (Ref sig .tc) := [main_call0_call0_v17, main_call0_call0_c_2, main_call0_call0_v18, main_call0_call0_v19, main_call0_call0_v20, main_call0_call0_v21, main_call0_call0_call0_v0, main_call0_call0_call0_c, main_call0_call0_call0_v1, main_call0_call0_call0_v2, main_call0_call0_call0_v3, main_call0_call0_call0_v4, main_call0_call0_call0_v5, main_call0_call0_call0_v6, main_call0_call0_call0_c_0, main_call0_call0_call0_v7, main_call0_call0_call0_v8, main_call0_call0_call0_c_1, main_call0_call0_call0_v9, main_call0_call0_call0_v10, main_call0_call0_call0_v11, main_call0_call0_call0_v12, main_call0_call0_call0_v13, main_call0_call0_call0_c_2, main_call0_call0_call0_v14, main_call0_call0_call0_v15, main_call0_call0_call0_c_3, main_call0_call0_call0_v16, main_call0_call0_call0_v17, main_call0_call0_call0_v18]
set_option maxRecDepth 8192 in
/-- Each operation of window `ops_2` writes only the buffers listed for it. -/
theorem ops_2_writes : (ops_2 : List (HloOp τ sig (Elt F))).Forall fun op => op.writes ⊆ (ops_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_2` does not write keeps its contents through it. -/
theorem val0_3_keep (V0 : Valuation τ sig (Elt F)) (r : Ref sig .tc) (h : r ∉ ops_2_W) :
    val0_3 V0 (Proc.devRef .tc r) = val0_2 V0 (Proc.devRef .tc r) :=
  after_of_writes_sub ops_2 _ ops_2_writes h
/-- What the buffer `main_arg0` holds in `val0_3`, as a term of the initial contents. -/
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
/-- What the buffer `main_v19` holds in `val0_3`, as a term of the initial contents. -/
theorem val0_3_main_v19 (V0 : Valuation τ sig (Elt F)) : val0_3 V0 (no_index (Proc.devRef .tc main_v19)) = res_main_v19 V0 :=
  (val0_3_keep V0 main_v19 (by decide)).trans (val0_2_main_v19 V0)
/-- What the buffer `main_v27` holds in `val0_3`, as a term of the initial contents. -/
theorem val0_3_main_v27 (V0 : Valuation τ sig (Elt F)) : val0_3 V0 (no_index (Proc.devRef .tc main_v27)) = Host.log (res_main_v19 V0) :=
  (val0_3_keep V0 main_v27 (by decide)).trans (val0_2_main_v27 V0)
/-- What the buffer `main_call0_call0_v1` holds in `val0_3`, as a term of the initial contents. -/
theorem val0_3_main_call0_call0_v1 (V0 : Valuation τ sig (Elt F)) : val0_3 V0 (no_index (Proc.devRef .tc main_call0_call0_v1)) = res_main_call0_call0_v1 V0 :=
  (val0_3_keep V0 main_call0_call0_v1 (by decide)).trans (val0_2_main_call0_call0_v1 V0)
/-- What the buffer `main_call0_call0_v2` holds in `val0_3`, as a term of the initial contents. -/
theorem val0_3_main_call0_call0_v2 (V0 : Valuation τ sig (Elt F)) : val0_3 V0 (no_index (Proc.devRef .tc main_call0_call0_v2)) = broadcastInDim S1x1x1 ![] bcast_S_S1x1x1 (id (constant S_ .f32 0x3F800000#32)) :=
  (val0_3_keep V0 main_call0_call0_v2 (by decide)).trans (val0_2_main_call0_call0_v2 V0)
/-- What the buffer `main_call0_call0_v4` holds in `val0_3`, as a term of the initial contents. -/
theorem val0_3_main_call0_call0_v4 (V0 : Valuation τ sig (Elt F)) : val0_3 V0 (no_index (Proc.devRef .tc main_call0_call0_v4)) = res_main_call0_call0_v4 V0 :=
  (val0_3_keep V0 main_call0_call0_v4 (by decide)).trans (val0_2_main_call0_call0_v4 V0)
/-- What the buffer `main_call0_call0_v6` holds in `val0_3`, as a term of the initial contents. -/
theorem val0_3_main_call0_call0_v6 (V0 : Valuation τ sig (Elt F)) : val0_3 V0 (no_index (Proc.devRef .tc main_call0_call0_v6)) = res_main_call0_call0_v6 V0 :=
  (val0_3_keep V0 main_call0_call0_v6 (by decide)).trans (val0_2_main_call0_call0_v6 V0)
set_option maxRecDepth 8192 in
set_option maxHeartbeats 2000000 in
/-- What the buffer `main_call0_call0_call0_v1` holds in `val0_3`, as a term of the initial contents. -/
theorem val0_3_main_call0_call0_call0_v1 (V0 : Valuation τ sig (Elt F)) : val0_3 V0 (no_index (Proc.devRef .tc main_call0_call0_call0_v1)) = res_main_call0_call0_call0_v1 V0 := by
  unfold val0_3
  simp only [ops_2, TRef.binary, TRef.nullary, TRef.unary, TRef.toBuf, TRef.ofBuf, cast_eq]
  after_results_simp
  simp only [val0_2_main_call0_call0_v6, val0_2_main_call0_call0_v4] <;> rfl
set_option maxRecDepth 8192 in
set_option maxHeartbeats 2000000 in
/-- What the buffer `main_call0_call0_call0_v13` holds in `val0_3`, as a term of the initial contents. -/
theorem val0_3_main_call0_call0_call0_v13 (V0 : Valuation τ sig (Elt F)) : val0_3 V0 (no_index (Proc.devRef .tc main_call0_call0_call0_v13)) = res_main_call0_call0_call0_v13 V0 := by
  unfold val0_3
  simp only [ops_2, TRef.binary, TRef.nullary, TRef.unary, TRef.toBuf, TRef.ofBuf, cast_eq]
  after_results_simp
  simp only [val0_2_main_call0_call0_v6, val0_2_main_call0_call0_v15, val0_2_main_call0_call0_v16, val0_2_main_call0_call0_v4] <;> rfl
set_option maxRecDepth 8192 in
set_option maxHeartbeats 2000000 in
/-- What the buffer `main_call0_call0_call0_v18` holds in `val0_3`, as a term of the initial contents. -/
theorem val0_3_main_call0_call0_call0_v18 (V0 : Valuation τ sig (Elt F)) : val0_3 V0 (no_index (Proc.devRef .tc main_call0_call0_call0_v18)) = ori (Host.shli (res_main_call0_call0_call0_v12 V0) (broadcastInDim S4096x32x32 ![] bcast_S_S4096x32x32 (constantI S_ 32 15#32))) (Host.shrui (res_main_call0_call0_call0_v12 V0) (broadcastInDim S4096x32x32 ![] bcast_S_S4096x32x32 (constantI S_ 32 17#32))) := by
  unfold val0_3
  simp only [ops_2, TRef.binary, TRef.nullary, TRef.unary, TRef.toBuf, TRef.ofBuf, cast_eq]
  after_results_simp
  simp only [val0_2_main_call0_call0_v6, val0_2_main_call0_call0_v15, val0_2_main_call0_call0_v16, val0_2_main_call0_call0_v4] <;> rfl

/-- The device's buffer contents after @main's first 120 operations. -/
def val0_4 (V0 : Valuation τ sig (Elt F)) : Valuation τ sig (Elt F) := after ops_3 (val0_3 V0)
/-- The buffers that window `ops_3`'s operations write. -/
abbrev ops_3_W : List (Ref sig .tc) := [main_call0_call0_call0_v19, main_call0_call0_call0_v20, main_call0_call0_call0_c_4, main_call0_call0_call0_v21, main_call0_call0_call0_v22, main_call0_call0_call0_c_5, main_call0_call0_call0_v23, main_call0_call0_call0_v24, main_call0_call0_call0_v25, main_call0_call0_call0_v26, main_call0_call0_call0_v27, main_call0_call0_call0_c_6, main_call0_call0_call0_v28, main_call0_call0_call0_v29, main_call0_call0_call0_c_7, main_call0_call0_call0_v30, main_call0_call0_call0_v31, main_call0_call0_call0_v32, main_call0_call0_call0_v33, main_call0_call0_call0_v34, main_call0_call0_call0_v35, main_call0_call0_call0_v36, main_call0_call0_call0_v37, main_call0_call0_call0_c_8, main_call0_call0_call0_v38, main_call0_call0_call0_v39, main_call0_call0_call0_v40, main_call0_call0_call0_c_9, main_call0_call0_call0_v41, main_call0_call0_call0_v42]
set_option maxRecDepth 8192 in
/-- Each operation of window `ops_3` writes only the buffers listed for it. -/
theorem ops_3_writes : (ops_3 : List (HloOp τ sig (Elt F))).Forall fun op => op.writes ⊆ (ops_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_3` does not write keeps its contents through it. -/
theorem val0_4_keep (V0 : Valuation τ sig (Elt F)) (r : Ref sig .tc) (h : r ∉ ops_3_W) :
    val0_4 V0 (Proc.devRef .tc r) = val0_3 V0 (Proc.devRef .tc r) :=
  after_of_writes_sub ops_3 _ ops_3_writes h
/-- What the buffer `main_arg0` holds in `val0_4`, as a term of the initial contents. -/
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
/-- What the buffer `main_v19` holds in `val0_4`, as a term of the initial contents. -/
theorem val0_4_main_v19 (V0 : Valuation τ sig (Elt F)) : val0_4 V0 (no_index (Proc.devRef .tc main_v19)) = res_main_v19 V0 :=
  (val0_4_keep V0 main_v19 (by decide)).trans (val0_3_main_v19 V0)
/-- What the buffer `main_v27` holds in `val0_4`, as a term of the initial contents. -/
theorem val0_4_main_v27 (V0 : Valuation τ sig (Elt F)) : val0_4 V0 (no_index (Proc.devRef .tc main_v27)) = Host.log (res_main_v19 V0) :=
  (val0_4_keep V0 main_v27 (by decide)).trans (val0_3_main_v27 V0)
/-- What the buffer `main_call0_call0_v1` holds in `val0_4`, as a term of the initial contents. -/
theorem val0_4_main_call0_call0_v1 (V0 : Valuation τ sig (Elt F)) : val0_4 V0 (no_index (Proc.devRef .tc main_call0_call0_v1)) = res_main_call0_call0_v1 V0 :=
  (val0_4_keep V0 main_call0_call0_v1 (by decide)).trans (val0_3_main_call0_call0_v1 V0)
/-- What the buffer `main_call0_call0_v2` holds in `val0_4`, as a term of the initial contents. -/
theorem val0_4_main_call0_call0_v2 (V0 : Valuation τ sig (Elt F)) : val0_4 V0 (no_index (Proc.devRef .tc main_call0_call0_v2)) = broadcastInDim S1x1x1 ![] bcast_S_S1x1x1 (id (constant S_ .f32 0x3F800000#32)) :=
  (val0_4_keep V0 main_call0_call0_v2 (by decide)).trans (val0_3_main_call0_call0_v2 V0)
/-- What the buffer `main_call0_call0_v4` holds in `val0_4`, as a term of the initial contents. -/
theorem val0_4_main_call0_call0_v4 (V0 : Valuation τ sig (Elt F)) : val0_4 V0 (no_index (Proc.devRef .tc main_call0_call0_v4)) = res_main_call0_call0_v4 V0 :=
  (val0_4_keep V0 main_call0_call0_v4 (by decide)).trans (val0_3_main_call0_call0_v4 V0)
/-- What the buffer `main_call0_call0_v6` holds in `val0_4`, as a term of the initial contents. -/
theorem val0_4_main_call0_call0_v6 (V0 : Valuation τ sig (Elt F)) : val0_4 V0 (no_index (Proc.devRef .tc main_call0_call0_v6)) = res_main_call0_call0_v6 V0 :=
  (val0_4_keep V0 main_call0_call0_v6 (by decide)).trans (val0_3_main_call0_call0_v6 V0)
/-- What the buffer `main_call0_call0_call0_v1` holds in `val0_4`, as a term of the initial contents. -/
theorem val0_4_main_call0_call0_call0_v1 (V0 : Valuation τ sig (Elt F)) : val0_4 V0 (no_index (Proc.devRef .tc main_call0_call0_call0_v1)) = res_main_call0_call0_call0_v1 V0 :=
  (val0_4_keep V0 main_call0_call0_call0_v1 (by decide)).trans (val0_3_main_call0_call0_call0_v1 V0)
set_option maxRecDepth 8192 in
set_option maxHeartbeats 2000000 in
/-- What the buffer `main_call0_call0_call0_v39` holds in `val0_4`, as a term of the initial contents. -/
theorem val0_4_main_call0_call0_call0_v39 (V0 : Valuation τ sig (Elt F)) : val0_4 V0 (no_index (Proc.devRef .tc main_call0_call0_call0_v39)) = res_main_call0_call0_call0_v39 V0 := by
  unfold val0_4
  simp only [ops_3, TRef.binary, TRef.nullary, TRef.unary, TRef.toBuf, TRef.ofBuf, cast_eq]
  after_results_simp
  simp only [val0_3_main_call0_call0_call0_v1, val0_3_main_call0_call0_call0_v18, val0_3_main_call0_call0_call0_v13] <;> rfl
set_option maxRecDepth 8192 in
set_option maxHeartbeats 2000000 in
/-- What the buffer `main_call0_call0_call0_v40` holds in `val0_4`, as a term of the initial contents. -/
theorem val0_4_main_call0_call0_call0_v40 (V0 : Valuation τ sig (Elt F)) : val0_4 V0 (no_index (Proc.devRef .tc main_call0_call0_call0_v40)) = res_main_call0_call0_call0_v40 V0 := by
  unfold val0_4
  simp only [ops_3, TRef.binary, TRef.nullary, TRef.unary, TRef.toBuf, TRef.ofBuf, cast_eq]
  after_results_simp
  simp only [val0_3_main_call0_call0_call0_v1, val0_3_main_call0_call0_call0_v18, val0_3_main_call0_call0_call0_v13, val0_3_main_call0_call0_v6] <;> rfl
set_option maxRecDepth 8192 in
set_option maxHeartbeats 2000000 in
/-- What the buffer `main_call0_call0_call0_v42` holds in `val0_4`, as a term of the initial contents. -/
theorem val0_4_main_call0_call0_call0_v42 (V0 : Valuation τ sig (Elt F)) : val0_4 V0 (no_index (Proc.devRef .tc main_call0_call0_call0_v42)) = Host.shli (res_main_call0_call0_call0_v39 V0) (broadcastInDim S4096x32x32 ![] bcast_S_S4096x32x32 (constantI S_ 32 17#32)) := by
  unfold val0_4
  simp only [ops_3, TRef.binary, TRef.nullary, TRef.unary, TRef.toBuf, TRef.ofBuf, cast_eq]
  after_results_simp
  simp only [val0_3_main_call0_call0_call0_v1, val0_3_main_call0_call0_call0_v18, val0_3_main_call0_call0_call0_v13] <;> rfl

/-- The device's buffer contents after @main's first 150 operations. -/
def val0_5 (V0 : Valuation τ sig (Elt F)) : Valuation τ sig (Elt F) := after ops_4 (val0_4 V0)
/-- The buffers that window `ops_4`'s operations write. -/
abbrev ops_4_W : List (Ref sig .tc) := [main_call0_call0_call0_c_10, main_call0_call0_call0_v43, main_call0_call0_call0_v44, main_call0_call0_call0_v45, main_call0_call0_call0_v46, main_call0_call0_call0_v47, main_call0_call0_call0_c_11, main_call0_call0_call0_v48, main_call0_call0_call0_v49, main_call0_call0_call0_c_12, main_call0_call0_call0_v50, main_call0_call0_call0_v51, main_call0_call0_call0_v52, main_call0_call0_call0_v53, main_call0_call0_call0_v54, main_call0_call0_call0_c_13, main_call0_call0_call0_v55, main_call0_call0_call0_v56, main_call0_call0_call0_c_14, main_call0_call0_call0_v57, main_call0_call0_call0_v58, main_call0_call0_call0_v59, main_call0_call0_call0_v60, main_call0_call0_call0_v61, main_call0_call0_call0_c_15, main_call0_call0_call0_v62, main_call0_call0_call0_v63, main_call0_call0_call0_c_16, main_call0_call0_call0_v64, main_call0_call0_call0_v65]
set_option maxRecDepth 8192 in
/-- Each operation of window `ops_4` writes only the buffers listed for it. -/
theorem ops_4_writes : (ops_4 : List (HloOp τ sig (Elt F))).Forall fun op => op.writes ⊆ (ops_4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_4` does not write keeps its contents through it. -/
theorem val0_5_keep (V0 : Valuation τ sig (Elt F)) (r : Ref sig .tc) (h : r ∉ ops_4_W) :
    val0_5 V0 (Proc.devRef .tc r) = val0_4 V0 (Proc.devRef .tc r) :=
  after_of_writes_sub ops_4 _ ops_4_writes h
/-- What the buffer `main_arg0` holds in `val0_5`, as a term of the initial contents. -/
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
/-- What the buffer `main_v19` holds in `val0_5`, as a term of the initial contents. -/
theorem val0_5_main_v19 (V0 : Valuation τ sig (Elt F)) : val0_5 V0 (no_index (Proc.devRef .tc main_v19)) = res_main_v19 V0 :=
  (val0_5_keep V0 main_v19 (by decide)).trans (val0_4_main_v19 V0)
/-- What the buffer `main_v27` holds in `val0_5`, as a term of the initial contents. -/
theorem val0_5_main_v27 (V0 : Valuation τ sig (Elt F)) : val0_5 V0 (no_index (Proc.devRef .tc main_v27)) = Host.log (res_main_v19 V0) :=
  (val0_5_keep V0 main_v27 (by decide)).trans (val0_4_main_v27 V0)
/-- What the buffer `main_call0_call0_v1` holds in `val0_5`, as a term of the initial contents. -/
theorem val0_5_main_call0_call0_v1 (V0 : Valuation τ sig (Elt F)) : val0_5 V0 (no_index (Proc.devRef .tc main_call0_call0_v1)) = res_main_call0_call0_v1 V0 :=
  (val0_5_keep V0 main_call0_call0_v1 (by decide)).trans (val0_4_main_call0_call0_v1 V0)
/-- What the buffer `main_call0_call0_v2` holds in `val0_5`, as a term of the initial contents. -/
theorem val0_5_main_call0_call0_v2 (V0 : Valuation τ sig (Elt F)) : val0_5 V0 (no_index (Proc.devRef .tc main_call0_call0_v2)) = broadcastInDim S1x1x1 ![] bcast_S_S1x1x1 (id (constant S_ .f32 0x3F800000#32)) :=
  (val0_5_keep V0 main_call0_call0_v2 (by decide)).trans (val0_4_main_call0_call0_v2 V0)
/-- What the buffer `main_call0_call0_v4` holds in `val0_5`, as a term of the initial contents. -/
theorem val0_5_main_call0_call0_v4 (V0 : Valuation τ sig (Elt F)) : val0_5 V0 (no_index (Proc.devRef .tc main_call0_call0_v4)) = res_main_call0_call0_v4 V0 :=
  (val0_5_keep V0 main_call0_call0_v4 (by decide)).trans (val0_4_main_call0_call0_v4 V0)
/-- What the buffer `main_call0_call0_v6` holds in `val0_5`, as a term of the initial contents. -/
theorem val0_5_main_call0_call0_v6 (V0 : Valuation τ sig (Elt F)) : val0_5 V0 (no_index (Proc.devRef .tc main_call0_call0_v6)) = res_main_call0_call0_v6 V0 :=
  (val0_5_keep V0 main_call0_call0_v6 (by decide)).trans (val0_4_main_call0_call0_v6 V0)
/-- What the buffer `main_call0_call0_call0_v1` holds in `val0_5`, as a term of the initial contents. -/
theorem val0_5_main_call0_call0_call0_v1 (V0 : Valuation τ sig (Elt F)) : val0_5 V0 (no_index (Proc.devRef .tc main_call0_call0_call0_v1)) = res_main_call0_call0_call0_v1 V0 :=
  (val0_5_keep V0 main_call0_call0_call0_v1 (by decide)).trans (val0_4_main_call0_call0_call0_v1 V0)
set_option maxRecDepth 8192 in
set_option maxHeartbeats 2000000 in
/-- What the buffer `main_call0_call0_call0_v61` holds in `val0_5`, as a term of the initial contents. -/
theorem val0_5_main_call0_call0_call0_v61 (V0 : Valuation τ sig (Elt F)) : val0_5 V0 (no_index (Proc.devRef .tc main_call0_call0_call0_v61)) = res_main_call0_call0_call0_v61 V0 := by
  unfold val0_5
  simp only [ops_4, TRef.binary, TRef.nullary, TRef.unary, TRef.toBuf, TRef.ofBuf, cast_eq]
  after_results_simp
  simp only [val0_4_main_call0_call0_call0_v39, val0_4_main_call0_call0_call0_v42, val0_4_main_call0_call0_call0_v40] <;> rfl
set_option maxRecDepth 8192 in
set_option maxHeartbeats 2000000 in
/-- What the buffer `main_call0_call0_call0_v63` holds in `val0_5`, as a term of the initial contents. -/
theorem val0_5_main_call0_call0_call0_v63 (V0 : Valuation τ sig (Elt F)) : val0_5 V0 (no_index (Proc.devRef .tc main_call0_call0_call0_v63)) = Host.shli (res_main_call0_call0_call0_v60 V0) (broadcastInDim S4096x32x32 ![] bcast_S_S4096x32x32 (constantI S_ 32 24#32)) := by
  unfold val0_5
  simp only [ops_4, TRef.binary, TRef.nullary, TRef.unary, TRef.toBuf, TRef.ofBuf, cast_eq]
  after_results_simp
  simp only [val0_4_main_call0_call0_call0_v39, val0_4_main_call0_call0_call0_v42, val0_4_main_call0_call0_call0_v40] <;> rfl
set_option maxRecDepth 8192 in
set_option maxHeartbeats 2000000 in
/-- What the buffer `main_call0_call0_call0_v65` holds in `val0_5`, as a term of the initial contents. -/
theorem val0_5_main_call0_call0_call0_v65 (V0 : Valuation τ sig (Elt F)) : val0_5 V0 (no_index (Proc.devRef .tc main_call0_call0_call0_v65)) = Host.shrui (res_main_call0_call0_call0_v60 V0) (broadcastInDim S4096x32x32 ![] bcast_S_S4096x32x32 (constantI S_ 32 8#32)) := by
  unfold val0_5
  simp only [ops_4, TRef.binary, TRef.nullary, TRef.unary, TRef.toBuf, TRef.ofBuf, cast_eq]
  after_results_simp
  simp only [val0_4_main_call0_call0_call0_v39, val0_4_main_call0_call0_call0_v42, val0_4_main_call0_call0_call0_v40] <;> rfl

/-- The device's buffer contents after @main's first 180 operations. -/
def val0_6 (V0 : Valuation τ sig (Elt F)) : Valuation τ sig (Elt F) := after ops_5 (val0_5 V0)
/-- The buffers that window `ops_5`'s operations write. -/
abbrev ops_5_W : List (Ref sig .tc) := [main_call0_call0_call0_v66, main_call0_call0_call0_v67, main_call0_call0_call0_v68, main_call0_call0_call0_v69, main_call0_call0_call0_v70, main_call0_call0_call0_v71, main_call0_call0_call0_c_17, main_call0_call0_call0_v72, main_call0_call0_call0_v73, main_call0_call0_call0_v74, main_call0_call0_call0_c_18, main_call0_call0_call0_v75, main_call0_call0_call0_v76, main_call0_call0_call0_c_19, main_call0_call0_call0_v77, main_call0_call0_call0_v78, main_call0_call0_call0_v79, main_call0_call0_call0_v80, main_call0_call0_call0_v81, main_call0_call0_call0_c_20, main_call0_call0_call0_v82, main_call0_call0_call0_v83, main_call0_call0_call0_c_21, main_call0_call0_call0_v84, main_call0_call0_call0_v85, main_call0_call0_call0_v86, main_call0_call0_call0_v87, main_call0_call0_call0_v88, main_call0_call0_call0_c_22, main_call0_call0_call0_v89]
set_option maxRecDepth 8192 in
/-- Each operation of window `ops_5` writes only the buffers listed for it. -/
theorem ops_5_writes : (ops_5 : List (HloOp τ sig (Elt F))).Forall fun op => op.writes ⊆ (ops_5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_5` does not write keeps its contents through it. -/
theorem val0_6_keep (V0 : Valuation τ sig (Elt F)) (r : Ref sig .tc) (h : r ∉ ops_5_W) :
    val0_6 V0 (Proc.devRef .tc r) = val0_5 V0 (Proc.devRef .tc r) :=
  after_of_writes_sub ops_5 _ ops_5_writes h
/-- What the buffer `main_arg0` holds in `val0_6`, as a term of the initial contents. -/
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
/-- What the buffer `main_v19` holds in `val0_6`, as a term of the initial contents. -/
theorem val0_6_main_v19 (V0 : Valuation τ sig (Elt F)) : val0_6 V0 (no_index (Proc.devRef .tc main_v19)) = res_main_v19 V0 :=
  (val0_6_keep V0 main_v19 (by decide)).trans (val0_5_main_v19 V0)
/-- What the buffer `main_v27` holds in `val0_6`, as a term of the initial contents. -/
theorem val0_6_main_v27 (V0 : Valuation τ sig (Elt F)) : val0_6 V0 (no_index (Proc.devRef .tc main_v27)) = Host.log (res_main_v19 V0) :=
  (val0_6_keep V0 main_v27 (by decide)).trans (val0_5_main_v27 V0)
/-- What the buffer `main_call0_call0_v1` holds in `val0_6`, as a term of the initial contents. -/
theorem val0_6_main_call0_call0_v1 (V0 : Valuation τ sig (Elt F)) : val0_6 V0 (no_index (Proc.devRef .tc main_call0_call0_v1)) = res_main_call0_call0_v1 V0 :=
  (val0_6_keep V0 main_call0_call0_v1 (by decide)).trans (val0_5_main_call0_call0_v1 V0)
/-- What the buffer `main_call0_call0_v2` holds in `val0_6`, as a term of the initial contents. -/
theorem val0_6_main_call0_call0_v2 (V0 : Valuation τ sig (Elt F)) : val0_6 V0 (no_index (Proc.devRef .tc main_call0_call0_v2)) = broadcastInDim S1x1x1 ![] bcast_S_S1x1x1 (id (constant S_ .f32 0x3F800000#32)) :=
  (val0_6_keep V0 main_call0_call0_v2 (by decide)).trans (val0_5_main_call0_call0_v2 V0)
/-- What the buffer `main_call0_call0_v4` holds in `val0_6`, as a term of the initial contents. -/
theorem val0_6_main_call0_call0_v4 (V0 : Valuation τ sig (Elt F)) : val0_6 V0 (no_index (Proc.devRef .tc main_call0_call0_v4)) = res_main_call0_call0_v4 V0 :=
  (val0_6_keep V0 main_call0_call0_v4 (by decide)).trans (val0_5_main_call0_call0_v4 V0)
/-- What the buffer `main_call0_call0_v6` holds in `val0_6`, as a term of the initial contents. -/
theorem val0_6_main_call0_call0_v6 (V0 : Valuation τ sig (Elt F)) : val0_6 V0 (no_index (Proc.devRef .tc main_call0_call0_v6)) = res_main_call0_call0_v6 V0 :=
  (val0_6_keep V0 main_call0_call0_v6 (by decide)).trans (val0_5_main_call0_call0_v6 V0)
/-- What the buffer `main_call0_call0_call0_v1` holds in `val0_6`, as a term of the initial contents. -/
theorem val0_6_main_call0_call0_call0_v1 (V0 : Valuation τ sig (Elt F)) : val0_6 V0 (no_index (Proc.devRef .tc main_call0_call0_call0_v1)) = res_main_call0_call0_call0_v1 V0 :=
  (val0_6_keep V0 main_call0_call0_call0_v1 (by decide)).trans (val0_5_main_call0_call0_call0_v1 V0)
set_option maxRecDepth 8192 in
set_option maxHeartbeats 2000000 in
/-- What the buffer `main_call0_call0_call0_v87` holds in `val0_6`, as a term of the initial contents. -/
theorem val0_6_main_call0_call0_call0_v87 (V0 : Valuation τ sig (Elt F)) : val0_6 V0 (no_index (Proc.devRef .tc main_call0_call0_call0_v87)) = res_main_call0_call0_call0_v87 V0 := by
  unfold val0_6
  simp only [ops_5, TRef.binary, TRef.nullary, TRef.unary, TRef.toBuf, TRef.ofBuf, cast_eq]
  after_results_simp
  simp only [val0_5_main_call0_call0_v4, val0_5_main_call0_call0_call0_v65, val0_5_main_call0_call0_call0_v63, val0_5_main_call0_call0_call0_v61, val0_5_main_call0_call0_call0_v1] <;> rfl
set_option maxRecDepth 8192 in
set_option maxHeartbeats 2000000 in
/-- What the buffer `main_call0_call0_call0_v88` holds in `val0_6`, as a term of the initial contents. -/
theorem val0_6_main_call0_call0_call0_v88 (V0 : Valuation τ sig (Elt F)) : val0_6 V0 (no_index (Proc.devRef .tc main_call0_call0_call0_v88)) = res_main_call0_call0_call0_v88 V0 := by
  unfold val0_6
  simp only [ops_5, TRef.binary, TRef.nullary, TRef.unary, TRef.toBuf, TRef.ofBuf, cast_eq]
  after_results_simp
  simp only [val0_5_main_call0_call0_v4, val0_5_main_call0_call0_call0_v65, val0_5_main_call0_call0_call0_v63, val0_5_main_call0_call0_call0_v61, val0_5_main_call0_call0_call0_v1] <;> rfl
set_option maxRecDepth 8192 in
set_option maxHeartbeats 2000000 in
/-- What the buffer `main_call0_call0_call0_v89` holds in `val0_6`, as a term of the initial contents. -/
theorem val0_6_main_call0_call0_call0_v89 (V0 : Valuation τ sig (Elt F)) : val0_6 V0 (no_index (Proc.devRef .tc main_call0_call0_call0_v89)) = broadcastInDim S4096x32x32 ![] bcast_S_S4096x32x32 (constantI S_ 32 26#32) := by
  unfold val0_6
  simp only [ops_5, TRef.binary, TRef.nullary, TRef.unary, TRef.toBuf, TRef.ofBuf, cast_eq]
  after_results_simp
  all_goals rfl

end Cert.ReferenceIdeal.Value

end
-- ==== Proof.RefRun.lean ====
/- The contents after the last five windows, and the reference's run. -/
module

public import proofs.«01_k».proof.Proof.RefVals

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 210 operations. -/
def val0_7 (V0 : Valuation τ sig (Elt F)) : Valuation τ sig (Elt F) := after ops_6 (val0_6 V0)
/-- The buffers that window `ops_6`'s operations write. -/
abbrev ops_6_W : List (Ref sig .tc) := [main_call0_call0_call0_v90, main_call0_call0_call0_c_23, main_call0_call0_call0_v91, main_call0_call0_call0_v92, main_call0_call0_call0_v93, main_call0_call0_call0_v94, main_call0_call0_call0_v95, main_call0_call0_call0_c_24, main_call0_call0_call0_v96, main_call0_call0_call0_v97, main_call0_call0_call0_c_25, main_call0_call0_call0_v98, main_call0_call0_call0_v99, main_call0_call0_call0_v100, main_call0_call0_call0_v101, main_call0_call0_call0_v102, main_call0_call0_call0_v103, main_call0_call0_call0_v104, main_call0_call0_call0_v105, main_call0_call0_call0_c_26, main_call0_call0_call0_v106, main_call0_call0_call0_v107, main_call0_call0_call0_v108, main_call0_call0_call0_c_27, main_call0_call0_call0_v109, main_call0_call0_call0_v110, main_call0_call0_call0_c_28, main_call0_call0_call0_v111, main_call0_call0_call0_v112, main_call0_call0_call0_v113]
set_option maxRecDepth 8192 in
/-- Each operation of window `ops_6` writes only the buffers listed for it. -/
theorem ops_6_writes : (ops_6 : List (HloOp τ sig (Elt F))).Forall fun op => op.writes ⊆ (ops_6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_6` does not write keeps its contents through it. -/
theorem val0_7_keep (V0 : Valuation τ sig (Elt F)) (r : Ref sig .tc) (h : r ∉ ops_6_W) :
    val0_7 V0 (Proc.devRef .tc r) = val0_6 V0 (Proc.devRef .tc r) :=
  after_of_writes_sub ops_6 _ ops_6_writes h
/-- What the buffer `main_arg0` holds in `val0_7`, as a term of the initial contents. -/
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
/-- What the buffer `main_v19` holds in `val0_7`, as a term of the initial contents. -/
theorem val0_7_main_v19 (V0 : Valuation τ sig (Elt F)) : val0_7 V0 (no_index (Proc.devRef .tc main_v19)) = res_main_v19 V0 :=
  (val0_7_keep V0 main_v19 (by decide)).trans (val0_6_main_v19 V0)
/-- What the buffer `main_v27` holds in `val0_7`, as a term of the initial contents. -/
theorem val0_7_main_v27 (V0 : Valuation τ sig (Elt F)) : val0_7 V0 (no_index (Proc.devRef .tc main_v27)) = Host.log (res_main_v19 V0) :=
  (val0_7_keep V0 main_v27 (by decide)).trans (val0_6_main_v27 V0)
/-- What the buffer `main_call0_call0_v1` holds in `val0_7`, as a term of the initial contents. -/
theorem val0_7_main_call0_call0_v1 (V0 : Valuation τ sig (Elt F)) : val0_7 V0 (no_index (Proc.devRef .tc main_call0_call0_v1)) = res_main_call0_call0_v1 V0 :=
  (val0_7_keep V0 main_call0_call0_v1 (by decide)).trans (val0_6_main_call0_call0_v1 V0)
/-- What the buffer `main_call0_call0_v2` holds in `val0_7`, as a term of the initial contents. -/
theorem val0_7_main_call0_call0_v2 (V0 : Valuation τ sig (Elt F)) : val0_7 V0 (no_index (Proc.devRef .tc main_call0_call0_v2)) = broadcastInDim S1x1x1 ![] bcast_S_S1x1x1 (id (constant S_ .f32 0x3F800000#32)) :=
  (val0_7_keep V0 main_call0_call0_v2 (by decide)).trans (val0_6_main_call0_call0_v2 V0)
/-- What the buffer `main_call0_call0_v4` holds in `val0_7`, as a term of the initial contents. -/
theorem val0_7_main_call0_call0_v4 (V0 : Valuation τ sig (Elt F)) : val0_7 V0 (no_index (Proc.devRef .tc main_call0_call0_v4)) = res_main_call0_call0_v4 V0 :=
  (val0_7_keep V0 main_call0_call0_v4 (by decide)).trans (val0_6_main_call0_call0_v4 V0)
/-- What the buffer `main_call0_call0_v6` holds in `val0_7`, as a term of the initial contents. -/
theorem val0_7_main_call0_call0_v6 (V0 : Valuation τ sig (Elt F)) : val0_7 V0 (no_index (Proc.devRef .tc main_call0_call0_v6)) = res_main_call0_call0_v6 V0 :=
  (val0_7_keep V0 main_call0_call0_v6 (by decide)).trans (val0_6_main_call0_call0_v6 V0)
/-- What the buffer `main_call0_call0_call0_v1` holds in `val0_7`, as a term of the initial contents. -/
theorem val0_7_main_call0_call0_call0_v1 (V0 : Valuation τ sig (Elt F)) : val0_7 V0 (no_index (Proc.devRef .tc main_call0_call0_call0_v1)) = res_main_call0_call0_call0_v1 V0 :=
  (val0_7_keep V0 main_call0_call0_call0_v1 (by decide)).trans (val0_6_main_call0_call0_call0_v1 V0)
set_option maxRecDepth 8192 in
set_option maxHeartbeats 2000000 in
/-- What the buffer `main_call0_call0_call0_v108` holds in `val0_7`, as a term of the initial contents. -/
theorem val0_7_main_call0_call0_call0_v108 (V0 : Valuation τ sig (Elt F)) : val0_7 V0 (no_index (Proc.devRef .tc main_call0_call0_call0_v108)) = res_main_call0_call0_call0_v108 V0 := by
  unfold val0_7
  simp only [ops_6, TRef.binary, TRef.nullary, TRef.unary, TRef.toBuf, TRef.ofBuf, cast_eq]
  after_results_simp
  simp only [val0_6_main_call0_call0_v6, val0_6_main_call0_call0_call0_v87, val0_6_main_call0_call0_call0_v89, val0_6_main_call0_call0_call0_v88, val0_6_main_call0_call0_v4] <;> rfl
set_option maxRecDepth 8192 in
set_option maxHeartbeats 2000000 in
/-- What the buffer `main_call0_call0_call0_v113` holds in `val0_7`, as a term of the initial contents. -/
theorem val0_7_main_call0_call0_call0_v113 (V0 : Valuation τ sig (Elt F)) : val0_7 V0 (no_index (Proc.devRef .tc main_call0_call0_call0_v113)) = ori (Host.shli (res_main_call0_call0_call0_v107 V0) (broadcastInDim S4096x32x32 ![] bcast_S_S4096x32x32 (constantI S_ 32 17#32))) (Host.shrui (res_main_call0_call0_call0_v107 V0) (broadcastInDim S4096x32x32 ![] bcast_S_S4096x32x32 (constantI S_ 32 15#32))) := by
  unfold val0_7
  simp only [ops_6, TRef.binary, TRef.nullary, TRef.unary, TRef.toBuf, TRef.ofBuf, cast_eq]
  after_results_simp
  simp only [val0_6_main_call0_call0_v6, val0_6_main_call0_call0_call0_v87, val0_6_main_call0_call0_call0_v89, val0_6_main_call0_call0_call0_v88] <;> rfl

/-- The device's buffer contents after @main's first 240 operations. -/
def val0_8 (V0 : Valuation τ sig (Elt F)) : Valuation τ sig (Elt F) := after ops_7 (val0_7 V0)
/-- The buffers that window `ops_7`'s operations write. -/
abbrev ops_7_W : List (Ref sig .tc) := [main_call0_call0_call0_v114, main_call0_call0_call0_v115, main_call0_call0_call0_c_29, main_call0_call0_call0_v116, main_call0_call0_call0_v117, main_call0_call0_call0_c_30, main_call0_call0_call0_v118, main_call0_call0_call0_v119, main_call0_call0_call0_v120, main_call0_call0_call0_v121, main_call0_call0_call0_v122, main_call0_call0_call0_c_31, main_call0_call0_call0_v123, main_call0_call0_call0_v124, main_call0_call0_call0_c_32, main_call0_call0_call0_v125, main_call0_call0_call0_v126, main_call0_call0_call0_v127, main_call0_call0_call0_v128, main_call0_call0_call0_v129, main_call0_call0_call0_c_33, main_call0_call0_call0_v130, main_call0_call0_call0_v131, main_call0_call0_call0_c_34, main_call0_call0_call0_v132, main_call0_call0_call0_v133, main_call0_call0_call0_v134, main_call0_call0_call0_v135, main_call0_call0_call0_v136, main_call0_call0_call0_v137]
set_option maxRecDepth 8192 in
/-- Each operation of window `ops_7` writes only the buffers listed for it. -/
theorem ops_7_writes : (ops_7 : List (HloOp τ sig (Elt F))).Forall fun op => op.writes ⊆ (ops_7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_7` does not write keeps its contents through it. -/
theorem val0_8_keep (V0 : Valuation τ sig (Elt F)) (r : Ref sig .tc) (h : r ∉ ops_7_W) :
    val0_8 V0 (Proc.devRef .tc r) = val0_7 V0 (Proc.devRef .tc r) :=
  after_of_writes_sub ops_7 _ ops_7_writes h
/-- What the buffer `main_arg0` holds in `val0_8`, as a term of the initial contents. -/
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
/-- What the buffer `main_v19` holds in `val0_8`, as a term of the initial contents. -/
theorem val0_8_main_v19 (V0 : Valuation τ sig (Elt F)) : val0_8 V0 (no_index (Proc.devRef .tc main_v19)) = res_main_v19 V0 :=
  (val0_8_keep V0 main_v19 (by decide)).trans (val0_7_main_v19 V0)
/-- What the buffer `main_v27` holds in `val0_8`, as a term of the initial contents. -/
theorem val0_8_main_v27 (V0 : Valuation τ sig (Elt F)) : val0_8 V0 (no_index (Proc.devRef .tc main_v27)) = Host.log (res_main_v19 V0) :=
  (val0_8_keep V0 main_v27 (by decide)).trans (val0_7_main_v27 V0)
/-- What the buffer `main_call0_call0_v1` holds in `val0_8`, as a term of the initial contents. -/
theorem val0_8_main_call0_call0_v1 (V0 : Valuation τ sig (Elt F)) : val0_8 V0 (no_index (Proc.devRef .tc main_call0_call0_v1)) = res_main_call0_call0_v1 V0 :=
  (val0_8_keep V0 main_call0_call0_v1 (by decide)).trans (val0_7_main_call0_call0_v1 V0)
/-- What the buffer `main_call0_call0_v2` holds in `val0_8`, as a term of the initial contents. -/
theorem val0_8_main_call0_call0_v2 (V0 : Valuation τ sig (Elt F)) : val0_8 V0 (no_index (Proc.devRef .tc main_call0_call0_v2)) = broadcastInDim S1x1x1 ![] bcast_S_S1x1x1 (id (constant S_ .f32 0x3F800000#32)) :=
  (val0_8_keep V0 main_call0_call0_v2 (by decide)).trans (val0_7_main_call0_call0_v2 V0)
/-- What the buffer `main_call0_call0_v4` holds in `val0_8`, as a term of the initial contents. -/
theorem val0_8_main_call0_call0_v4 (V0 : Valuation τ sig (Elt F)) : val0_8 V0 (no_index (Proc.devRef .tc main_call0_call0_v4)) = res_main_call0_call0_v4 V0 :=
  (val0_8_keep V0 main_call0_call0_v4 (by decide)).trans (val0_7_main_call0_call0_v4 V0)
/-- What the buffer `main_call0_call0_call0_v1` holds in `val0_8`, as a term of the initial contents. -/
theorem val0_8_main_call0_call0_call0_v1 (V0 : Valuation τ sig (Elt F)) : val0_8 V0 (no_index (Proc.devRef .tc main_call0_call0_call0_v1)) = res_main_call0_call0_call0_v1 V0 :=
  (val0_8_keep V0 main_call0_call0_call0_v1 (by decide)).trans (val0_7_main_call0_call0_call0_v1 V0)
set_option maxRecDepth 8192 in
set_option maxHeartbeats 2000000 in
/-- What the buffer `main_call0_call0_call0_v135` holds in `val0_8`, as a term of the initial contents. -/
theorem val0_8_main_call0_call0_call0_v135 (V0 : Valuation τ sig (Elt F)) : val0_8 V0 (no_index (Proc.devRef .tc main_call0_call0_call0_v135)) = xori (res_main_call0_call0_call0_v129 V0) (ori (Host.shli (res_main_call0_call0_call0_v128 V0) (broadcastInDim S4096x32x32 ![] bcast_S_S4096x32x32 (constantI S_ 32 24#32))) (Host.shrui (res_main_call0_call0_call0_v128 V0) (broadcastInDim S4096x32x32 ![] bcast_S_S4096x32x32 (constantI S_ 32 8#32)))) := by
  unfold val0_8
  simp only [ops_7, TRef.binary, TRef.nullary, TRef.unary, TRef.toBuf, TRef.ofBuf, cast_eq]
  after_results_simp
  simp only [val0_7_main_call0_call0_call0_v113, val0_7_main_call0_call0_call0_v108] <;> rfl
set_option maxRecDepth 8192 in
set_option maxHeartbeats 2000000 in
/-- What the buffer `main_call0_call0_call0_v137` holds in `val0_8`, as a term of the initial contents. -/
theorem val0_8_main_call0_call0_call0_v137 (V0 : Valuation τ sig (Elt F)) : val0_8 V0 (no_index (Proc.devRef .tc main_call0_call0_call0_v137)) = addi (res_main_call0_call0_call0_v129 V0) (broadcastInDim S4096x32x32 ![] bcast_S_S4096x32x32 (res_main_call0_call0_v6 V0)) := by
  unfold val0_8
  simp only [ops_7, TRef.binary, TRef.nullary, TRef.unary, TRef.toBuf, TRef.ofBuf, cast_eq]
  after_results_simp
  simp only [val0_7_main_call0_call0_v6, val0_7_main_call0_call0_call0_v113, val0_7_main_call0_call0_call0_v108] <;> rfl

/-- The device's buffer contents after @main's first 270 operations. -/
def val0_9 (V0 : Valuation τ sig (Elt F)) : Valuation τ sig (Elt F) := after ops_8 (val0_8 V0)
/-- The buffers that window `ops_8`'s operations write. -/
abbrev ops_8_W : List (Ref sig .tc) := [main_call0_call0_call0_v138, main_call0_call0_call0_v139, main_call0_call0_call0_c_35, main_call0_call0_call0_v140, main_call0_call0_call0_v141, main_call0_call0_call0_v142, main_call0_call0_call0_c_36, main_call0_call0_call0_v143, main_call0_call0_call0_v144, main_call0_call0_call0_c_37, main_call0_call0_call0_v145, main_call0_call0_call0_v146, main_call0_call0_call0_v147, main_call0_call0_call0_v148, main_call0_call0_call0_v149, main_call0_call0_call0_c_38, main_call0_call0_call0_v150, main_call0_call0_call0_v151, main_call0_call0_call0_c_39, main_call0_call0_call0_v152, main_call0_call0_call0_v153, main_call0_call0_call0_v154, main_call0_call0_call0_v155, main_call0_call0_call0_v156, main_call0_call0_call0_c_40, main_call0_call0_call0_v157, main_call0_call0_call0_v158, main_call0_call0_call0_c_41, main_call0_call0_call0_v159, main_call0_call0_call0_v160]
set_option maxRecDepth 8192 in
/-- Each operation of window `ops_8` writes only the buffers listed for it. -/
theorem ops_8_writes : (ops_8 : List (HloOp τ sig (Elt F))).Forall fun op => op.writes ⊆ (ops_8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_8` does not write keeps its contents through it. -/
theorem val0_9_keep (V0 : Valuation τ sig (Elt F)) (r : Ref sig .tc) (h : r ∉ ops_8_W) :
    val0_9 V0 (Proc.devRef .tc r) = val0_8 V0 (Proc.devRef .tc r) :=
  after_of_writes_sub ops_8 _ ops_8_writes h
/-- What the buffer `main_arg0` holds in `val0_9`, as a term of the initial contents. -/
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
/-- What the buffer `main_v19` holds in `val0_9`, as a term of the initial contents. -/
theorem val0_9_main_v19 (V0 : Valuation τ sig (Elt F)) : val0_9 V0 (no_index (Proc.devRef .tc main_v19)) = res_main_v19 V0 :=
  (val0_9_keep V0 main_v19 (by decide)).trans (val0_8_main_v19 V0)
/-- What the buffer `main_v27` holds in `val0_9`, as a term of the initial contents. -/
theorem val0_9_main_v27 (V0 : Valuation τ sig (Elt F)) : val0_9 V0 (no_index (Proc.devRef .tc main_v27)) = Host.log (res_main_v19 V0) :=
  (val0_9_keep V0 main_v27 (by decide)).trans (val0_8_main_v27 V0)
/-- What the buffer `main_call0_call0_v1` holds in `val0_9`, as a term of the initial contents. -/
theorem val0_9_main_call0_call0_v1 (V0 : Valuation τ sig (Elt F)) : val0_9 V0 (no_index (Proc.devRef .tc main_call0_call0_v1)) = res_main_call0_call0_v1 V0 :=
  (val0_9_keep V0 main_call0_call0_v1 (by decide)).trans (val0_8_main_call0_call0_v1 V0)
/-- What the buffer `main_call0_call0_v2` holds in `val0_9`, as a term of the initial contents. -/
theorem val0_9_main_call0_call0_v2 (V0 : Valuation τ sig (Elt F)) : val0_9 V0 (no_index (Proc.devRef .tc main_call0_call0_v2)) = broadcastInDim S1x1x1 ![] bcast_S_S1x1x1 (id (constant S_ .f32 0x3F800000#32)) :=
  (val0_9_keep V0 main_call0_call0_v2 (by decide)).trans (val0_8_main_call0_call0_v2 V0)
/-- What the buffer `main_call0_call0_v4` holds in `val0_9`, as a term of the initial contents. -/
theorem val0_9_main_call0_call0_v4 (V0 : Valuation τ sig (Elt F)) : val0_9 V0 (no_index (Proc.devRef .tc main_call0_call0_v4)) = res_main_call0_call0_v4 V0 :=
  (val0_9_keep V0 main_call0_call0_v4 (by decide)).trans (val0_8_main_call0_call0_v4 V0)
/-- What the buffer `main_call0_call0_call0_v1` holds in `val0_9`, as a term of the initial contents. -/
theorem val0_9_main_call0_call0_call0_v1 (V0 : Valuation τ sig (Elt F)) : val0_9 V0 (no_index (Proc.devRef .tc main_call0_call0_call0_v1)) = res_main_call0_call0_call0_v1 V0 :=
  (val0_9_keep V0 main_call0_call0_call0_v1 (by decide)).trans (val0_8_main_call0_call0_call0_v1 V0)
set_option maxRecDepth 8192 in
set_option maxHeartbeats 2000000 in
/-- What the buffer `main_call0_call0_call0_v156` holds in `val0_9`, as a term of the initial contents. -/
theorem val0_9_main_call0_call0_call0_v156 (V0 : Valuation τ sig (Elt F)) : val0_9 V0 (no_index (Proc.devRef .tc main_call0_call0_call0_v156)) = res_main_call0_call0_call0_v156 V0 := by
  unfold val0_9
  simp only [ops_8, TRef.binary, TRef.nullary, TRef.unary, TRef.toBuf, TRef.ofBuf, cast_eq]
  after_results_simp
  simp only [val0_8_main_call0_call0_call0_v1, val0_8_main_call0_call0_call0_v135, val0_8_main_call0_call0_call0_v137] <;> rfl
set_option maxRecDepth 8192 in
set_option maxHeartbeats 2000000 in
/-- What the buffer `main_call0_call0_call0_v158` holds in `val0_9`, as a term of the initial contents. -/
theorem val0_9_main_call0_call0_call0_v158 (V0 : Valuation τ sig (Elt F)) : val0_9 V0 (no_index (Proc.devRef .tc main_call0_call0_call0_v158)) = Host.shli (res_main_call0_call0_call0_v155 V0) (broadcastInDim S4096x32x32 ![] bcast_S_S4096x32x32 (constantI S_ 32 26#32)) := by
  unfold val0_9
  simp only [ops_8, TRef.binary, TRef.nullary, TRef.unary, TRef.toBuf, TRef.ofBuf, cast_eq]
  after_results_simp
  simp only [val0_8_main_call0_call0_call0_v1, val0_8_main_call0_call0_call0_v135, val0_8_main_call0_call0_call0_v137] <;> rfl
set_option maxRecDepth 8192 in
set_option maxHeartbeats 2000000 in
/-- What the buffer `main_call0_call0_call0_v160` holds in `val0_9`, as a term of the initial contents. -/
theorem val0_9_main_call0_call0_call0_v160 (V0 : Valuation τ sig (Elt F)) : val0_9 V0 (no_index (Proc.devRef .tc main_call0_call0_call0_v160)) = Host.shrui (res_main_call0_call0_call0_v155 V0) (broadcastInDim S4096x32x32 ![] bcast_S_S4096x32x32 (constantI S_ 32 6#32)) := by
  unfold val0_9
  simp only [ops_8, TRef.binary, TRef.nullary, TRef.unary, TRef.toBuf, TRef.ofBuf, cast_eq]
  after_results_simp
  simp only [val0_8_main_call0_call0_call0_v1, val0_8_main_call0_call0_call0_v135, val0_8_main_call0_call0_call0_v137] <;> rfl

/-- The device's buffer contents after @main's first 300 operations. -/
def val0_10 (V0 : Valuation τ sig (Elt F)) : Valuation τ sig (Elt F) := after ops_9 (val0_9 V0)
/-- The buffers that window `ops_9`'s operations write. -/
abbrev ops_9_W : List (Ref sig .tc) := [main_call0_call0_call0_v161, main_call0_call0_call0_v162, main_call0_call0_call0_v163, main_call0_call0_call0_c_42, main_call0_call0_call0_v164, main_call0_call0_call0_v165, main_call0_call0_call0_c_43, main_call0_call0_call0_v166, main_call0_call0_call0_v167, main_call0_call0_call0_v168, main_call0_call0_call0_v169, main_call0_call0_call0_v170, main_call0_call0_v22_0, main_call0_call0_call0_v172, main_call0_call0_call0_v173, main_call0_call0_call0_c_44, main_call0_call0_call0_v174, main_call0_call0_v22_1, main_call0_call0_v23, main_call0_call0_c_3, main_call0_call0_v24, main_call0_call0_v25, main_call0_call0_c_4, main_call0_call0_v26, main_call0_call0_v27, main_call0_call0_v28, main_call0_call0_cst, main_call0_call0_v29, main_call0_call0_v30, main_call0_call0_v31]
set_option maxRecDepth 8192 in
/-- Each operation of window `ops_9` writes only the buffers listed for it. -/
theorem ops_9_writes : (ops_9 : List (HloOp τ sig (Elt F))).Forall fun op => op.writes ⊆ (ops_9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_9` does not write keeps its contents through it. -/
theorem val0_10_keep (V0 : Valuation τ sig (Elt F)) (r : Ref sig .tc) (h : r ∉ ops_9_W) :
    val0_10 V0 (Proc.devRef .tc r) = val0_9 V0 (Proc.devRef .tc r) :=
  after_of_writes_sub ops_9 _ ops_9_writes h
/-- What the buffer `main_arg0` holds in `val0_10`, as a term of the initial contents. -/
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
/-- What the buffer `main_v19` holds in `val0_10`, as a term of the initial contents. -/
theorem val0_10_main_v19 (V0 : Valuation τ sig (Elt F)) : val0_10 V0 (no_index (Proc.devRef .tc main_v19)) = res_main_v19 V0 :=
  (val0_10_keep V0 main_v19 (by decide)).trans (val0_9_main_v19 V0)
/-- What the buffer `main_v27` holds in `val0_10`, as a term of the initial contents. -/
theorem val0_10_main_v27 (V0 : Valuation τ sig (Elt F)) : val0_10 V0 (no_index (Proc.devRef .tc main_v27)) = Host.log (res_main_v19 V0) :=
  (val0_10_keep V0 main_v27 (by decide)).trans (val0_9_main_v27 V0)
/-- What the buffer `main_call0_call0_v1` holds in `val0_10`, as a term of the initial contents. -/
theorem val0_10_main_call0_call0_v1 (V0 : Valuation τ sig (Elt F)) : val0_10 V0 (no_index (Proc.devRef .tc main_call0_call0_v1)) = res_main_call0_call0_v1 V0 :=
  (val0_10_keep V0 main_call0_call0_v1 (by decide)).trans (val0_9_main_call0_call0_v1 V0)
set_option maxRecDepth 8192 in
set_option maxHeartbeats 2000000 in
/-- What the buffer `main_call0_call0_v30` holds in `val0_10`, as a term of the initial contents. -/
theorem val0_10_main_call0_call0_v30 (V0 : Valuation τ sig (Elt F)) : val0_10 V0 (no_index (Proc.devRef .tc main_call0_call0_v30)) = subf (bitcastToFloat (F := F) .f32 (ori (Host.shrui (xori (addi (res_main_call0_call0_call0_v163 V0) (broadcastInDim S4096x32x32 ![] bcast_S_S4096x32x32 (res_main_call0_call0_call0_v1 V0))) (addi (addi (xori (res_main_call0_call0_call0_v163 V0) (ori (Host.shli (res_main_call0_call0_call0_v162 V0) (broadcastInDim S4096x32x32 ![] bcast_S_S4096x32x32 (constantI S_ 32 6#32))) (Host.shrui (res_main_call0_call0_call0_v162 V0) (broadcastInDim S4096x32x32 ![] bcast_S_S4096x32x32 (constantI S_ 32 26#32))))) (broadcastInDim S4096x32x32 ![] bcast_S_S4096x32x32 (res_main_call0_call0_v4 V0))) (broadcastInDim S4096x32x32 ![] bcast_S_S4096x32x32 (constantI S_ 32 5#32)))) (broadcastInDim S4096x32x32 ![] bcast_S_S4096x32x32 (constantI S_ 32 9#32))) (broadcastInDim S4096x32x32 ![] bcast_S_S4096x32x32 (constantI S_ 32 1065353216#32)))) (broadcastInDim S4096x32x32 ![] bcast_S_S4096x32x32 (constant S_ .f32 0x3F800000#32)) := by
  unfold val0_10
  simp only [ops_9, TRef.binary, TRef.nullary, TRef.unary, TRef.toBuf, TRef.ofBuf, cast_eq]
  after_results_simp
  simp only [val0_9_main_call0_call0_v4, val0_9_main_call0_call0_call0_v160, val0_9_main_call0_call0_call0_v158, val0_9_main_call0_call0_call0_v156, val0_9_main_call0_call0_call0_v1] <;> rfl
set_option maxRecDepth 8192 in
set_option maxHeartbeats 2000000 in
/-- What the buffer `main_call0_call0_v31` holds in `val0_10`, as a term of the initial contents. -/
theorem val0_10_main_call0_call0_v31 (V0 : Valuation τ sig (Elt F)) : val0_10 V0 (no_index (Proc.devRef .tc main_call0_call0_v31)) = subf (broadcastInDim S1x1x1 ![] bcast_S_S1x1x1 (id (constant S_ .f32 0x3F800000#32))) (res_main_call0_call0_v1 V0) := by
  unfold val0_10
  simp only [ops_9, TRef.binary, TRef.nullary, TRef.unary, TRef.toBuf, TRef.ofBuf, cast_eq]
  after_results_simp
  simp only [val0_9_main_call0_call0_v1, val0_9_main_call0_call0_v2] <;> rfl

/-- The device's buffer contents after @main's 324 operations. -/
def val1 (V0 : Valuation τ sig (Elt F)) : Valuation τ sig (Elt F) := after ops_10 (val0_10 V0)
/-- The buffers that window `ops_10`'s operations write. -/
abbrev ops_10_W : List (Ref sig .tc) := [main_call0_call0_v32, main_call0_call0_v33, main_call0_call0_v34, main_call0_call0_v35, main_call0_call0_v36, main_call0_v0, main_call0_v1, main_call0_v2, main_call0_v3, main_v28, main_v29, main_call1_v0, main_call1_cst, main_call1_c, main_call1_v1_0, main_v30, main_call2_v0, main_call2_v1, main_call2_v2, main_call2_v3, main_call2_v4, main_v31, main_v32, main_v33]
set_option maxRecDepth 8192 in
/-- Each operation of window `ops_10` writes only the buffers listed for it. -/
theorem ops_10_writes : (ops_10 : List (HloOp τ sig (Elt F))).Forall fun op => op.writes ⊆ (ops_10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_10` does not write keeps its contents through it. -/
theorem val1_keep (V0 : Valuation τ sig (Elt F)) (r : Ref sig .tc) (h : r ∉ ops_10_W) :
    val1 V0 (Proc.devRef .tc r) = val0_10 V0 (Proc.devRef .tc r) :=
  after_of_writes_sub ops_10 _ ops_10_writes h
/-- What the buffer `main_arg0` holds in `val1`, as a term of the initial contents. -/
theorem val1_main_arg0 (V0 : Valuation τ sig (Elt F)) : val1 V0 (no_index (Proc.devRef .tc main_arg0)) = V0 (Proc.devRef .tc main_arg0) :=
  (val1_keep V0 main_arg0 (by decide)).trans (val0_10_main_arg0 V0)
set_option maxRecDepth 8192 in
set_option maxHeartbeats 2000000 in
/-- What the buffer `main_v33` holds in `val1`, as a term of the initial contents. -/
theorem val1_main_v33 (V0 : Valuation τ sig (Elt F)) : val1 V0 (no_index (Proc.devRef .tc main_v33)) = subf (addf (uitofp .f32 (cmpi .eq (broadcastInDim S4096x32x32 ![0, 1, 2] bcast_S4096x32x1_S4096x32x32_0_1_2 (broadcastInDim S4096x32x1 ![0, 1] bcast_S4096x32_S4096x32x1_0_1 (fun j => (Host.argReduce reducer_argmax_f32_i32 (res_main_v29 V0) (res_main_call1_v0 V0) (res_main_call1_cst V0) (res_main_call1_c V0) reducesTo_S4096x32x32_S4096x32_d2 h_S_ j).2))) (broadcastInDim S4096x32x32 ![0, 1, 2] bcast_S1x1x32_S4096x32x32_0_1_2 (iotaInDim S1x1x32 32 2)))) (res_main_v19 V0)) (res_main_v19 V0) := by
  unfold val1
  simp only [ops_10, TRef.binary, TRef.nullary, TRef.quaternary, TRef.unary, TRef.toBuf, TRef.ofBuf, cast_eq]
  after_results_simp
  simp only [val0_10_main_v19, val0_10_main_v27, val0_10_main_call0_call0_v1, val0_10_main_call0_call0_v31, val0_10_main_call0_call0_v30] <;> rfl

/-- The contents after all operations are those after the last window. -/
theorem after_ops (V0 : Valuation τ sig (Elt F)) : after ops V0 = val1 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = subf (addf (uitofp .f32 (cmpi .eq (broadcastInDim S4096x32x32 ![0, 1, 2] bcast_S4096x32x1_S4096x32x32_0_1_2 (broadcastInDim S4096x32x1 ![0, 1] bcast_S4096x32_S4096x32x1_0_1 (fun j => (Host.argReduce reducer_argmax_f32_i32 (res_main_v29 (launchContents m c)) (res_main_call1_v0 (launchContents m c)) (res_main_call1_cst (launchContents m c)) (res_main_call1_c (launchContents m c)) reducesTo_S4096x32x32_S4096x32_d2 h_S_ j).2))) (broadcastInDim S4096x32x32 ![0, 1, 2] bcast_S1x1x32_S4096x32x32_0_1_2 (iotaInDim S1x1x32 32 2)))) (res_main_v19 (launchContents m c))) (res_main_v19 (launchContents m c))
      ∧ r.2.mem ((c.tc : Thread nD τ).loc main_arg0) = m ((c.tc : Thread nD τ).loc main_arg0) :=
  (θ_run defs _ _).mono (fun _ h c => ⟨(h c main_v33).trans ((congrFun (after_ops (launchContents m c)) (Proc.devRef .tc main_v33)).trans (val1_main_v33 (launchContents m c))),
      (h c main_arg0).trans ((congrFun (after_ops (launchContents m c)) (Proc.devRef .tc main_arg0)).trans (val1_main_arg0 (launchContents m c)))⟩)
    (run_seq scopedRefs_eq scopedSems_eq defs main (fun _ => ops) main_eq (fun _ => ops_sub) m ρ fun _ => ops_fresh)

end Cert.ReferenceIdeal.Value

end
-- ==== Proof.PreForm.lean ====
/- The precondition and the reference's array, each as a function of the batch of groups. -/
module

public import proofs.«01_k».proof.Proof.RefRun
public import proofs.«01_k».proof.Proof.Gen.Pre_one_winner

@[expose] public section

noncomputable section

namespace Cert.Pre_one_winner

open Idealize.ShloMosaic Idealize.ShloMosaic.TcCoe

variable {F : FTy → Type} [FloatOps F] [Facts]

open Facts

/-- The mixing weight of the uniform distribution over the classes: one hundredth of a thirty-second, at every class. -/
def unif32 : FVec F S4096x32x32 .f32 :=
  Host.divf (mulf (broadcastInDim S4096x32x32 ![] bcast_S_S4096x32x32 (constant S_ .f32 0x3C23D70A#32)) (broadcastInDim S4096x32x32 ![] bcast_S_S4096x32x32 (constant S_ .f32 0x3F800000#32)))
    (broadcastInDim S4096x32x32 ![] bcast_S_S4096x32x32 (constant S_ .f32 0x42000000#32))

/-- The exponentials of a batch's logits less their group's largest. -/
def expsOf (x : FVec F S4096x32x32 .f32) : FVec F S4096x32x32 .f32 :=
  Host.exp (subf x (broadcastInDim S4096x32x32 ![0, 1, 2] bcast_S4096x32x1_S4096x32x32_0_1_2 (broadcastInDim S4096x32x1 ![0, 1] bcast_S4096x32_S4096x32x1_0_1
    (maximumf (broadcastInDim S4096x32 ![] bcast_S_S4096x32 (constant S_ .f32 0xFF800000#32))
      (Host.reduce FloatOps.maximumf x (constant S_ .f32 0xFF800000#32) reducesTo_S4096x32x32_S4096x32_d2 h_S_)))))

/-- The probabilities of a batch: the softmax of each group mixed with the uniform distribution. -/
def probsOf (x : FVec F S4096x32x32 .f32) : FVec F S4096x32x32 .f32 :=
  addf unif32 (mulf (broadcastInDim S4096x32x32 ![] bcast_S_S4096x32x32 (constant S_ .f32 0x3F7D70A4#32))
    (Host.divf (expsOf x) (broadcastInDim S4096x32x32 ![0, 1, 2] bcast_S4096x32x1_S4096x32x32_0_1_2 (broadcastInDim S4096x32x1 ![0, 1] bcast_S4096x32_S4096x32x1_0_1
      (Host.reduceAdd (expsOf x) (constant S_ .f32 0x00000000#32) reducesTo_S4096x32x32_S4096x32_d2 h_S_)))))

/-- The generator's key, two words. -/
def key : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- The scores the draw compares: a Gumbel variate and the logarithm of the probability. -/
def scoresOf (x : FVec F S4096x32x32 .f32) : FVec F S4096x32x32 .f32 :=
  addf (fn_gumbel (F := F) key) (Host.log (probsOf x))

/-- The winner of each group, as a one-hot row. -/
def winnersOf (x : FVec F S4096x32x32 .f32) : FVec F S4096x32x32 .f32 :=
  fn_one_hot (F := F) (fn_argmax (F := F) (scoresOf x))

/-- The batch of groups an array of logits holds. -/
def groups (v : FVec F S4096x1024 .f32) : FVec F S4096x32x32 .f32 :=
  shapeCast S4096x32x32 v shapeCasts_S4096x1024_S4096x32x32

/-- The precondition from these. -/
theorem fn_eq (v : FVec F S4096x1024 .f32) :
    fn (F := F) v = fn_part2 (F := F) (scoresOf (groups v))
      (cmpf .oeq (winnersOf (groups v)) (broadcastInDim S4096x32x32 ![] bcast_S_S4096x32x32 (constant S_ .f32 0x3F800000#32)))
      (broadcastInDim S4096x32x1 ![0, 1] bcast_S4096x32_S4096x32x1_0_1
        (Host.reduce FloatOps.maximumf (scoresOf (groups v)) (constant S_ .f32 0xFF800000#32) reducesTo_S4096x32x32_S4096x32_d2 h_S_)) := by
  rfl

end Cert.Pre_one_winner

namespace Cert.ReferenceIdeal.Value

open Idealize.ShloMosaic Idealize.ShloMosaic.TcCoe Cert.ReferenceIdeal Cert.ReferenceIdeal.Gen

variable {F : FTy → Type} [FloatOps F] [Cert.Pre_one_winner.Facts]

/-- The reference's probabilities. -/
theorem probs_eq (V0 : Valuation τ sig (Elt F)) :
    res_main_v19 V0 = Cert.Pre_one_winner.probsOf (Cert.Pre_one_winner.groups (V0 (Proc.devRef .tc main_arg0))) := by
  rfl

/-- The reference's scores. -/
theorem scores_eq (V0 : Valuation τ sig (Elt F)) :
    res_main_v29 V0 = Cert.Pre_one_winner.scoresOf (Cert.Pre_one_winner.groups (V0 (Proc.devRef .tc main_arg0))) := by
  rfl

end Cert.ReferenceIdeal.Value
-- ==== Proof.Block.lean ====
/- What one point of the grid leaves in its block, from its block of logits. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- The scratch array holds the segment matrix after every point of the grid. -/
theorem scratch (c : Dev nD) : ∀ (n : ℕ) (hn : n < cfg0.N), (outsAt0 m c n hn).2 = k0_pay2
  | 0, hn => by
    rw [outsAt0_A m c ⟨0, hn⟩ (Nat.zero_mod _)]
    frame_out
  | n + 1, hn => by
    have hN := lt_of_lt_of_eq hn (show cfg0.N = 16 from N_0)
    rw [outsAt0_B m c ⟨n + 1, hn⟩ (by show ¬(n + 1) % 16 = 0; omega)]
    exact scratch c n _

/-- The second word of the hash's state after fourteen mixing steps, at each lane of a block. -/
def statesA (i : grid0.Coords) : IVec S256x1024 32 :=
  k0_pay33 (k0_pay20 466689008#32 (k0_pay8 i) (k0_pay9 i) (k0_pay10 i) k0_pay11) (k0_pay21 466689008#32 (k0_pay8 i) (k0_pay9 i) (k0_pay10 i) k0_pay11) (k0_pay22 466689008#32 (k0_pay8 i) (k0_pay9 i) (k0_pay10 i) k0_pay11) 19#32

/-- The sum of that state's two words, at each lane. -/
def statesB (i : grid0.Coords) : IVec S256x1024 32 :=
  k0_pay34 (k0_pay20 466689008#32 (k0_pay8 i) (k0_pay9 i) (k0_pay10 i) k0_pay11) (k0_pay21 466689008#32 (k0_pay8 i) (k0_pay9 i) (k0_pay10 i) k0_pay11) (k0_pay22 466689008#32 (k0_pay8 i) (k0_pay9 i) (k0_pay10 i) k0_pay11) 19#32

/-- What the body leaves in its block of the result, from the block of logits and the segment matrix. -/
def blockOf (x : Vec F S256x1024 .f32) (i : grid0.Coords) : FVec F S256x32x32 .f32 :=
  k0_pay1 (k0_pay46 x 466689008#32 (k0_pay44 466689008#32 (statesA i) (statesB i) 16#32) (k0_pay45 466689008#32 (statesA i) (statesB i) 16#32) k0_pay2 k0_pay2)

/-- What a point of the grid leaves in its block of the result. -/
theorem block (c : Dev nD) (t : Fin cfg0.N) : (outsAt0 m c t.val t.isLt).1 = blockOf (iblk m c 0 t) (grid0.coords t) := by
  by_cases h : t.val % 16 = 0
  · rw [outsAt0_A m c t h]
    frame_out
    rfl
  · rw [outsAt0_B m c t h]
    frame_out
    simp only [read_unread_whole]
    rw [scratch]
    rfl

end Cert.KernelIdeal.Value
-- ==== Proof.Unif.lean ====
/- The uniform variate a random word becomes: a real number strictly between zero and one. -/
module

public import Idealize.ShloMosaic.Lib.IdealHost

@[expose] public section

noncomputable section

namespace Cert.Unif

open Idealize.ShloMosaic

variable {F : FTy → Type} [FloatOps F]

/-- The variate of a word: its upper bits as the fraction of a number from one up to two, less one, scaled by `d` and
    moved to lie at or above the least normal number. -/
def unifWith (d : F .f32) (b : BitVec 32) : F .f32 :=
  FloatOps.maximumf (FloatOps.ofBits .f32 0x00800000#32)
    (FloatOps.addf (FloatOps.mulf (FloatOps.subf (FloatOps.ofBits .f32 (b >>> 9#32 ||| 0x3F800000#32)) (FloatOps.ofBits .f32 0x3F800000#32)) d)
      (FloatOps.ofBits .f32 0x00800000#32))

/-- The variate, scaled by one less the least normal number. -/
def unif (b : BitVec 32) : F .f32 :=
  unifWith (FloatOps.subf (FloatOps.ofBits .f32 0x3F800000#32) (FloatOps.ofBits .f32 0x00800000#32)) b

/-- The least normal number. -/
def tiny : ℝ := (2 : ℝ) ^ (-126 : ℤ)

/-- The least normal number is positive. -/
theorem tiny_pos : 0 < tiny := by unfold tiny; positivity

/-- The least normal number lies below one. -/
theorem tiny_lt_one : tiny < 1 := by
  unfold tiny
  exact zpow_lt_one_of_neg₀ (by norm_num) (by norm_num)

/-- The word of the least normal number denotes it. -/
theorem ofBits_tiny : Ideal.ofBits .f32 0x00800000#32 = ((tiny : ℝ) : EReal) := by
  simp [Ideal.ofBits, Ideal.ieee, tiny, -EReal.coe_mul]
  norm_num

/-- The word of one denotes one. -/
theorem ofBits_one : Ideal.ofBits .f32 0x3F800000#32 = ((1 : ℝ) : EReal) := by
  simp [Ideal.ofBits, Ideal.ieee, -EReal.coe_mul]
  norm_num

/-- A pattern with the exponent of one denotes a number from one up to two. -/
theorem ofBits_frac (b : BitVec 32) :
    ∃ f : ℝ, 0 ≤ f ∧ f < 1 ∧ Ideal.ofBits .f32 (b >>> 9#32 ||| 0x3F800000#32) = ((1 + f : ℝ) : EReal) := by
  have hs : ((b >>> 9#32 ||| 0x3F800000#32).extractLsb' (8 + 23) 1) = 0#1 := by
    apply BitVec.eq_of_getLsbD_eq
    intro i hi
    interval_cases i
    simp
  have he : ((b >>> 9#32 ||| 0x3F800000#32).extractLsb' 23 8) = 127#8 := by
    apply BitVec.eq_of_getLsbD_eq
    intro i hi
    interval_cases i <;> simp
  have hf := ((b >>> 9#32 ||| 0x3F800000#32).extractLsb' 0 23).isLt
  refine ⟨((b >>> 9#32 ||| 0x3F800000#32).extractLsb' 0 23).toNat / 2 ^ 23, by positivity, ?_, ?_⟩
  · rw [div_lt_one (by positivity)]
    exact_mod_cast hf
  · generalize hfr : ((b >>> 9#32 ||| 0x3F800000#32).extractLsb' 0 23).toNat = fr
    unfold Ideal.ofBits Ideal.ieee
    simp only [hs, he, hfr]
    rw [if_neg (by decide), if_neg (by decide)]
    congr 1
    push_cast
    norm_num
    ring

/-- The variate is strictly between zero and one. -/
theorem unif_real (b : BitVec 32) : ∃ r : ℝ, 0 < r ∧ r < 1 ∧ (unif (F := Ideal) b : EReal) = ((r : ℝ) : EReal) := by
  obtain ⟨f, h0, h1, hf⟩ := ofBits_frac b
  have ht := tiny_pos
  have ht1 := tiny_lt_one
  have h : (unif (F := Ideal) b : EReal) = ((f * (1 - tiny) + tiny : ℝ) : EReal) := by
    show max (Ideal.ofBits .f32 0x00800000#32) ((Ideal.ofBits .f32 (b >>> 9#32 ||| 0x3F800000#32) - Ideal.ofBits .f32 0x3F800000#32)
      * (Ideal.ofBits .f32 0x3F800000#32 - Ideal.ofBits .f32 0x00800000#32) + Ideal.ofBits .f32 0x00800000#32) = _
    rw [hf, ofBits_one, ofBits_tiny, ← EReal.coe_sub, ← EReal.coe_sub, ← EReal.coe_mul, ← EReal.coe_add, add_sub_cancel_left]
    refine max_eq_right (EReal.coe_le_coe_iff.2 ?_)
    have := mul_nonneg h0 (sub_nonneg.2 ht1.le)
    linarith
  refine ⟨_, ?_, ?_, h⟩
  · have := mul_nonneg h0 (sub_nonneg.2 ht1.le)
    linarith
  · nlinarith

end Cert.Unif
-- ==== Proof.KernelFlat.lean ====
/- The race times a block's body computes, as one array expression. -/
module

public import proofs.«01_k».proof.Proof.Block
public import proofs.«01_k».proof.Proof.Unif
public import Idealize.ShloMosaic.Lib.Pointwise
public import Idealize.ShloMosaic.Lib.Tactic

@[expose] public section

noncomputable section

namespace Cert.KernelIdeal.Value

open Idealize.ShloMosaic.Tactic Cert.KernelIdeal Cert.KernelIdeal.Gen Idealize.ShloMosaic Idealize.ShloMosaic.TcCoe

variable {F : FTy → Type} [FloatOps F]

/-- The race times of a block before they are read as groups. -/
def flat (x : FVec F S256x1024 .f32) (A B : IVec S256x1024 32) (M : FVec F S1024x1024 .bf16) : FVec F S256x1024 .f32 :=
  divf (subf (broadcast S256x1024 (Scalar.ofBits .f32 0x00000000#32)) (log fun i => Cert.Unif.unifWith (Scalar.subf (Scalar.ofBits .f32 0x3F800000#32) (Scalar.ofBits .f32 0x00800000#32)) ((A i + 466689008#32) ^^^ (B i + 0#32 + 5#32))))
    (addf (mulf (broadcast S256x1024 (Scalar.ofBits .f32 0x39A3D70A#32))
      (addf (matmul dot_S256x1024_S1024x1024_S256x1024_1_0_0_1_n_n none (truncf .bf16 (exp x) bitsLt_bf16_f32) M (constant S256x1024 .f32 0x00000000#32))
        (matmul dot_S256x1024_S1024x1024_S256x1024_1_0_0_1_n_n none (truncf .bf16 (subf (exp x) (extf .f32 (truncf .bf16 (exp x) bitsLt_bf16_f32) bitsLt_bf16_f32)) bitsLt_bf16_f32) M (constant S256x1024 .f32 0x00000000#32))))
      (mulf (broadcast S256x1024 (Scalar.ofBits .f32 0x3F7D70A4#32)) (exp x)))

/-- The block's race times are those, read as groups. -/
theorem pay46_eq (x : FVec F S256x1024 .f32) (A B : IVec S256x1024 32) (M : FVec F S1024x1024 .bf16) :
    k0_pay46 x 466689008#32 A B M M = shapeCast S256x32x32 (flat x A B M) shapeCasts_S256x1024_S256x32x32 := by
  rfl

/-- A race time at a lane, with the two matrix products standing. -/
theorem flat_read (x : FVec F S256x1024 .f32) (A B : IVec S256x1024 32) (M : FVec F S1024x1024 .bf16) (i : S256x1024.Idx) :
    flat x A B M i
      = FloatOps.divf (FloatOps.subf (FloatOps.ofBits .f32 0x00000000#32)
          (FloatOps.log (Cert.Unif.unifWith (Scalar.subf (Scalar.ofBits .f32 0x3F800000#32) (Scalar.ofBits .f32 0x00800000#32)) ((A i + 466689008#32) ^^^ (B i + 0#32 + 5#32)))))
        (FloatOps.addf (FloatOps.mulf (FloatOps.ofBits .f32 0x39A3D70A#32)
          (FloatOps.addf (matmul dot_S256x1024_S1024x1024_S256x1024_1_0_0_1_n_n none (truncf .bf16 (exp x) bitsLt_bf16_f32) M (constant S256x1024 .f32 0x00000000#32) i)
            (matmul dot_S256x1024_S1024x1024_S256x1024_1_0_0_1_n_n none (truncf .bf16 (subf (exp x) (extf .f32 (truncf .bf16 (exp x) bitsLt_bf16_f32) bitsLt_bf16_f32)) bitsLt_bf16_f32) M (constant S256x1024 .f32 0x00000000#32) i)))
          (FloatOps.mulf (FloatOps.ofBits .f32 0x3F7D70A4#32) (FloatOps.exp (x i)))) := by
  rfl

end Cert.KernelIdeal.Value
-- ==== Proof.Bits.lean ====
/- A truth value as an ideal number: one or zero. -/
module

public import Idealize.ShloMosaic.Lib.IdealHost

@[expose] public section

noncomputable section

namespace Cert.Bits

open Idealize.ShloMosaic

/-- A truth bit widened to a word and read as a signed number is one or zero. -/
theorem signed_bit (p : Bool) :
    (FloatOps.sitofp (F := Ideal) .f32 (BitVec.setWidth 32 (BitVec.ofBool p)) : EReal) = if p then 1 else 0 := by
  show (((BitVec.setWidth 32 (BitVec.ofBool p)).toInt : ℝ) : EReal) = _
  cases p <;> simp

/-- A truth bit read as an unsigned number is one or zero. -/
theorem unsigned_bit (p : Bool) :
    (FloatOps.uitofp (F := Ideal) .f32 (BitVec.ofBool p) : EReal) = if p then 1 else 0 := by
  show (((BitVec.ofBool p).toNat : ℝ) : EReal) = _
  cases p <;> simp

/-- The pattern of `+∞`. -/
theorem ofBits_top : (Ideal.ofBits .f32 0x7F800000#32 : EReal) = ⊤ := by simp [Ideal.ofBits, Ideal.ieee]

/-- The pattern of `-∞`. -/
theorem ofBits_bot : (Ideal.ofBits .f32 0xFF800000#32 : EReal) = ⊥ := by simp [Ideal.ofBits, Ideal.ieee]

end Cert.Bits
-- ==== Proof.KernelSeg.lean ====
/- The segment matrix: which lanes share a group, and a sum over the lanes against it. -/
module

public import proofs.«01_k».proof.Proof.Block
public import proofs.«01_k».proof.Proof.Bits
public import Idealize.ShloMosaic.Lib.Pointwise

@[expose] public section

noncomputable section

namespace Cert.KernelIdeal.Value

open Cert.KernelIdeal Cert.KernelIdeal.Gen Idealize.ShloMosaic Idealize.ShloMosaic.TcCoe

/-- The lane of class `k` of group `j`. -/
def lane (j k : Fin 32) : Fin 1024 := ⟨32 * j.val + k.val, by have := j.isLt; have := k.isLt; omega⟩

/-- Two numbers below 1024, shifted right by five places, are the same word exactly when their quotients by 32 are. -/
theorem shift_eq : ∀ a : Fin 1024, IntOp.shrsi ArithUnit.vector (BitVec.ofNat 32 a.val) 5#32 = BitVec.ofNat 32 (a.val / 32) := by
  decide +kernel

/-- A row of the segment matrix: one at the lanes of a lane's own group, zero elsewhere. -/
theorem seg_at (a b : Fin 1024) :
    (k0_pay2 (F := Ideal) (ix2 a b) : EReal) = if a.val / 32 = b.val / 32 then 1 else 0 := by
  unfold k0_pay2
  pointwise
  rw [shift_eq, shift_eq]
  have ha := a.isLt
  have hb := b.isLt
  have h : (BitVec.ofNat 32 (a.val / 32) = BitVec.ofNat 32 (b.val / 32)) ↔ a.val / 32 = b.val / 32 := by
    constructor
    · intro e
      have := congrArg BitVec.toNat e
      simp only [BitVec.toNat_ofNat] at this
      omega
    · exact fun e => by rw [e]
  refine (Cert.Bits.signed_bit _).trans (if_congr ?_ rfl rfl)
  simp only [beq_iff_eq]
  exact h

/-- A sum over all lanes against the segment matrix's column is the sum over the lane's group. -/
theorem seg_sum (f : Fin 1024 → EReal) (j k : Fin 32) :
    ∑ l : Fin 1024, f l * (if l.val / 32 = (lane j k).val / 32 then 1 else 0) = ∑ q : Fin 32, f (lane j q) := by
  have e : ∀ p : Fin 32 × Fin 32, finProdFinEquiv p = lane p.1 p.2 := fun p => Fin.ext (by simp [finProdFinEquiv, lane]; ring)
  have hd : ∀ a b : Fin 32, (lane a b).val / 32 = a.val := fun a b => by have := b.isLt; simp only [lane]; omega
  rw [← Equiv.sum_comp (finProdFinEquiv : Fin 32 × Fin 32 ≃ Fin 1024), Fintype.sum_prod_type]
  simp only [e, hd]
  rw [Finset.sum_eq_single j]
  · simp
  · intro b _ hb
    refine Finset.sum_eq_zero fun q _ => ?_
    rw [if_neg fun h => hb (Fin.ext h), mul_zero]
  · exact fun h => absurd (Finset.mem_univ _) h

end Cert.KernelIdeal.Value
-- ==== Proof.Race.lean ====
/- The race and the score: the class whose exponential race time is least is the class whose score is largest. -/
module

public import Idealize.ShloMosaic.Lib.IdealHost

@[expose] public section

noncomputable section

namespace Cert.Race

open Idealize.ShloMosaic

/-- The exponential of an extended real below `+∞`, as a real number. -/
def ex (x : EReal) : ℝ := if x = ⊥ then 0 else Real.exp x.toReal

/-- An exponential is not negative. -/
theorem ex_nonneg (x : EReal) : 0 ≤ ex x := by
  unfold ex; split
  · exact le_rfl
  · exact (Real.exp_pos _).le

/-- The exponential of anything but `-∞` is positive. -/
theorem ex_pos {x : EReal} (h : x ≠ ⊥) : 0 < ex x := by
  unfold ex; rw [if_neg h]; exact Real.exp_pos _

/-- Below `+∞` the ideal exponential is that real number. -/
theorem exp_eq {x : EReal} (h : x < ⊤) : Ideal.exp x = ((ex x : ℝ) : EReal) := by
  induction x with
  | bot => simp [ex]
  | top => exact absurd h (lt_irrefl _)
  | coe r => simp [ex]

/-- The ideal exponential of a difference by a real is the exponential times a real factor. -/
theorem exp_sub_eq {x : EReal} (h : x < ⊤) (m : ℝ) : Ideal.exp (x - (m : EReal)) = ((ex x * Real.exp (-m) : ℝ) : EReal) := by
  induction x with
  | bot => simp [ex]
  | top => exact absurd h (lt_irrefl _)
  | coe r =>
    rw [← EReal.coe_sub, Ideal.exp_coe]
    simp [ex, sub_eq_add_neg, Real.exp_add]

/-- A finite sum of reals, as extended reals. -/
theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- An entry is the least of all exactly when it is at most each. -/
theorem eq_fold_min {n : ℕ} (f : Fin n → EReal) (k : Fin n) :
    f k = (Finset.univ : Finset (Fin n)).fold min ⊤ f ↔ ∀ l, f k ≤ f l := by
  have hle : ∀ c, c ≤ (Finset.univ : Finset (Fin n)).fold min ⊤ f ↔ c ≤ ⊤ ∧ ∀ l ∈ (Finset.univ : Finset (Fin n)), c ≤ f l :=
    fun c => Finset.le_fold_min c
  constructor
  · intro h l
    exact ((hle _).1 h.le).2 l (Finset.mem_univ _)
  · intro h
    refine le_antisymm ((hle _).2 ⟨le_top, fun l _ => h l⟩) (((hle _).1 le_rfl).2 k (Finset.mem_univ _))

/-- An entry is the largest of all exactly when it is at least each. -/
theorem eq_fold_max {n : ℕ} (f : Fin n → EReal) (k : Fin n) :
    f k = (Finset.univ : Finset (Fin n)).fold max ⊥ f ↔ ∀ l, f l ≤ f k := by
  have hle : ∀ c, (Finset.univ : Finset (Fin n)).fold max ⊥ f ≤ c ↔ ⊥ ≤ c ∧ ∀ l ∈ (Finset.univ : Finset (Fin n)), f l ≤ c :=
    fun c => Finset.fold_max_le c
  constructor
  · intro h l
    exact ((hle _).1 h.ge).2 l (Finset.mem_univ _)
  · intro h
    refine le_antisymm (((hle _).1 le_rfl).2 k (Finset.mem_univ _)) ((hle _).2 ⟨bot_le, fun l _ => h l⟩)

/-- The mixing weight of each class. -/
def mix : EReal := Ideal.ofBits .f32 0x39A3D70A#32
/-- The weight of the softmax. -/
def keep : EReal := Ideal.ofBits .f32 0x3F7D70A4#32

/-- The mixing weight is a positive real, and the reference's way of computing it gives the same number. -/
theorem mix_real : ∃ r : ℝ, 0 < r ∧ mix = ((r : ℝ) : EReal) ∧
    Ideal.div (Ideal.ofBits .f32 0x3C23D70A#32 * Ideal.ofBits .f32 0x3F800000#32) (Ideal.ofBits .f32 0x42000000#32) = ((r : ℝ) : EReal) := by
  refine ⟨10737418 * (2 : ℝ) ^ (-35 : ℤ), by positivity, ?_, ?_⟩
  · simp [mix, Ideal.ofBits, Ideal.ieee, -EReal.coe_mul]
  · have h1 : Ideal.ofBits .f32 0x3F800000#32 = 1 := by
      simp [Ideal.ofBits, Ideal.ieee, -EReal.coe_mul]
      norm_num
    rw [h1, mul_one]
    have h32 : Ideal.ofBits .f32 0x42000000#32 = ((32 : ℝ) : EReal) := by
      simp [Ideal.ofBits, Ideal.ieee, -EReal.coe_mul]
      norm_num
    have h : Ideal.ofBits .f32 0x3C23D70A#32 = ((10737418 * (2 : ℝ) ^ (-30 : ℤ) : ℝ) : EReal) := by
      simp [Ideal.ofBits, Ideal.ieee, -EReal.coe_mul]
    rw [h32, h, Ideal.div_coe (by norm_num), ← EReal.coe_mul]
    congr 1
    norm_num

/-- The weight of the softmax is a positive real. -/
theorem keep_real : ∃ r : ℝ, 0 < r ∧ keep = ((r : ℝ) : EReal) := by
  refine ⟨16609444 * (2 : ℝ) ^ (-24 : ℤ), by positivity, ?_⟩
  simp [keep, Ideal.ofBits, Ideal.ieee, -EReal.coe_mul]

/-- A class's race time: an exponential variate over the class's unnormalised probability. -/
def race (x u : Fin 32 → EReal) (k : Fin 32) : EReal :=
  Ideal.div (0 - Ideal.log (u k)) (mix * (∑ l, Ideal.exp (x l)) + keep * Ideal.exp (x k))

/-- The largest logit of a group. -/
def top (x : Fin 32 → EReal) : EReal := max ⊥ ((Finset.univ : Finset (Fin 32)).fold max ⊥ x)

/-- A class's probability. -/
def prob (x : Fin 32 → EReal) (k : Fin 32) : EReal :=
  Ideal.div (Ideal.ofBits .f32 0x3C23D70A#32 * Ideal.ofBits .f32 0x3F800000#32) (Ideal.ofBits .f32 0x42000000#32)
    + keep * Ideal.div (Ideal.exp (x k - top x)) (0 + ∑ l, Ideal.exp (x l - top x))

/-- A class's score: a Gumbel variate plus the logarithm of its probability. -/
def score (x u : Fin 32 → EReal) (k : Fin 32) : EReal :=
  -Ideal.log (-Ideal.log (u k)) + Ideal.log (prob x k)

/-- The group's largest logit is one of them. -/
theorem top_mem (x : Fin 32 → EReal) (h : ⊥ < (Finset.univ : Finset (Fin 32)).fold max ⊥ x) : ∃ k, top x = x k ∧ x k ≠ ⊥ := by
  obtain ⟨k, hk⟩ : ∃ k, ∀ l, x l ≤ x k := by
    obtain ⟨k, _, hk⟩ := Finset.exists_max_image (Finset.univ : Finset (Fin 32)) x ⟨0, Finset.mem_univ _⟩
    exact ⟨k, fun l => hk l (Finset.mem_univ _)⟩
  have e := (eq_fold_max x k).2 hk
  refine ⟨k, ?_, fun hb => ?_⟩
  · rw [top, ← e]; exact max_eq_right bot_le
  · rw [← e, hb] at h; exact lt_irrefl _ h

/-- In a group whose logits lie below `+∞` and are not all `-∞`: race times, probabilities and scores are real, a
    probability is positive, and a score is minus the logarithm of a positive multiple, one for the group, of the race time. -/
theorem real_forms (x u : Fin 32 → EReal) (hx : ∀ k, x k < ⊤) (hm : ⊥ < (Finset.univ : Finset (Fin 32)).fold max ⊥ x)
    (hu : ∀ k, ∃ r : ℝ, 0 < r ∧ r < 1 ∧ u k = ((r : ℝ) : EReal)) :
    ∃ S : ℝ, 0 < S ∧ ∀ k, ∃ κ : ℝ, 0 < κ ∧ race x u k = ((κ : ℝ) : EReal) ∧
      (∃ p : ℝ, prob x k = ((p : ℝ) : EReal)) ∧ score x u k = ((-Real.log (κ * S) : ℝ) : EReal) := by
  obtain ⟨a, ha, hmix, hmix'⟩ := mix_real
  obtain ⟨b, hb, hkeep⟩ := keep_real
  obtain ⟨k0, hk0, hk0b⟩ := top_mem x hm
  obtain ⟨M, hM⟩ : ∃ M : ℝ, top x = ((M : ℝ) : EReal) := by
    refine ⟨(x k0).toReal, ?_⟩
    rw [hk0, EReal.coe_toReal (hx k0).ne hk0b]
  have hS : 0 < ∑ l, ex (x l) := Finset.sum_pos' (fun l _ => ex_nonneg _) ⟨k0, Finset.mem_univ _, ex_pos hk0b⟩
  refine ⟨∑ l, ex (x l), hS, fun k => ?_⟩
  obtain ⟨r, hr0, hr1, hr⟩ := hu k
  have hw : 0 < -Real.log r := by have := Real.log_neg hr0 hr1; linarith
  have hlog : Ideal.log (u k) = ((Real.log r : ℝ) : EReal) := by rw [hr, Ideal.log_coe, if_neg (not_le.2 hr0)]
  have hsum : (∑ l, Ideal.exp (x l)) = ((∑ l, ex (x l) : ℝ) : EReal) := by
    rw [← coe_sum]; exact Finset.sum_congr rfl fun l _ => exp_eq (hx l)
  have hE : 0 < Real.exp (-M) := Real.exp_pos _
  have hsum' : (∑ l, Ideal.exp (x l - top x)) = (((∑ l, ex (x l)) * Real.exp (-M) : ℝ) : EReal) := by
    rw [Finset.sum_mul, ← coe_sum, hM]; exact Finset.sum_congr rfl fun l _ => exp_sub_eq (hx l) M
  have hd : 0 < a * (∑ l, ex (x l)) + b * ex (x k) := by
    have := mul_pos ha hS; have := mul_nonneg hb.le (ex_nonneg (x k)); linarith
  have hp : prob x k = ((a + b * (ex (x k) / ∑ l, ex (x l)) : ℝ) : EReal) := by
    rw [prob, hmix', hkeep, hsum', zero_add, hM, exp_sub_eq (hx k) M, Ideal.div_coe (mul_pos hS hE).ne', ← EReal.coe_mul, ← EReal.coe_mul, ← EReal.coe_add]
    congr 1
    field_simp
  refine ⟨-Real.log r / (a * (∑ l, ex (x l)) + b * ex (x k)), div_pos hw hd, ?_, ⟨_, hp⟩, ?_⟩
  · rw [race, hmix, hkeep, hsum, exp_eq (hx k), hlog, ← EReal.coe_mul, ← EReal.coe_mul, ← EReal.coe_add, Ideal.div_coe hd.ne',
      zero_sub, ← EReal.coe_neg, ← EReal.coe_mul]
    congr 1
    field_simp
  · have hpp : 0 < a + b * (ex (x k) / ∑ l, ex (x l)) := by
      have := mul_nonneg hb.le (div_nonneg (ex_nonneg (x k)) hS.le); linarith
    rw [score, hp, hlog, ← EReal.coe_neg, Ideal.log_coe, if_neg (not_le.2 hw), Ideal.log_coe, if_neg (not_le.2 hpp), ← EReal.coe_neg, ← EReal.coe_add]
    congr 1
    have e : -Real.log r / (a * (∑ l, ex (x l)) + b * ex (x k)) * (∑ l, ex (x l)) = -Real.log r / (a + b * (ex (x k) / ∑ l, ex (x l))) := by
      field_simp
    rw [e, Real.log_div hw.ne' hpp.ne']
    ring

/-- So a class wins the race exactly when its score is the largest. -/
theorem race_iff (x u : Fin 32 → EReal) (hx : ∀ k, x k < ⊤) (hm : ⊥ < (Finset.univ : Finset (Fin 32)).fold max ⊥ x)
    (hu : ∀ k, ∃ r : ℝ, 0 < r ∧ r < 1 ∧ u k = ((r : ℝ) : EReal)) (k : Fin 32) :
    race x u k = (Finset.univ : Finset (Fin 32)).fold min ⊤ (race x u) ↔
      score x u k = (Finset.univ : Finset (Fin 32)).fold max ⊥ (score x u) := by
  obtain ⟨S, hS, h⟩ := real_forms x u hx hm hu
  rw [eq_fold_min, eq_fold_max]
  refine forall_congr' fun l => ?_
  obtain ⟨κ, hκ, e, _, es⟩ := h k
  obtain ⟨κ', hκ', e', _, es'⟩ := h l
  rw [e, e', es, es', EReal.coe_le_coe_iff, EReal.coe_le_coe_iff, neg_le_neg_iff, Real.log_le_log_iff (mul_pos hκ hS) (mul_pos hκ' hS)]
  exact (mul_le_mul_iff_left₀ hS).symm

/-- A probability added and taken away again leaves a real number as it was. -/
theorem add_sub_prob (x u : Fin 32 → EReal) (hx : ∀ k, x k < ⊤) (hm : ⊥ < (Finset.univ : Finset (Fin 32)).fold max ⊥ x)
    (hu : ∀ k, ∃ r : ℝ, 0 < r ∧ r < 1 ∧ u k = ((r : ℝ) : EReal)) (k : Fin 32) (a : ℝ) :
    ((a : ℝ) : EReal) + prob x k - prob x k = ((a : ℝ) : EReal) := by
  obtain ⟨S, hS, h⟩ := real_forms x u hx hm hu
  obtain ⟨_, _, _, ⟨p, hp⟩, _⟩ := h k
  rw [hp, ← EReal.coe_add, ← EReal.coe_sub, add_sub_cancel_right]

/-- A group with a logit `+∞`, or with none above `-∞`, has every score at `-∞`. -/
theorem score_bot (x u : Fin 32 → EReal) (h : top x = ⊤ ∨ top x = ⊥) (k : Fin 32) : score x u k = ⊥ := by
  have he : ∀ l, Ideal.exp (x l - top x) = 0 := by
    intro l
    have hb : x l - top x = ⊥ := by
      rcases h with h | h
      · rw [h, sub_eq_add_neg, EReal.neg_top, EReal.add_bot]
      · have hl : x l ≤ top x := ((Finset.fold_max_le (top x)).1 (le_max_right _ _)).2 l (Finset.mem_univ _)
        rw [le_bot_iff.1 (hl.trans h.le), sub_eq_add_neg, EReal.bot_add]
    rw [hb]
    simp
  obtain ⟨b, hb, hkeep⟩ := keep_real
  have hd : Ideal.div 0 0 = ⊥ := by
    rw [Ideal.div, if_pos rfl, if_neg (lt_irrefl _)]
  have hp : prob x k = ⊥ := by
    unfold prob
    simp only [he]
    rw [Finset.sum_const_zero, add_zero, hd, hkeep, EReal.coe_mul_bot_of_pos hb, EReal.add_bot]
  rw [score, hp]
  show _ + (⊥ : EReal) = ⊥
  exact EReal.add_bot _

/-- A group with one score above `-∞` has every logit below `+∞` and one above `-∞`. -/
theorem proper (x u : Fin 32 → EReal) (q : Fin 32) (h : score x u q ≠ ⊥) :
    (∀ k, x k < ⊤) ∧ ⊥ < (Finset.univ : Finset (Fin 32)).fold max ⊥ x := by
  have ht : top x = (Finset.univ : Finset (Fin 32)).fold max ⊥ x := max_eq_right bot_le
  refine ⟨fun k => lt_top_iff_ne_top.2 fun hk => h (score_bot x u (Or.inl (top_le_iff.1 ?_)) q), ?_⟩
  · rw [← hk]
    exact le_max_of_le_right (((Finset.fold_max_le _).1 le_rfl).2 k (Finset.mem_univ _))
  · exact bot_lt_iff_ne_bot.2 fun hb => h (score_bot x u (Or.inr (ht.trans hb)) q)

end Cert.Race
-- ==== Proof.KernelRace.lean ====
/- What the body computes at one lane of a block: the race time of that lane's class. -/
module

public import proofs.«01_k».proof.Proof.KernelFlat
public import proofs.«01_k».proof.Proof.KernelSeg
public import proofs.«01_k».proof.Proof.Race
public import Idealize.ShloMosaic.Lib.Pointwise

@[expose] public section

noncomputable section

namespace Cert.KernelIdeal.Value

open Cert.KernelIdeal Cert.KernelIdeal.Gen Idealize.ShloMosaic Idealize.ShloMosaic.TcCoe

/-- The block read as groups: class `k` of group `j` of a row is the row's lane of that class. -/
theorem cast_at {α : Type} (y : S256x1024.Idx → α) (i : Fin 256) (j k : Fin 32) :
    shapeCast S256x32x32 y shapeCasts_S256x1024_S256x32x32 (ix3 i j k) = y (ix2 i (lane j k)) := by
  pointwise
  refine congrArg (fun l => y (ix2 i l)) (Fin.ext ?_)
  simp only [lane]
  omega

/-- The matrix product at a row and a lane. -/
theorem matmul_at (y : FVec Ideal S256x1024 .bf16) (z : FVec Ideal S1024x1024 .bf16) (r : Fin 256) (c : Fin 1024) :
    (matmul dot_S256x1024_S1024x1024_S256x1024_1_0_0_1_n_n none y z (constant (F := Ideal) S256x1024 .f32 0x00000000#32) (ix2 r c) : EReal)
      = ∑ l : Fin 1024, (y (ix2 r l) * z (ix2 l c) : EReal) := by
  pointwise

/-- The race time of a class, where the row's logits lie below `+∞`. -/
theorem flat_at (x : FVec Ideal S256x1024 .f32) (A B : IVec S256x1024 32) (M : FVec Ideal S1024x1024 .bf16)
    (hM : ∀ a b : Fin 1024, (M (ix2 a b) : EReal) = if a.val / 32 = b.val / 32 then 1 else 0)
    (w : Fin 32 → BitVec 32) (r : Fin 256) (j k : Fin 32)
    (hx : ∀ l, (x (ix2 r l) : EReal) < ⊤)
    (hw : ∀ q, (A (ix2 r (lane j q)) + 466689008#32) ^^^ (B (ix2 r (lane j q)) + 0#32 + 5#32) = w q) :
    (flat x A B M (ix2 r (lane j k)) : EReal)
      = Cert.Race.race (fun q => x (ix2 r (lane j q))) (fun q => Cert.Unif.unif (F := Ideal) (w q)) k := by
  have h1 : ∀ y : FVec Ideal S256x1024 .bf16, (matmul dot_S256x1024_S1024x1024_S256x1024_1_0_0_1_n_n none y M (constant (F := Ideal) S256x1024 .f32 0x00000000#32) (ix2 r (lane j k)) : EReal)
      = ∑ q, (y (ix2 r (lane j q)) : EReal) := by
    intro y
    rw [matmul_at y M r (lane j k)]
    simp only [hM]
    exact seg_sum (fun l => y (ix2 r l)) j k
  have h2 : ∀ l, (truncf (F := Ideal) .bf16 (subf (exp x) (extf .f32 (truncf .bf16 (exp x) bitsLt_bf16_f32) bitsLt_bf16_f32)) bitsLt_bf16_f32 (ix2 r l) : EReal)
      = 0 := by
    intro l
    show Ideal.exp (x (ix2 r l)) - Ideal.exp (x (ix2 r l)) = 0
    rw [Cert.Race.exp_eq (hx l), ← EReal.coe_sub, sub_self, EReal.coe_zero]
  rw [flat_read, h1, h1, hw]
  simp only [h2, Finset.sum_const_zero]
  show Ideal.div (Ideal.ofBits .f32 0x00000000#32 - Ideal.log (Cert.Unif.unif (F := Ideal) (w k)))
    (Cert.Race.mix * ((∑ q, Ideal.exp (x (ix2 r (lane j q)))) + 0) + Cert.Race.keep * Ideal.exp (x (ix2 r (lane j k)))) = _
  rw [Ideal.ofBits_zero_f32, add_zero]
  rfl

end Cert.KernelIdeal.Value
-- ==== Proof.KernelWin.lean ====
/- What the body writes: one where a class's race time is the least of its group, zero elsewhere. -/
module

public import proofs.«01_k».proof.Proof.Gen.KernelIdeal.Skeleton
public import proofs.«01_k».proof.Proof.Bits
public import Idealize.ShloMosaic.Lib.Pointwise

@[expose] public section

noncomputable section

namespace Cert.KernelIdeal.Value

open Cert.KernelIdeal Cert.KernelIdeal.Gen Idealize.ShloMosaic Idealize.ShloMosaic.TcCoe

/-- The body's last step at an entry: one where the entry is the least of its group, zero elsewhere. -/
theorem win_at (y : FVec Ideal S256x32x32 .f32) (i : Fin 256) (j k : Fin 32) :
    (k0_pay1 y (ix3 i j k) : EReal)
      = if (y (ix3 i j k) : EReal) = (Finset.univ : Finset (Fin 32)).fold min ⊤ (fun q => y (ix3 i j q)) then 1 else 0 := by
  unfold k0_pay1
  pointwise
  rw [Cert.Bits.ofBits_top]
  refine (Cert.Bits.signed_bit _).trans (if_congr ?_ rfl rfl)
  exact decide_eq_true_iff

end Cert.KernelIdeal.Value
-- ==== Proof.Words.lean ====
/- The generator's hash on words: five groups of four mixing steps on two 32-bit words, a key word added after each (Threefry-2x32). -/
module

public import Idealize.ShloMosaic.Lib.Pointwise

@[expose] public section

namespace Cert.Words

/-- A word's bits turned left by `l` places, `l + r` being the word's width. -/
def turn (l r x : BitVec 32) : BitVec 32 := x <<< l ||| x >>> r

/-- One half-round on a pair of words: the first becomes the sum, the second is turned and meets that sum. -/
def half (l r : BitVec 32) (s : BitVec 32 × BitVec 32) : BitVec 32 × BitVec 32 :=
  (s.1 + s.2, (s.1 + s.2) ^^^ turn l r s.2)

/-- A key word added to each of the two, and the round's number to the second. -/
def inject (a b n : BitVec 32) (s : BitVec 32 × BitVec 32) : BitVec 32 × BitVec 32 :=
  (s.1 + a, s.2 + b + n)

/-- The first, third and fifth groups of four half-rounds. -/
def roundA (s : BitVec 32 × BitVec 32) : BitVec 32 × BitVec 32 :=
  half 6 26 (half 26 6 (half 15 17 (half 13 19 s)))

/-- The second and fourth groups of four half-rounds. -/
def roundB (s : BitVec 32 × BitVec 32) : BitVec 32 × BitVec 32 :=
  half 24 8 (half 16 16 (half 29 3 (half 17 15 s)))

/-- The hash of a pair of words under the key words `a`, `b` and their parity word `p`. -/
def hashWith (a b p hi lo : BitVec 32) : BitVec 32 × BitVec 32 :=
  inject p a 5 (roundA (inject b p 4 (roundB (inject a b 3 (roundA (inject p a 2
    (roundB (inject b p 1 (roundA (hi + a, lo + b))))))))))

/-- The hash of a pair of words under a two-word key. -/
def hash (a b hi lo : BitVec 32) : BitVec 32 × BitVec 32 :=
  hashWith a b (a ^^^ b ^^^ 466688986#32) hi lo

/-- A half-round with its exclusive or written the other way round. -/
def khalf (l r : BitVec 32) (s : BitVec 32 × BitVec 32) : BitVec 32 × BitVec 32 :=
  (s.1 + s.2, turn l r s.2 ^^^ (s.1 + s.2))

/-- The two ways of writing a half-round agree. -/
theorem khalf_eq (l r : BitVec 32) (s : BitVec 32 × BitVec 32) : khalf l r s = half l r s := by
  unfold khalf half; rw [BitVec.xor_comm]

/-- The first, third and fifth groups, of such half-rounds. -/
def kroundA (s : BitVec 32 × BitVec 32) : BitVec 32 × BitVec 32 :=
  khalf 6 26 (khalf 26 6 (khalf 15 17 (khalf 13 19 s)))

/-- The second and fourth groups, of such half-rounds. -/
def kroundB (s : BitVec 32 × BitVec 32) : BitVec 32 × BitVec 32 :=
  khalf 24 8 (khalf 16 16 (khalf 29 3 (khalf 17 15 s)))

/-- The two ways of writing the first, third and fifth groups agree. -/
theorem kroundA_eq (s : BitVec 32 × BitVec 32) : kroundA s = roundA s := by
  simp only [kroundA, roundA, khalf_eq]

/-- The two ways of writing the second and fourth groups agree. -/
theorem kroundB_eq (s : BitVec 32 × BitVec 32) : kroundB s = roundB s := by
  simp only [kroundB, roundB, khalf_eq]

/-- The hash under a key whose first word is zero, of a pair whose first word is zero, from the first half-round's
    shorter form: the second word `w` already has its key word added, and the first sum is `w` itself. -/
def khash (b p w : BitVec 32) : BitVec 32 × BitVec 32 :=
  inject p 0 5 (kroundA (inject b p 4 (kroundB (inject 0 b 3 (kroundA (inject p 0 2
    (kroundB (inject b p 1 (khalf 6 26 (khalf 26 6 (khalf 15 17 (w, turn 13 19 w ^^^ w))))))))))))

/-- That shorter form is the hash. -/
theorem khash_eq (b p lo : BitVec 32) : khash b p (lo + b) = hashWith 0 b p 0 lo := by
  have h0 : khalf 13 19 (0 + 0, lo + b) = (lo + b, turn 13 19 (lo + b) ^^^ (lo + b)) := by
    simp [khalf]
  have h1 : khalf 6 26 (khalf 26 6 (khalf 15 17 (lo + b, turn 13 19 (lo + b) ^^^ (lo + b))))
      = roundA (0 + 0, lo + b) := by
    rw [← kroundA_eq, kroundA, h0]
  unfold khash hashWith
  rw [h1]
  simp only [kroundA_eq, kroundB_eq]

end Cert.Words
-- ==== Proof.KernelWords.lean ====
/- The random words of a block's lanes are the generator's hash of their numbers. -/
module

public import proofs.«01_k».proof.Proof.Words
public import proofs.«01_k».proof.Proof.Block
public import Idealize.ShloMosaic.Lib.Tactic

@[expose] public section

noncomputable section

namespace Cert.KernelIdeal.Value

open Cert.KernelIdeal Cert.KernelIdeal.Gen Idealize.ShloMosaic Idealize.ShloMosaic.Tactic Cert.Words

/-- The hash's state after fourteen half-rounds, at a lane whose index word with the key word added is `w`. -/
def midState (w : BitVec 32) : BitVec 32 × BitVec 32 :=
  khalf 29 3 (khalf 17 15 (inject 0 42 3 (kroundA (inject 466689008 0 2 (kroundB (inject 42 466689008 1
    (khalf 6 26 (khalf 26 6 (khalf 15 17 (w, turn 13 19 w ^^^ w))))))))))

/-- The hash's last state from that one. -/
def lastState (s : BitVec 32 × BitVec 32) : BitVec 32 × BitVec 32 :=
  inject 466689008 0 5 (kroundA (inject 42 466689008 4 (khalf 24 8 (khalf 16 16 s))))

/-- The second word of that state, as the block's words hold it at each lane. -/
theorem statesA_at (g : grid0.Coords) (i : S256x1024.Idx) : statesA g i = (midState (k0_pay3 g i)).2 := by
  sl_kernel_rfl

/-- The sum of that state's two words. -/
theorem statesB_at (g : grid0.Coords) (i : S256x1024.Idx) :
    statesB g i = (midState (k0_pay3 g i)).1 + (midState (k0_pay3 g i)).2 := by
  sl_kernel_rfl

/-- The first word of the last state, from a state of each lane. -/
theorem last_fst (s : S256x1024.Idx → BitVec 32 × BitVec 32) (i : S256x1024.Idx) :
    k0_pay44 466689008#32 (fun i => (s i).2) (fun i => (s i).1 + (s i).2) 16#32 i + 466689008#32 = (lastState (s i)).1 := by
  sl_kernel_rfl

/-- The second word of the last state, likewise. -/
theorem last_snd (s : S256x1024.Idx → BitVec 32 × BitVec 32) (i : S256x1024.Idx) :
    k0_pay45 466689008#32 (fun i => (s i).2) (fun i => (s i).1 + (s i).2) 16#32 i + 0#32 + 5#32 = (lastState (s i)).2 := by
  sl_kernel_rfl

/-- From the one state to the other is the hash. -/
theorem lastState_eq (w : BitVec 32) : lastState (midState w) = khash 42 466689008 w := rfl

/-- The word of the entry numbered `n`, a row-major number in the whole array. -/
def drawWord (n : BitVec 32) : BitVec 32 := (hash 0 42 0 n).1 ^^^ (hash 0 42 0 n).2

/-- The word each lane's number becomes. -/
theorem bits_at (g : grid0.Coords) (i : S256x1024.Idx) (n : BitVec 32) (hn : k0_pay3 g i = n + 42) :
    (k0_pay44 466689008#32 (statesA g) (statesB g) 16#32 i + 466689008#32)
      ^^^ (k0_pay45 466689008#32 (statesA g) (statesB g) 16#32 i + 0#32 + 5#32) = drawWord n := by
  have hA : statesA g = fun i => (midState (k0_pay3 g i)).2 := funext (statesA_at g)
  have hB : statesB g = fun i => (midState (k0_pay3 g i)).1 + (midState (k0_pay3 g i)).2 := funext (statesB_at g)
  rw [hA, hB, last_fst (fun i => midState (k0_pay3 g i)), last_snd (fun i => midState (k0_pay3 g i)), lastState_eq, hn, khash_eq]
  rfl

/-- The number of the lane `c` of the row `r` of the block `g`, with the key word added. -/
theorem pay3_at (g : grid0.Coords) (r : Fin 256) (c : Fin 1024) :
    k0_pay3 g (ix2 r c) = BitVec.ofNat 32 ((256 * (g 0).val + r.val) * 1024 + c.val) + 42 := by
  have h : k0_pay3 g (ix2 r c) = (BitVec.ofNat 32 (g 0).val * 262144#32 + BitVec.ofNat 32 r.val * 1024#32 + BitVec.ofNat 32 c.val) + 42#32 := by
    unfold k0_pay3
    pointwise
    rfl
  rw [h]
  congr 1
  rw [← BitVec.ofNat_mul, ← BitVec.ofNat_mul, ← BitVec.ofNat_add, ← BitVec.ofNat_add]
  congr 1
  ring

end Cert.KernelIdeal.Value
-- ==== Proof.KernelBlock.lean ====
/- A block of the kernel's result at an entry. -/
module

public import proofs.«01_k».proof.Proof.KernelRace
public import proofs.«01_k».proof.Proof.KernelWin
public import proofs.«01_k».proof.Proof.KernelWords

@[expose] public section

noncomputable section

namespace Cert.KernelIdeal.Value

open Cert.KernelIdeal Cert.KernelIdeal.Gen Idealize.ShloMosaic Idealize.ShloMosaic.TcCoe

/-- One for the class whose race time is the least of its group, zero for the others. -/
def mark (x u : Fin 32 → EReal) (k : Fin 32) : EReal :=
  if Cert.Race.race x u k = (Finset.univ : Finset (Fin 32)).fold min ⊤ (Cert.Race.race x u) then 1 else 0

/-- The uniform variate of class `q` of group `j` in the row numbered `i` of the whole array. -/
def draw (i : ℕ) (j q : Fin 32) : EReal :=
  Cert.Unif.unif (F := Ideal) (drawWord (BitVec.ofNat 32 (i * 1024 + (32 * j.val + q.val))))

/-- A block of the result, from a block of logits whose row lies below `+∞`. -/
theorem blockOf_at (x : FVec Ideal S256x1024 .f32) (g : grid0.Coords) (r : Fin 256) (j k : Fin 32)
    (hx : ∀ l, (x (ix2 r l) : EReal) < ⊤) :
    (blockOf (F := Ideal) x g (ix3 r j k) : EReal)
      = mark (fun q => x (ix2 r (lane j q))) (fun q => draw (256 * (g 0).val + r.val) j q) k := by
  have hf := fun q => flat_at x (k0_pay44 466689008#32 (statesA g) (statesB g) 16#32)
    (k0_pay45 466689008#32 (statesA g) (statesB g) 16#32) (k0_pay2 (F := Ideal)) seg_at
    (fun q => drawWord (BitVec.ofNat 32 ((256 * (g 0).val + r.val) * 1024 + (32 * j.val + q.val)))) r j q hx
    (fun q => bits_at g (ix2 r (lane j q)) _ (pay3_at g r (lane j q)))
  rw [blockOf, pay46_eq, win_at]
  simp only [cast_at, hf]
  rfl

end Cert.KernelIdeal.Value
-- ==== Proof.KernelArray.lean ====
/- The kernel's whole result. -/
module

public import proofs.«01_k».proof.Proof.KernelBlock

@[expose] public section

set_option maxRecDepth 16384

noncomputable section

namespace Cert.KernelIdeal.Value

open Cert.KernelIdeal Cert.KernelIdeal.Gen Idealize.ShloMosaic Idealize.ShloMosaic.TcCoe Idealize.SL.Sem

/-- The result from the whole array of logits: one at each group's winner of the race, zero elsewhere. -/
def marks (v : FVec Ideal S4096x1024 .f32) : FVec Ideal S4096x32x32 .f32 := fun i =>
  mark (fun q => v (ix2 (i 0) (lane (i 1) q))) (fun q => draw (i 0).val (i 1) q) (i 2)

/-- The block numbers of the two windows at each point of the grid. -/
theorem idx : ∀ t : Fin cfg0.N, win0_0.index t = ![t.val, 0] ∧ win0_1.index t = ![t.val, 0, 0] ∧ (grid0.coords t 0).val = t.val :=
  (by decide +kernel : ∀ t : Fin grid0.N, win0_0.index t = ![t.val, 0] ∧ win0_1.index t = ![t.val, 0, 0] ∧ (grid0.coords t 0).val = t.val)

variable (m : (ℓ : Loc nD τ sig) → Buf (Elt Ideal) ℓ)

/-- A block of logits at a row and a lane. -/
theorem logit_at (c : Dev nD) (v : FVec Ideal S4096x1024 .f32) (hv : m ((c : Thread nD τ).loc main_arg0) = v) (t : Fin cfg0.N)
    (r : Fin 256) (l : Fin 1024) (i : Fin 4096) (hi : i.val = 256 * t.val + r.val) :
    (iblk m c 0 t : FVec Ideal S256x1024 .f32) (ix2 r l) = v (ix2 i l) := by
  subst hv
  blk_ext [iblk, V, idx t]

/-- The place in the result of an entry of a block. -/
theorem place (t : Fin cfg0.N) (r : Fin 256) (j k : Fin 32) (i : Fin 4096) (hi : i.val = 256 * t.val + r.val) :
    (((cfg0.win 1).blk t).view.emb (ix3 r j k) : S4096x32x32.Idx) = ix3 i j k := by
  blk_ext [idx t]

/-- The array the kernel leaves, where every logit lies below `+∞`. -/
theorem array (c : Dev nD) (v : FVec Ideal S4096x1024 .f32) (hv : m ((c : Thread nD τ).loc main_arg0) = v)
    (hx : ∀ i, (v i : EReal) < ⊤) : (dats m 0 c).arrAt 1 (cfgs 0).N = marks v := by
  refine (dats m 0 c).arrAt_eq_of_covers 1 _ (by decide +kernel) fun t _ y => ?_
  blk_simp
  rw [after0_1, block]
  have hN : t.val < 16 := lt_of_lt_of_eq t.isLt (show cfg0.N = 16 from N_0)
  obtain ⟨r, j, k, rfl⟩ : ∃ (r : Fin 256) (j k : Fin 32), y = (ix3 r j k : S256x32x32.Idx) :=
    ⟨y 0, y 1, y 2, by blk_ext []⟩
  have hi : (⟨256 * t.val + r.val, by omega⟩ : Fin 4096).val = 256 * t.val + r.val := rfl
  generalize (⟨256 * t.val + r.val, by omega⟩ : Fin 4096) = i at hi
  refine (blockOf_at (iblk m c 0 t) (grid0.coords t) r j k fun l => ?_).trans ?_
  · rw [logit_at m c v hv t r l i hi]
    exact hx _
  · refine Eq.trans ?_ (congrArg (marks v) (place t r j k i hi)).symm
    rw [(idx t).2.2, ← hi]
    simp only [logit_at m c v hv t r _ i hi]
    rfl

end Cert.KernelIdeal.Value
-- ==== Proof.PreWords.lean ====
/- The host's hash, read at one index. -/
module

public import proofs.«01_k».proof.Proof.Words
public import Idealize.ShloMosaic.Lib.Tactic
public import proofs.«01_k».proof.Pre_one_winner

@[expose] public section

noncomputable section

namespace Cert.Pre_one_winner

open Idealize.ShloMosaic Idealize.ShloMosaic.Tactic Cert.Words

variable {F : FTy → Type} [FloatOps F] [Facts]

/-- The second word of the host's hash at an index is the hash of the words there. -/
theorem hash_snd (a b : BitVec 32) (hi lo : IVec S4096x32x32 32) (i : S4096x32x32.Idx) :
    (fn_threefry2x32 (F := F) (fun _ => a) (fun _ => b) hi lo).2 i = (hash a b (hi i) (lo i)).2 := by
  sl_kernel_rfl
/-- The first word of the host's hash at an index is the hash of the words there. -/
theorem hash_fst (a b : BitVec 32) (hi lo : IVec S4096x32x32 32) (i : S4096x32x32.Idx) :
    (fn_threefry2x32 (F := F) (fun _ => a) (fun _ => b) hi lo).1 i = (hash a b (hi i) (lo i)).1 := by
  rfl

end Cert.Pre_one_winner
-- ==== Proof.Reads.lean ====
/- Reading the host's operations on a [4096, 32, 32] array at one index: a row's value spread over its group, a group's
   largest entry, a group's sum. -/
module

public import Idealize.ShloMosaic.Lib.Pointwise
public import Idealize.ShloMosaic.Lib.IdealHost

@[expose] public section

noncomputable section

namespace Cert.Reads

open Idealize.ShloMosaic

/-- The batch of groups: 4096 rows of 32 groups of 32 classes. -/
abbrev S3 : Shape := ⟨3, ![4096, 32, 32]⟩
/-- One value for each group. -/
abbrev S2 : Shape := ⟨2, ![4096, 32]⟩
/-- One value for each group, with a class axis of length one. -/
abbrev S1 : Shape := ⟨3, ![4096, 32, 1]⟩

/-- A value of each group, given a class axis and spread over it, reads at a class the group's value. -/
theorem spread_at {α : Type} (h : S2.BroadcastsInDim S1 ![0, 1]) (h' : S1.BroadcastsInDim S3 ![0, 1, 2])
    (y : S2.Idx → α) (i : Fin 4096) (j k : Fin 32) :
    broadcastInDim S3 ![0, 1, 2] h' (broadcastInDim S1 ![0, 1] h y) (ix3 i j k) = y (ix2 i j) := by
  unfold broadcastInDim
  refine congrArg y (funext fun a => ?_)
  match a with
  | ⟨0, _⟩ => rfl
  | ⟨1, _⟩ => rfl

/-- The last axis of the three is the one a reduction over it leaves out. -/
theorem reduces : S3.Reduces [2] S2 := by decide

/-- A group's index with a class put back is the entry's index. -/
theorem lift_eq (i : Fin 4096) (j k : Fin 32) : reduces.lift (ix2 i j) k = ix3 i j k := by
  funext a
  match a with
  | ⟨0, _⟩ => rfl
  | ⟨1, _⟩ => rfl
  | ⟨2, _⟩ => rfl

/-- The host's largest entry of each group, read at a group. -/
theorem max_at {u : Shape} (x : FVec Ideal S3 .f32) (init : FVec Ideal u .f32) (h : S3.ReducesTo [2] S2) (hu : 0 < u.numel)
    (i : Fin 4096) (j : Fin 32) :
    Host.reduce (FloatOps.maximumf (F := Ideal) (φ := .f32)) x init h hu (ix2 i j)
      = (Finset.univ : Finset (Fin 32)).fold max (init (Shape.Idx.first hu)) fun k => x (ix3 i j k) := by
  rw [Host.reduce_eq_fold_single (FloatOps.maximumf (F := Ideal) (φ := .f32)) x init h reduces hu]
  refine congrArg (Finset.fold _ _ · _) (funext fun k => ?_)
  exact congrArg x (lift_eq i j k)

/-- The host's sum of each group, read at a group. -/
theorem sum_at {u : Shape} (x : FVec Ideal S3 .f32) (init : FVec Ideal u .f32) (h : S3.ReducesTo [2] S2) (hu : 0 < u.numel)
    (i : Fin 4096) (j : Fin 32) :
    (Host.reduceAdd x init h hu (ix2 i j) : EReal)
      = init (Shape.Idx.first hu) + ∑ k : Fin 32, x (ix3 i j k) := by
  show Ideal.hostReduceAdd h x (init (Shape.Idx.first hu)) (ix2 i j) = _
  refine (Ideal.hostReduceAdd_single h reduces x _ _).trans (congrArg (_ + ·) (Finset.sum_congr rfl fun k _ => ?_))
  exact congrArg x (lift_eq i j k)

end Cert.Reads
-- ==== Proof.RefRead.lean ====
/- The reference's arrays and the precondition, read at one entry. -/
module

public import proofs.«01_k».proof.Proof.PreForm
public import proofs.«01_k».proof.Proof.PreWords
public import proofs.«01_k».proof.Proof.Reads
public import proofs.«01_k».proof.Proof.Bits
public import proofs.«01_k».proof.Proof.Unif
public import proofs.«01_k».proof.Proof.Race

@[expose] public section

noncomputable section

namespace Cert.Pre_one_winner

open Idealize.ShloMosaic Idealize.ShloMosaic.TcCoe Cert.Words Facts

section general
variable {F : FTy → Type} [FloatOps F] [Facts]

/-- The number of an entry in the whole array, as the host counts: a word of 64 bits. -/
def count (i : Fin 4096) (j k : Fin 32) : BitVec 64 :=
  1024#64 * BitVec.ofNat 64 i.val + 32#64 * BitVec.ofNat 64 j.val + 1#64 * BitVec.ofNat 64 k.val

/-- The key's two words. -/
theorem key_words : (key (ix1 0) = 0#32) ∧ key (ix1 1) = 42#32 := by
  unfold key
  constructor <;> pointwise <;> rfl

/-- The first word, as the generator reads it. -/
theorem key_fst : (shapeCast S_ ((extractStridedSlice S1 ![0] · slices_S2_S1_0) key) shapeCasts_S1_S_ : IVec S_ 32) = fun _ => 0#32 := by
  funext i
  show extractStridedSlice S1 ![0] key slices_S2_S1_0 (Shape.reshapeEquiv shapeCasts_S1_S_ i) = _
  generalize Shape.reshapeEquiv shapeCasts_S1_S_ i = q
  have hq : q = ix1 0 := funext fun a => Fin.ext (by
    match a with
    | ⟨0, h⟩ => exact Nat.lt_one_iff.1 (q ⟨0, h⟩).isLt)
  rw [hq, ← key_words.1]
  exact congrArg key (funext fun a => by
    match a with
    | ⟨0, _⟩ => rfl)

/-- The second word, as the generator reads it. -/
theorem key_snd : (shapeCast S_ ((extractStridedSlice S1 ![1] · slices_S2_S1_1) key) shapeCasts_S1_S_ : IVec S_ 32) = fun _ => 42#32 := by
  funext i
  show extractStridedSlice S1 ![1] key slices_S2_S1_1 (Shape.reshapeEquiv shapeCasts_S1_S_ i) = _
  generalize Shape.reshapeEquiv shapeCasts_S1_S_ i = q
  have hq : q = ix1 0 := funext fun a => Fin.ext (by
    match a with
    | ⟨0, h⟩ => exact Nat.lt_one_iff.1 (q ⟨0, h⟩).isLt)
  rw [hq, ← key_words.2]
  exact congrArg key (funext fun a => by
    match a with
    | ⟨0, _⟩ => rfl)

/-- The generator's last part at an entry, from the two counter arrays. -/
theorem uniform_part_at (a b : BitVec 32) (n m : IVec S4096x32x32 64) (i : Fin 4096) (j k : Fin 32) :
    fn_uniform_part1 (F := F) (broadcastInDim S1x1x1 ![] bcast_S_S1x1x1 (constant S_ .f32 0x00800000#32))
        (broadcastInDim S1x1x1 ![] bcast_S_S1x1x1 (constant S_ .f32 0x3F800000#32)) (fun _ => a) (fun _ => b) n m (ix3 i j k)
      = Cert.Unif.unif ((hash a b ((m (ix3 i j k)).setWidth 32) ((n (ix3 i j k)).setWidth 32)).1
          ^^^ (hash a b ((m (ix3 i j k)).setWidth 32) ((n (ix3 i j k)).setWidth 32)).2) := by
  have h1 : ∀ hi lo : IVec S4096x32x32 32, (fn_threefry2x32 (F := F) (fun _ => a) (fun _ => b) hi lo).1 = fun i => (hash a b (hi i) (lo i)).1 :=
    fun hi lo => funext fun i => hash_fst a b hi lo i
  have h2 : ∀ hi lo : IVec S4096x32x32 32, (fn_threefry2x32 (F := F) (fun _ => a) (fun _ => b) hi lo).2 = fun i => (hash a b (hi i) (lo i)).2 :=
    fun hi lo => funext fun i => hash_snd a b hi lo i
  unfold fn_uniform_part1
  simp only [h1, h2]
  rfl

/-- The uniform variates under this key, at an entry: the variate of the two hashed words' exclusive or. -/
theorem uniform_at (i : Fin 4096) (j k : Fin 32) :
    fn_uniform (F := F) key (constant S_ .f32 0x3F800000#32) (constant S_ .f32 0x00800000#32) (ix3 i j k)
      = Cert.Unif.unif ((hash 0 42 ((count i j k >>> 32#64).setWidth 32) ((count i j k).setWidth 32)).1
          ^^^ (hash 0 42 ((count i j k >>> 32#64).setWidth 32) ((count i j k).setWidth 32)).2) := by
  unfold fn_uniform
  simp only []
  rw [key_fst, key_snd]
  exact uniform_part_at 0#32 42#32 _ _ i j k

/-- A Gumbel variate at an entry. -/
theorem gumbel_at (i : Fin 4096) (j k : Fin 32) :
    fn_gumbel (F := F) key (ix3 i j k)
      = FloatOps.hostNegf (FloatOps.hostUnary .log (FloatOps.hostNegf (FloatOps.hostUnary .log
          (fn_uniform (F := F) key (constant S_ .f32 0x3F800000#32) (constant S_ .f32 0x00800000#32) (ix3 i j k))))) := by
  rfl

/-- The counter's two halves: the upper is zero, the lower the entry's row-major number. -/
theorem count_halves (i : Fin 4096) (j k : Fin 32) :
    (count i j k >>> 32#64).setWidth 32 = 0#32 ∧ (count i j k).setWidth 32 = BitVec.ofNat 32 (i.val * 1024 + (32 * j.val + k.val)) := by
  have hi := i.isLt
  have hj := j.isLt
  have hk := k.isLt
  have h : (count i j k).toNat = i.val * 1024 + (32 * j.val + k.val) := by
    simp only [count, BitVec.toNat_add, BitVec.toNat_mul, BitVec.toNat_ofNat]
    omega
  constructor
  · apply BitVec.eq_of_toNat_eq
    simp only [BitVec.toNat_setWidth, BitVec.toNat_ofNat, BitVec.ushiftRight_eq', BitVec.toNat_ushiftRight, h, Nat.shiftRight_eq_div_pow]
    rw [show 2 ^ (32 % 2 ^ 64) = 4294967296 from rfl, Nat.div_eq_of_lt (by omega)]
  · apply BitVec.eq_of_toNat_eq
    simp only [BitVec.toNat_setWidth, BitVec.toNat_ofNat, h]

/-- An exponential at an entry, with the group's largest logit standing. -/
theorem exps_read (x : FVec F S4096x32x32 .f32) (i : Fin 4096) (j k : Fin 32) :
    expsOf x (ix3 i j k) = FloatOps.hostUnary .exp (FloatOps.subf (x (ix3 i j k)) (FloatOps.maximumf (FloatOps.ofBits .f32 0xFF800000#32)
      (Host.reduce FloatOps.maximumf x (constant S_ .f32 0xFF800000#32) reducesTo_S4096x32x32_S4096x32_d2 h_S_ (ix2 i j)))) := by
  unfold expsOf
  exact congrArg (fun z => FloatOps.hostUnary .exp (FloatOps.subf (x (ix3 i j k)) z)) (Cert.Reads.spread_at _ _ _ i j k)

/-- A probability at an entry, with the group's sum standing. -/
theorem probs_read (x : FVec F S4096x32x32 .f32) (i : Fin 4096) (j k : Fin 32) :
    probsOf x (ix3 i j k) = FloatOps.addf (FloatOps.hostDivf (FloatOps.mulf (FloatOps.ofBits .f32 0x3C23D70A#32) (FloatOps.ofBits .f32 0x3F800000#32)) (FloatOps.ofBits .f32 0x42000000#32))
      (FloatOps.mulf (FloatOps.ofBits .f32 0x3F7D70A4#32) (FloatOps.hostDivf (expsOf x (ix3 i j k))
        (Host.reduceAdd (expsOf x) (constant S_ .f32 0x00000000#32) reducesTo_S4096x32x32_S4096x32_d2 h_S_ (ix2 i j)))) := by
  unfold probsOf
  exact congrArg (fun z => FloatOps.addf (FloatOps.hostDivf (FloatOps.mulf (FloatOps.ofBits .f32 0x3C23D70A#32) (FloatOps.ofBits .f32 0x3F800000#32)) (FloatOps.ofBits .f32 0x42000000#32))
    (FloatOps.mulf (FloatOps.ofBits .f32 0x3F7D70A4#32) (FloatOps.hostDivf (expsOf x (ix3 i j k)) z))) (Cert.Reads.spread_at _ _ _ i j k)

/-- A score at an entry. -/
theorem scores_read (x : FVec F S4096x32x32 .f32) (i : Fin 4096) (j k : Fin 32) :
    scoresOf x (ix3 i j k) = FloatOps.addf (fn_gumbel (F := F) key (ix3 i j k)) (FloatOps.hostUnary .log (probsOf x (ix3 i j k))) := by
  rfl

/-- The one-hot row at an entry: whether the group's word is the class's number. -/
theorem one_hot_read (a : IVec S4096x32 32) (i : Fin 4096) (j k : Fin 32) :
    fn_one_hot (F := F) a (ix3 i j k) = FloatOps.uitofp .f32 (BitVec.ofBool (a (ix2 i j) == BitVec.ofNat 32 k.val)) := by
  unfold fn_one_hot
  exact congrArg (fun z : BitVec 32 => FloatOps.uitofp (F := F) .f32 (BitVec.ofBool (z == BitVec.ofNat 32 k.val))) (Cert.Reads.spread_at _ _ a i j k)

/-- The precondition's last part at an entry, with the groups' largest scores standing. -/
theorem part2_read (s : FVec F S4096x32x32 .f32) (b : IVec S4096x32x32 1) (t : FVec F S4096x32 .f32) (i : Fin 4096) (j k : Fin 32) :
    fn_part2 (F := F) s b (broadcastInDim S4096x32x1 ![0, 1] bcast_S4096x32_S4096x32x1_0_1 t) (ix3 i j k)
      = b (ix3 i j k) ||| FloatOps.cmpf .olt (s (ix3 i j k)) (t (ix2 i j)) := by
  have h1 := Cert.Reads.spread_at bcast_S4096x32_S4096x32x1_0_1 bcast_S4096x32x1_S4096x32x32_0_1_2 t i j k
  rw [← h1]
  rfl

end general

end Cert.Pre_one_winner
-- ==== Proof.RefIdeal.lean ====
/- The reference's probabilities, scores and winners at an entry, and the precondition there, at the ideal values. -/
module

public import proofs.«01_k».proof.Proof.RefRead

@[expose] public section

noncomputable section

namespace Cert.Pre_one_winner

open Idealize.ShloMosaic Idealize.ShloMosaic.TcCoe Cert.Words Facts

variable [Facts]

/-- The uniform variate of an entry. -/
def variate (i : Fin 4096) (j k : Fin 32) : EReal :=
  Cert.Unif.unif (F := Ideal) ((hash 0 42 0 (BitVec.ofNat 32 (i.val * 1024 + (32 * j.val + k.val)))).1
    ^^^ (hash 0 42 0 (BitVec.ofNat 32 (i.val * 1024 + (32 * j.val + k.val)))).2)

/-- A probability at an entry. -/
theorem probs_at (x : FVec Ideal S4096x32x32 .f32) (i : Fin 4096) (j k : Fin 32) :
    (probsOf x (ix3 i j k) : EReal) = Cert.Race.prob (fun q => x (ix3 i j q)) k := by
  have he : ∀ q, (expsOf x (ix3 i j q) : EReal) = Ideal.exp (x (ix3 i j q) - Cert.Race.top fun q => x (ix3 i j q)) := by
    intro q
    rw [exps_read, Cert.Reads.max_at]
    show Ideal.exp (x (ix3 i j q) - max (Ideal.ofBits .f32 0xFF800000#32) (Finset.univ.fold max (Ideal.ofBits .f32 0xFF800000#32) fun k => x (ix3 i j k))) = _
    rw [Cert.Bits.ofBits_bot]
    rfl
  rw [probs_read, Cert.Reads.sum_at]
  simp only [he]
  show Ideal.div (Ideal.ofBits .f32 0x3C23D70A#32 * Ideal.ofBits .f32 0x3F800000#32) (Ideal.ofBits .f32 0x42000000#32)
    + Cert.Race.keep * Ideal.div (Ideal.exp (x (ix3 i j k) - Cert.Race.top fun q => x (ix3 i j q)))
      (Ideal.ofBits .f32 0x00000000#32 + ∑ q, Ideal.exp (x (ix3 i j q) - Cert.Race.top fun q => x (ix3 i j q))) = _
  rw [Ideal.ofBits_zero_f32]
  rfl

/-- A score at an entry. -/
theorem scores_at (x : FVec Ideal S4096x32x32 .f32) (i : Fin 4096) (j k : Fin 32) :
    (scoresOf x (ix3 i j k) : EReal) = Cert.Race.score (fun q => x (ix3 i j q)) (fun q => variate i j q) k := by
  rw [scores_read, probs_at, gumbel_at, uniform_at, (count_halves i j k).1, (count_halves i j k).2]
  rfl

/-- A winner's entry: one where the group's word is the class's number, zero elsewhere. -/
theorem winners_at (x : FVec Ideal S4096x32x32 .f32) (i : Fin 4096) (j k : Fin 32) :
    (winnersOf x (ix3 i j k) : EReal) = if fn_argmax (F := Ideal) (scoresOf x) (ix2 i j) = BitVec.ofNat 32 k.val then 1 else 0 := by
  unfold winnersOf
  rw [one_hot_read, Cert.Bits.unsigned_bit]
  simp only [beq_iff_eq]

/-- The precondition at an entry: the class wins or its score lies below the group's largest. -/
theorem wins_at (v : FVec Ideal S4096x1024 .f32) (h : fn (F := Ideal) v = fun _ => 1#1) (i : Fin 4096) (j k : Fin 32) :
    fn_argmax (F := Ideal) (scoresOf (groups v)) (ix2 i j) = BitVec.ofNat 32 k.val
      ∨ (scoresOf (groups v) (ix3 i j k) : EReal) < (Finset.univ : Finset (Fin 32)).fold max (⊥ : EReal) (fun q => scoresOf (groups v) (ix3 i j q)) := by
  have h1 := congrFun h (ix3 i j k)
  rw [fn_eq, part2_read, Cert.Reads.max_at] at h1
  have h2 : BitVec.ofBool (decide ((winnersOf (groups v) (ix3 i j k) : EReal) = Ideal.ofBits .f32 0x3F800000#32))
        ||| BitVec.ofBool (decide ((scoresOf (groups v) (ix3 i j k) : EReal) < (Finset.univ : Finset (Fin 32)).fold max (Ideal.ofBits .f32 0xFF800000#32) (fun q => (scoresOf (groups v) (ix3 i j q) : EReal)))) = 1#1 := h1
  rw [Cert.Bits.ofBits_bot, Cert.Unif.ofBits_one, winners_at, BitVec.ofBool_or_ofBool] at h2
  have h3 : ∀ p : Bool, BitVec.ofBool p = 1#1 → p = true := by decide
  have h4 := h3 _ h2
  simp only [Bool.or_eq_true, decide_eq_true_eq] at h4
  refine h4.imp (fun e => ?_) id
  by_contra hne
  rw [if_neg hne] at e
  exact zero_ne_one (e.trans EReal.coe_one)

/-- Under the precondition one score of each group lies above `-∞`: of two classes one is not the winner, and its score lies
    below the group's largest. -/
theorem score_above (v : FVec Ideal S4096x1024 .f32) (h : fn (F := Ideal) v = fun _ => 1#1) (i : Fin 4096) (j : Fin 32) :
    ∃ q : Fin 32, (scoresOf (groups v) (ix3 i j q) : EReal) ≠ ⊥ := by
  by_contra hall
  push Not at hall
  have hmax : ((Finset.univ : Finset (Fin 32)).fold max (⊥ : EReal) (fun q => (scoresOf (groups v) (ix3 i j q) : EReal))) = ⊥ :=
    le_bot_iff.1 ((Finset.fold_max_le _).2 ⟨le_rfl, fun q _ => (hall q).le⟩)
  have hw : ∀ k : Fin 32, fn_argmax (F := Ideal) (scoresOf (groups v)) (ix2 i j) = BitVec.ofNat 32 k.val := fun k =>
    (wins_at v h i j k).resolve_right (by rw [hmax]; exact not_lt_bot)
  exact absurd ((hw 0).symm.trans (hw 1)) (by decide)

/-- Under the precondition every logit of a group lies below `+∞` and the largest above `-∞`. -/
theorem proper_at (v : FVec Ideal S4096x1024 .f32) (h : fn (F := Ideal) v = fun _ => 1#1) (i : Fin 4096) (j : Fin 32) :
    (∀ k, (groups v (ix3 i j k) : EReal) < ⊤)
      ∧ ⊥ < (Finset.univ : Finset (Fin 32)).fold max (⊥ : EReal) (fun q => groups v (ix3 i j q)) := by
  obtain ⟨q, hq⟩ := score_above v h i j
  rw [scores_at] at hq
  exact Cert.Race.proper _ _ q hq

end Cert.Pre_one_winner
-- ==== Proof.Equation.lean ====
/- The kernel's array is the reference's, under the precondition. -/
module

public import proofs.«01_k».proof.Proof.KernelArray
public import proofs.«01_k».proof.Proof.RefIdeal

@[expose] public section

noncomputable section

namespace Cert.Equation

open Idealize.ShloMosaic Idealize.ShloMosaic.TcCoe Cert.Pre_one_winner

variable [Cert.Pre_one_winner.Facts]

/-- The reference's array: the winners with the probabilities added and taken away. -/
def passed {F : FTy → Type} [FloatOps F] (x : FVec F S4096x32x32 .f32) : FVec F S4096x32x32 .f32 :=
  subf (addf (winnersOf x) (probsOf x)) (probsOf x)

/-- A class of a group is a lane of its row. -/
theorem groups_at (v : FVec Ideal S4096x1024 .f32) (i : Fin 4096) (j k : Fin 32) :
    groups v (ix3 i j k) = v (ix2 i (Cert.KernelIdeal.Value.lane j k)) := by
  unfold groups
  pointwise
  refine congrArg (fun l => v (ix2 i l)) (Fin.ext ?_)
  simp only [Cert.KernelIdeal.Value.lane]
  omega

/-- The uniform variates are real and lie strictly between zero and one. -/
theorem variate_real (i : Fin 4096) (j k : Fin 32) : ∃ r : ℝ, 0 < r ∧ r < 1 ∧ variate i j k = (r : EReal) :=
  Cert.Unif.unif_real _

/-- Every logit lies below `+∞`. -/
theorem below (v : FVec Ideal S4096x1024 .f32) (h : fn (F := Ideal) v = fun _ => 1#1) (i : S4096x1024.Idx) : (v i : EReal) < ⊤ := by
  obtain ⟨a, b, rfl⟩ : ∃ (a : Fin 4096) (b : Fin 1024), i = (ix2 a b : S4096x1024.Idx) := ⟨i 0, i 1, by blk_ext []⟩
  have hb : b = Cert.KernelIdeal.Value.lane ⟨b.val / 32, by omega⟩ ⟨b.val % 32, by omega⟩ :=
    Fin.ext (by simp only [Cert.KernelIdeal.Value.lane]; omega)
  rw [hb, ← groups_at v]
  exact (proper_at v h a _).1 _

/-- The group's word is a class's number exactly when that class's score is the group's largest. -/
theorem word_iff (v : FVec Ideal S4096x1024 .f32) (h : fn (F := Ideal) v = fun _ => 1#1) (i : Fin 4096) (j k : Fin 32) :
    fn_argmax (F := Ideal) (scoresOf (groups v)) (ix2 i j) = BitVec.ofNat 32 k.val
      ↔ (scoresOf (groups v) (ix3 i j k) : EReal)
        = (Finset.univ : Finset (Fin 32)).fold max (⊥ : EReal) (fun q => scoresOf (groups v) (ix3 i j q)) := by
  have hback : ∀ q : Fin 32, (scoresOf (groups v) (ix3 i j q) : EReal)
        = (Finset.univ : Finset (Fin 32)).fold max (⊥ : EReal) (fun q => scoresOf (groups v) (ix3 i j q))
      → fn_argmax (F := Ideal) (scoresOf (groups v)) (ix2 i j) = BitVec.ofNat 32 q.val :=
    fun q hq => (wins_at v h i j q).resolve_right (by rw [← hq]; exact lt_irrefl _)
  refine ⟨fun hk => ?_, hback k⟩
  obtain ⟨q, -, hq⟩ := Finset.exists_max_image (Finset.univ : Finset (Fin 32)) (fun q => (scoresOf (groups v) (ix3 i j q) : EReal)) Finset.univ_nonempty
  have hmax := (Cert.Race.eq_fold_max (fun q => (scoresOf (groups v) (ix3 i j q) : EReal)) q).2 fun l => hq l (Finset.mem_univ _)
  have hqk : q = k := by
    have e := (hback q hmax).symm.trans hk
    have e' := congrArg BitVec.toNat e
    simp only [BitVec.toNat_ofNat] at e'
    exact Fin.ext (by omega)
  rw [← hqk]
  exact hmax

/-- The kernel's array, under the precondition, is the reference's. -/
theorem marks_eq (v : FVec Ideal S4096x1024 .f32) (h : fn (F := Ideal) v = fun _ => 1#1) :
    Cert.KernelIdeal.Value.marks v = passed (groups v) := by
  funext i
  obtain ⟨i, j, k, rfl⟩ : ∃ (a : Fin 4096) (b c : Fin 32), i = (ix3 a b c : S4096x32x32.Idx) := ⟨i 0, i 1, i 2, by blk_ext []⟩
  set x : Fin 32 → EReal := fun q => groups v (ix3 i j q) with hx
  set u : Fin 32 → EReal := fun q => variate i j q with hu
  have hl : (Cert.KernelIdeal.Value.marks v (ix3 i j k) : EReal) = Cert.KernelIdeal.Value.mark x u k := by
    simp only [hx, groups_at]
    rfl
  have h1 : ∀ q, x q < ⊤ := (proper_at v h i j).1
  have h2 : ⊥ < (Finset.univ : Finset (Fin 32)).fold max (⊥ : EReal) x := (proper_at v h i j).2
  have h3 : ∀ q, ∃ r : ℝ, 0 < r ∧ r < 1 ∧ u q = (r : EReal) := fun q => variate_real i j q
  have hw : (winnersOf (groups v) (ix3 i j k) : EReal) = Cert.KernelIdeal.Value.mark x u k := by
    rw [winners_at, Cert.KernelIdeal.Value.mark]
    refine if_congr ((word_iff v h i j k).trans ?_) rfl rfl
    simp only [scores_at]
    exact (Cert.Race.race_iff x u h1 h2 h3 k).symm
  have hr : ∃ a : ℝ, Cert.KernelIdeal.Value.mark x u k = (a : EReal) := by
    unfold Cert.KernelIdeal.Value.mark
    split
    · exact ⟨1, rfl⟩
    · exact ⟨0, rfl⟩
  obtain ⟨a, ha⟩ := hr
  have hp : (passed (groups v) (ix3 i j k) : EReal)
      = winnersOf (groups v) (ix3 i j k) + probsOf (groups v) (ix3 i j k) - probsOf (groups v) (ix3 i j k) := rfl
  refine hl.trans (Eq.trans ?_ hp.symm)
  rw [hw, probs_at, ha]
  exact (Cert.Race.add_sub_prob x u h1 h2 h3 k a).symm

end Cert.Equation
-- ==== Proof.RefResult.lean ====
/- The reference's run, its result as a function of the batch of groups. -/
module

public import proofs.«01_k».proof.Proof.PreForm
public import proofs.«01_k».proof.Proof.Equation

@[expose] public section

noncomputable section

namespace Cert.ReferenceIdeal.Value

open Idealize.ShloMosaic Idealize.ShloMosaic.TcCoe Idealize.SL.Sem Cert.ReferenceIdeal Cert.ReferenceIdeal.Gen
open Idealize.ShloMosaic.StableHlo

variable {F : FTy → Type} [FloatOps F] [Cert.Pre_one_winner.Facts]

/-- The reference's one-hot rows, from any scores. -/
theorem hot_eq (s : FVec F S4096x32x32 .f32) (V0 : Valuation τ sig (Elt F)) :
    (uitofp .f32 (cmpi .eq (broadcastInDim S4096x32x32 ![0, 1, 2] bcast_S4096x32x1_S4096x32x32_0_1_2 (broadcastInDim S4096x32x1 ![0, 1] bcast_S4096x32_S4096x32x1_0_1 (fun j => (Host.argReduce reducer_argmax_f32_i32 s (res_main_call1_v0 V0) (res_main_call1_cst V0) (res_main_call1_c V0) reducesTo_S4096x32x32_S4096x32_d2 h_S_ j).2))) (broadcastInDim S4096x32x32 ![0, 1, 2] bcast_S1x1x32_S4096x32x32_0_1_2 (iotaInDim S1x1x32 32 2))) : FVec F S4096x32x32 .f32)
      = Cert.Pre_one_winner.fn_one_hot (F := F) (Cert.Pre_one_winner.fn_argmax (F := F) s) := by
  rfl

/-- The reference runs: its result is the winners with the probabilities added and taken away, its argument stays. -/
theorem run_passed (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
        = Cert.Equation.passed (Cert.Pre_one_winner.groups (m ((c.tc : Thread nD τ).loc main_arg0)))
      ∧ r.2.mem ((c.tc : Thread nD τ).loc main_arg0) = m ((c.tc : Thread nD τ).loc main_arg0) :=
  (θ_run defs _ _).mono (fun _ h c => ⟨(h c).1.trans (by
      rw [hot_eq, scores_eq, probs_eq, launchContents_devRef]
      rfl), (h c).2⟩) (run m ρ)

end Cert.ReferenceIdeal.Value
-- ==== Proof.lean ====
/- The proof of every claim of the certificate: the three programs run, keep their argument and end with their counters at
   zero; and the kernel's result is the reference's wherever every group has one winner. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_one_winner
public import proofs.«01_k».proof.Proof.RefResult
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its argument, and ends with its counters at zero. -/
theorem reference_frame [Cert.Pre_one_winner.Facts] (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, sem_eq_zero_of_no_sems (by decide) r.2⟩)
    (Cert.ReferenceIdeal.Value.run_passed m g)

/-- The kernel's result and the reference's are one array wherever every group has one winner. -/
theorem equal [Cert.Pre_one_winner.Facts] :
    algebraic_KernelIdeal_ReferenceIdeal_pre_one_winner := by
  intro m g m' g' hpre hagree
  refine ⟨fun c => (Cert.KernelIdeal.Gen.dats m 0 c).arrAt 1 Cert.KernelIdeal.cfg0.N, Cert.KernelIdeal.Value.run_blocks m g, ?_⟩
  refine (θ_run _ _ _).mono (fun r h c => ⟨(h c).1.trans ?_, (h c).2⟩) (Cert.ReferenceIdeal.Value.run_passed m' g')
  have hk := Cert.KernelIdeal.Value.array m c _ rfl (Cert.Equation.below _ (hpre c))
  have he := Cert.Equation.marks_eq _ (hpre c)
  refine (congrArg (fun v => Cert.Equation.passed (Cert.Pre_one_winner.groups v)) (hagree c)).trans ?_
  exact he.symm.trans hk.symm

/-- Every claim of the certificate. -/
theorem claim : Cert.Claim :=
  ⟨Cert.Kernel.Gen.facts, Cert.KernelIdeal.Gen.facts, Cert.ReferenceIdeal.Gen.facts, Cert.Pre_one_winner.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, equal⟩

end Cert.Proof

end
